-- ==== Defs.lean ====
def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnRefIdeal (m : (ℓ : Loc Cert.XattnRefIdeal.nD Cert.XattnRefIdeal.τ Cert.XattnRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Gdn (m : (ℓ : Loc Cert.Gdn.nD Cert.Gdn.τ Cert.Gdn.sig) → Buf (Elt Bits) ℓ) : Prop :=
  True

def Pre_GdnIdeal (m : (ℓ : Loc Cert.GdnIdeal.nD Cert.GdnIdeal.τ Cert.GdnIdeal.sig) → Buf (Elt Ideal) ℓ) : Prop :=
  True

def Pre_GdnIdeal_finite [hPre_finite : Cert.Pre_finite.Facts] (m : (ℓ : Loc Cert.GdnIdeal.nD Cert.GdnIdeal.τ Cert.GdnIdeal.sig) → Buf (Elt Ideal) ℓ) : Prop :=
  ∀ c : Dev Cert.GdnIdeal.nD,
    (Cert.Pre_finite.fn (F := Ideal) (m ((c.tc : Thread Cert.GdnIdeal.nD Cert.GdnIdeal.τ).loc Cert.GdnIdeal.main_arg0)) (m ((c.tc : Thread Cert.GdnIdeal.nD Cert.GdnIdeal.τ).loc Cert.GdnIdeal.main_arg1)) (m ((c.tc : Thread Cert.GdnIdeal.nD Cert.GdnIdeal.τ).loc Cert.GdnIdeal.main_arg2)) (m ((c.tc : Thread Cert.GdnIdeal.nD Cert.GdnIdeal.τ).loc Cert.GdnIdeal.main_arg3)) (m ((c.tc : Thread Cert.GdnIdeal.nD Cert.GdnIdeal.τ).loc Cert.GdnIdeal.main_arg4)) (m ((c.tc : Thread Cert.GdnIdeal.nD Cert.GdnIdeal.τ).loc Cert.GdnIdeal.main_arg5)) (m ((c.tc : Thread Cert.GdnIdeal.nD Cert.GdnIdeal.τ).loc Cert.GdnIdeal.main_arg6)) (m ((c.tc : Thread Cert.GdnIdeal.nD Cert.GdnIdeal.τ).loc Cert.GdnIdeal.main_arg7)) (m ((c.tc : Thread Cert.GdnIdeal.nD Cert.GdnIdeal.τ).loc Cert.GdnIdeal.main_arg8)) (m ((c.tc : Thread Cert.GdnIdeal.nD Cert.GdnIdeal.τ).loc Cert.GdnIdeal.main_arg9))) = (fun _ => 1#1)

def Pre_GdnRefIdeal (m : (ℓ : Loc Cert.GdnRefIdeal.nD Cert.GdnRefIdeal.τ Cert.GdnRefIdeal.sig) → Buf (Elt Ideal) ℓ) : Prop :=
  True

def Pre_GdnRefIdeal_finite [hPre_finite : Cert.Pre_finite.Facts] (m : (ℓ : Loc Cert.GdnRefIdeal.nD Cert.GdnRefIdeal.τ Cert.GdnRefIdeal.sig) → Buf (Elt Ideal) ℓ) : Prop :=
  ∀ c : Dev Cert.GdnRefIdeal.nD,
    (Cert.Pre_finite.fn (F := Ideal) (m ((c.tc : Thread Cert.GdnRefIdeal.nD Cert.GdnRefIdeal.τ).loc Cert.GdnRefIdeal.main_arg0)) (m ((c.tc : Thread Cert.GdnRefIdeal.nD Cert.GdnRefIdeal.τ).loc Cert.GdnRefIdeal.main_arg1)) (m ((c.tc : Thread Cert.GdnRefIdeal.nD Cert.GdnRefIdeal.τ).loc Cert.GdnRefIdeal.main_arg2)) (m ((c.tc : Thread Cert.GdnRefIdeal.nD Cert.GdnRefIdeal.τ).loc Cert.GdnRefIdeal.main_arg3)) (m ((c.tc : Thread Cert.GdnRefIdeal.nD Cert.GdnRefIdeal.τ).loc Cert.GdnRefIdeal.main_arg4)) (m ((c.tc : Thread Cert.GdnRefIdeal.nD Cert.GdnRefIdeal.τ).loc Cert.GdnRefIdeal.main_arg5)) (m ((c.tc : Thread Cert.GdnRefIdeal.nD Cert.GdnRefIdeal.τ).loc Cert.GdnRefIdeal.main_arg6)) (m ((c.tc : Thread Cert.GdnRefIdeal.nD Cert.GdnRefIdeal.τ).loc Cert.GdnRefIdeal.main_arg7)) (m ((c.tc : Thread Cert.GdnRefIdeal.nD Cert.GdnRefIdeal.τ).loc Cert.GdnRefIdeal.main_arg8)) (m ((c.tc : Thread Cert.GdnRefIdeal.nD Cert.GdnRefIdeal.τ).loc Cert.GdnRefIdeal.main_arg9))) = (fun _ => 1#1)

def Pre_RwkvPost (m : (ℓ : Loc Cert.RwkvPost.nD Cert.RwkvPost.τ Cert.RwkvPost.sig) → Buf (Elt Bits) ℓ) : Prop :=
  True

def Pre_RwkvPostIdeal (m : (ℓ : Loc Cert.RwkvPostIdeal.nD Cert.RwkvPostIdeal.τ Cert.RwkvPostIdeal.sig) → Buf (Elt Ideal) ℓ) : Prop :=
  True

def Pre_RwkvPostIdeal_finite_o [hPre_finite_o : Cert.Pre_finite_o.Facts] (m : (ℓ : Loc Cert.RwkvPostIdeal.nD Cert.RwkvPostIdeal.τ Cert.RwkvPostIdeal.sig) → Buf (Elt Ideal) ℓ) : Prop :=
  ∀ c : Dev Cert.RwkvPostIdeal.nD,
    (Cert.Pre_finite_o.fn (F := Ideal) (m ((c.tc : Thread Cert.RwkvPostIdeal.nD Cert.RwkvPostIdeal.τ).loc Cert.RwkvPostIdeal.main_arg0)) (m ((c.tc : Thread Cert.RwkvPostIdeal.nD Cert.RwkvPostIdeal.τ).loc Cert.RwkvPostIdeal.main_arg1)) (m ((c.tc : Thread Cert.RwkvPostIdeal.nD Cert.RwkvPostIdeal.τ).loc Cert.RwkvPostIdeal.main_arg2)) (m ((c.tc : Thread Cert.RwkvPostIdeal.nD Cert.RwkvPostIdeal.τ).loc Cert.RwkvPostIdeal.main_arg3)) (m ((c.tc : Thread Cert.RwkvPostIdeal.nD Cert.RwkvPostIdeal.τ).loc Cert.RwkvPostIdeal.main_arg4))) = (fun _ => 1#1)

def Pre_RwkvPostRefIdeal (m : (ℓ : Loc Cert.RwkvPostRefIdeal.nD Cert.RwkvPostRefIdeal.τ Cert.RwkvPostRefIdeal.sig) → Buf (Elt Ideal) ℓ) : Prop :=
  True

def Pre_RwkvPostRefIdeal_finite_o [hPre_finite_o : Cert.Pre_finite_o.Facts] (m : (ℓ : Loc Cert.RwkvPostRefIdeal.nD Cert.RwkvPostRefIdeal.τ Cert.RwkvPostRefIdeal.sig) → Buf (Elt Ideal) ℓ) : Prop :=
  ∀ c : Dev Cert.RwkvPostRefIdeal.nD,
    (Cert.Pre_finite_o.fn (F := Ideal) (m ((c.tc : Thread Cert.RwkvPostRefIdeal.nD Cert.RwkvPostRefIdeal.τ).loc Cert.RwkvPostRefIdeal.main_arg0)) (m ((c.tc : Thread Cert.RwkvPostRefIdeal.nD Cert.RwkvPostRefIdeal.τ).loc Cert.RwkvPostRefIdeal.main_arg1)) (m ((c.tc : Thread Cert.RwkvPostRefIdeal.nD Cert.RwkvPostRefIdeal.τ).loc Cert.RwkvPostRefIdeal.main_arg2)) (m ((c.tc : Thread Cert.RwkvPostRefIdeal.nD Cert.RwkvPostRefIdeal.τ).loc Cert.RwkvPostRefIdeal.main_arg3)) (m ((c.tc : Thread Cert.RwkvPostRefIdeal.nD Cert.RwkvPostRefIdeal.τ).loc Cert.RwkvPostRefIdeal.main_arg4))) = (fun _ => 1#1)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3)
      ∧ r.2.mem ((c.tc : Thread Cert.Xattn.nD Cert.Xattn.τ).loc Cert.Xattn.main_arg4) = m ((c.tc : Thread Cert.Xattn.nD Cert.Xattn.τ).loc Cert.Xattn.main_arg4))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_Gdn [hGdn : Cert.Gdn.Facts] : Prop :=
  ∀ (m : (ℓ : Loc Cert.Gdn.nD Cert.Gdn.τ Cert.Gdn.sig) → Buf (Elt Bits) ℓ) (g : Dev Cert.Gdn.nD → PrngReg), Pre_Gdn m →
    θ_run (Cert.Gdn.defs (F := Bits)) (onTc (τ := Cert.Gdn.τ) (Cert.Gdn.main (F := Bits))) ⟨m, fun _ => 0, g⟩ (fun r => (∀ c : Dev Cert.Gdn.nD,
      r.2.mem ((c.tc : Thread Cert.Gdn.nD Cert.Gdn.τ).loc Cert.Gdn.main_arg0) = m ((c.tc : Thread Cert.Gdn.nD Cert.Gdn.τ).loc Cert.Gdn.main_arg0)
      ∧ r.2.mem ((c.tc : Thread Cert.Gdn.nD Cert.Gdn.τ).loc Cert.Gdn.main_arg1) = m ((c.tc : Thread Cert.Gdn.nD Cert.Gdn.τ).loc Cert.Gdn.main_arg1)
      ∧ r.2.mem ((c.tc : Thread Cert.Gdn.nD Cert.Gdn.τ).loc Cert.Gdn.main_arg2) = m ((c.tc : Thread Cert.Gdn.nD Cert.Gdn.τ).loc Cert.Gdn.main_arg2)
      ∧ r.2.mem ((c.tc : Thread Cert.Gdn.nD Cert.Gdn.τ).loc Cert.Gdn.main_arg3) = m ((c.tc : Thread Cert.Gdn.nD Cert.Gdn.τ).loc Cert.Gdn.main_arg3)
      ∧ r.2.mem ((c.tc : Thread Cert.Gdn.nD Cert.Gdn.τ).loc Cert.Gdn.main_arg4) = m ((c.tc : Thread Cert.Gdn.nD Cert.Gdn.τ).loc Cert.Gdn.main_arg4)
      ∧ r.2.mem ((c.tc : Thread Cert.Gdn.nD Cert.Gdn.τ).loc Cert.Gdn.main_arg5) = m ((c.tc : Thread Cert.Gdn.nD Cert.Gdn.τ).loc Cert.Gdn.main_arg5)
      ∧ r.2.mem ((c.tc : Thread Cert.Gdn.nD Cert.Gdn.τ).loc Cert.Gdn.main_arg6) = m ((c.tc : Thread Cert.Gdn.nD Cert.Gdn.τ).loc Cert.Gdn.main_arg6)
      ∧ r.2.mem ((c.tc : Thread Cert.Gdn.nD Cert.Gdn.τ).loc Cert.Gdn.main_arg7) = m ((c.tc : Thread Cert.Gdn.nD Cert.Gdn.τ).loc Cert.Gdn.main_arg7)
      ∧ r.2.mem ((c.tc : Thread Cert.Gdn.nD Cert.Gdn.τ).loc Cert.Gdn.main_arg8) = m ((c.tc : Thread Cert.Gdn.nD Cert.Gdn.τ).loc Cert.Gdn.main_arg8)
      ∧ r.2.mem ((c.tc : Thread Cert.Gdn.nD Cert.Gdn.τ).loc Cert.Gdn.main_arg9) = m ((c.tc : Thread Cert.Gdn.nD Cert.Gdn.τ).loc Cert.Gdn.main_arg9))
      ∧ r.2.sem = fun _ => 0)

def quiescent_GdnIdeal [hGdnIdeal : Cert.GdnIdeal.Facts] : Prop :=
  ∀ (m : (ℓ : Loc Cert.GdnIdeal.nD Cert.GdnIdeal.τ Cert.GdnIdeal.sig) → Buf (Elt Ideal) ℓ) (g : Dev Cert.GdnIdeal.nD → PrngReg), Pre_GdnIdeal m →
    θ_run (Cert.GdnIdeal.defs (F := Ideal)) (onTc (τ := Cert.GdnIdeal.τ) (Cert.GdnIdeal.main (F := Ideal))) ⟨m, fun _ => 0, g⟩ (fun r => (∀ c : Dev Cert.GdnIdeal.nD,
      r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
      ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
      ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
      ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
      ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4)
      ∧ r.2.mem ((c.tc : Thread Cert.GdnIdeal.nD Cert.GdnIdeal.τ).loc Cert.GdnIdeal.main_arg5) = m ((c.tc : Thread Cert.GdnIdeal.nD Cert.GdnIdeal.τ).loc Cert.GdnIdeal.main_arg5)
      ∧ r.2.mem ((c.tc : Thread Cert.GdnIdeal.nD Cert.GdnIdeal.τ).loc Cert.GdnIdeal.main_arg6) = m ((c.tc : Thread Cert.GdnIdeal.nD Cert.GdnIdeal.τ).loc Cert.GdnIdeal.main_arg6)
      ∧ r.2.mem ((c.tc : Thread Cert.GdnIdeal.nD Cert.GdnIdeal.τ).loc Cert.GdnIdeal.main_arg7) = m ((c.tc : Thread Cert.GdnIdeal.nD Cert.GdnIdeal.τ).loc Cert.GdnIdeal.main_arg7)
      ∧ r.2.mem ((c.tc : Thread Cert.GdnIdeal.nD Cert.GdnIdeal.τ).loc Cert.GdnIdeal.main_arg8) = m ((c.tc : Thread Cert.GdnIdeal.nD Cert.GdnIdeal.τ).loc Cert.GdnIdeal.main_arg8)
      ∧ r.2.mem ((c.tc : Thread Cert.GdnIdeal.nD Cert.GdnIdeal.τ).loc Cert.GdnIdeal.main_arg9) = m ((c.tc : Thread Cert.GdnIdeal.nD Cert.GdnIdeal.τ).loc Cert.GdnIdeal.main_arg9))
      ∧ r.2.sem = fun _ => 0)

def quiescent_GdnIdeal_pre_finite [hGdnIdeal : Cert.GdnIdeal.Facts] [hPre_finite : Cert.Pre_finite.Facts] : Prop :=
  ∀ (m : (ℓ : Loc Cert.GdnIdeal.nD Cert.GdnIdeal.τ Cert.GdnIdeal.sig) → Buf (Elt Ideal) ℓ) (g : Dev Cert.GdnIdeal.nD → PrngReg), Pre_GdnIdeal_finite m →
    θ_run (Cert.GdnIdeal.defs (F := Ideal)) (onTc (τ := Cert.GdnIdeal.τ) (Cert.GdnIdeal.main (F := Ideal))) ⟨m, fun _ => 0, g⟩ (fun r => (∀ c : Dev Cert.GdnIdeal.nD,
      r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
      ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
      ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
      ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
      ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4)
      ∧ r.2.mem ((c.tc : Thread Cert.GdnIdeal.nD Cert.GdnIdeal.τ).loc Cert.GdnIdeal.main_arg5) = m ((c.tc : Thread Cert.GdnIdeal.nD Cert.GdnIdeal.τ).loc Cert.GdnIdeal.main_arg5)
      ∧ r.2.mem ((c.tc : Thread Cert.GdnIdeal.nD Cert.GdnIdeal.τ).loc Cert.GdnIdeal.main_arg6) = m ((c.tc : Thread Cert.GdnIdeal.nD Cert.GdnIdeal.τ).loc Cert.GdnIdeal.main_arg6)
      ∧ r.2.mem ((c.tc : Thread Cert.GdnIdeal.nD Cert.GdnIdeal.τ).loc Cert.GdnIdeal.main_arg7) = m ((c.tc : Thread Cert.GdnIdeal.nD Cert.GdnIdeal.τ).loc Cert.GdnIdeal.main_arg7)
      ∧ r.2.mem ((c.tc : Thread Cert.GdnIdeal.nD Cert.GdnIdeal.τ).loc Cert.GdnIdeal.main_arg8) = m ((c.tc : Thread Cert.GdnIdeal.nD Cert.GdnIdeal.τ).loc Cert.GdnIdeal.main_arg8)
      ∧ r.2.mem ((c.tc : Thread Cert.GdnIdeal.nD Cert.GdnIdeal.τ).loc Cert.GdnIdeal.main_arg9) = m ((c.tc : Thread Cert.GdnIdeal.nD Cert.GdnIdeal.τ).loc Cert.GdnIdeal.main_arg9))
      ∧ r.2.sem = fun _ => 0)

def quiescent_GdnRefIdeal [hGdnRefIdeal : Cert.GdnRefIdeal.Facts] : Prop :=
  ∀ (m : (ℓ : Loc Cert.GdnRefIdeal.nD Cert.GdnRefIdeal.τ Cert.GdnRefIdeal.sig) → Buf (Elt Ideal) ℓ) (g : Dev Cert.GdnRefIdeal.nD → PrngReg), Pre_GdnRefIdeal m →
    θ_run (Cert.GdnRefIdeal.defs (F := Ideal)) (onTc (τ := Cert.GdnRefIdeal.τ) (Cert.GdnRefIdeal.main (F := Ideal))) ⟨m, fun _ => 0, g⟩ (fun r => (∀ c : Dev Cert.GdnRefIdeal.nD,
      r.2.mem ((c.tc : Thread Cert.GdnRefIdeal.nD Cert.GdnRefIdeal.τ).loc Cert.GdnRefIdeal.main_arg0) = m ((c.tc : Thread Cert.GdnRefIdeal.nD Cert.GdnRefIdeal.τ).loc Cert.GdnRefIdeal.main_arg0)
      ∧ r.2.mem ((c.tc : Thread Cert.GdnRefIdeal.nD Cert.GdnRefIdeal.τ).loc Cert.GdnRefIdeal.main_arg1) = m ((c.tc : Thread Cert.GdnRefIdeal.nD Cert.GdnRefIdeal.τ).loc Cert.GdnRefIdeal.main_arg1)
      ∧ r.2.mem ((c.tc : Thread Cert.GdnRefIdeal.nD Cert.GdnRefIdeal.τ).loc Cert.GdnRefIdeal.main_arg2) = m ((c.tc : Thread Cert.GdnRefIdeal.nD Cert.GdnRefIdeal.τ).loc Cert.GdnRefIdeal.main_arg2)
      ∧ r.2.mem ((c.tc : Thread Cert.GdnRefIdeal.nD Cert.GdnRefIdeal.τ).loc Cert.GdnRefIdeal.main_arg3) = m ((c.tc : Thread Cert.GdnRefIdeal.nD Cert.GdnRefIdeal.τ).loc Cert.GdnRefIdeal.main_arg3)
      ∧ r.2.mem ((c.tc : Thread Cert.GdnRefIdeal.nD Cert.GdnRefIdeal.τ).loc Cert.GdnRefIdeal.main_arg4) = m ((c.tc : Thread Cert.GdnRefIdeal.nD Cert.GdnRefIdeal.τ).loc Cert.GdnRefIdeal.main_arg4)
      ∧ r.2.mem ((c.tc : Thread Cert.GdnRefIdeal.nD Cert.GdnRefIdeal.τ).loc Cert.GdnRefIdeal.main_arg5) = m ((c.tc : Thread Cert.GdnRefIdeal.nD Cert.GdnRefIdeal.τ).loc Cert.GdnRefIdeal.main_arg5)
      ∧ r.2.mem ((c.tc : Thread Cert.GdnRefIdeal.nD Cert.GdnRefIdeal.τ).loc Cert.GdnRefIdeal.main_arg6) = m ((c.tc : Thread Cert.GdnRefIdeal.nD Cert.GdnRefIdeal.τ).loc Cert.GdnRefIdeal.main_arg6)
      ∧ r.2.mem ((c.tc : Thread Cert.GdnRefIdeal.nD Cert.GdnRefIdeal.τ).loc Cert.GdnRefIdeal.main_arg7) = m ((c.tc : Thread Cert.GdnRefIdeal.nD Cert.GdnRefIdeal.τ).loc Cert.GdnRefIdeal.main_arg7)
      ∧ r.2.mem ((c.tc : Thread Cert.GdnRefIdeal.nD Cert.GdnRefIdeal.τ).loc Cert.GdnRefIdeal.main_arg8) = m ((c.tc : Thread Cert.GdnRefIdeal.nD Cert.GdnRefIdeal.τ).loc Cert.GdnRefIdeal.main_arg8)
      ∧ r.2.mem ((c.tc : Thread Cert.GdnRefIdeal.nD Cert.GdnRefIdeal.τ).loc Cert.GdnRefIdeal.main_arg9) = m ((c.tc : Thread Cert.GdnRefIdeal.nD Cert.GdnRefIdeal.τ).loc Cert.GdnRefIdeal.main_arg9))
      ∧ r.2.sem = fun _ => 0)

def quiescent_GdnRefIdeal_pre_finite [hGdnRefIdeal : Cert.GdnRefIdeal.Facts] [hPre_finite : Cert.Pre_finite.Facts] : Prop :=
  ∀ (m : (ℓ : Loc Cert.GdnRefIdeal.nD Cert.GdnRefIdeal.τ Cert.GdnRefIdeal.sig) → Buf (Elt Ideal) ℓ) (g : Dev Cert.GdnRefIdeal.nD → PrngReg), Pre_GdnRefIdeal_finite m →
    θ_run (Cert.GdnRefIdeal.defs (F := Ideal)) (onTc (τ := Cert.GdnRefIdeal.τ) (Cert.GdnRefIdeal.main (F := Ideal))) ⟨m, fun _ => 0, g⟩ (fun r => (∀ c : Dev Cert.GdnRefIdeal.nD,
      r.2.mem ((c.tc : Thread Cert.GdnRefIdeal.nD Cert.GdnRefIdeal.τ).loc Cert.GdnRefIdeal.main_arg0) = m ((c.tc : Thread Cert.GdnRefIdeal.nD Cert.GdnRefIdeal.τ).loc Cert.GdnRefIdeal.main_arg0)
      ∧ r.2.mem ((c.tc : Thread Cert.GdnRefIdeal.nD Cert.GdnRefIdeal.τ).loc Cert.GdnRefIdeal.main_arg1) = m ((c.tc : Thread Cert.GdnRefIdeal.nD Cert.GdnRefIdeal.τ).loc Cert.GdnRefIdeal.main_arg1)
      ∧ r.2.mem ((c.tc : Thread Cert.GdnRefIdeal.nD Cert.GdnRefIdeal.τ).loc Cert.GdnRefIdeal.main_arg2) = m ((c.tc : Thread Cert.GdnRefIdeal.nD Cert.GdnRefIdeal.τ).loc Cert.GdnRefIdeal.main_arg2)
      ∧ r.2.mem ((c.tc : Thread Cert.GdnRefIdeal.nD Cert.GdnRefIdeal.τ).loc Cert.GdnRefIdeal.main_arg3) = m ((c.tc : Thread Cert.GdnRefIdeal.nD Cert.GdnRefIdeal.τ).loc Cert.GdnRefIdeal.main_arg3)
      ∧ r.2.mem ((c.tc : Thread Cert.GdnRefIdeal.nD Cert.GdnRefIdeal.τ).loc Cert.GdnRefIdeal.main_arg4) = m ((c.tc : Thread Cert.GdnRefIdeal.nD Cert.GdnRefIdeal.τ).loc Cert.GdnRefIdeal.main_arg4)
      ∧ r.2.mem ((c.tc : Thread Cert.GdnRefIdeal.nD Cert.GdnRefIdeal.τ).loc Cert.GdnRefIdeal.main_arg5) = m ((c.tc : Thread Cert.GdnRefIdeal.nD Cert.GdnRefIdeal.τ).loc Cert.GdnRefIdeal.main_arg5)
      ∧ r.2.mem ((c.tc : Thread Cert.GdnRefIdeal.nD Cert.GdnRefIdeal.τ).loc Cert.GdnRefIdeal.main_arg6) = m ((c.tc : Thread Cert.GdnRefIdeal.nD Cert.GdnRefIdeal.τ).loc Cert.GdnRefIdeal.main_arg6)
      ∧ r.2.mem ((c.tc : Thread Cert.GdnRefIdeal.nD Cert.GdnRefIdeal.τ).loc Cert.GdnRefIdeal.main_arg7) = m ((c.tc : Thread Cert.GdnRefIdeal.nD Cert.GdnRefIdeal.τ).loc Cert.GdnRefIdeal.main_arg7)
      ∧ r.2.mem ((c.tc : Thread Cert.GdnRefIdeal.nD Cert.GdnRefIdeal.τ).loc Cert.GdnRefIdeal.main_arg8) = m ((c.tc : Thread Cert.GdnRefIdeal.nD Cert.GdnRefIdeal.τ).loc Cert.GdnRefIdeal.main_arg8)
      ∧ r.2.mem ((c.tc : Thread Cert.GdnRefIdeal.nD Cert.GdnRefIdeal.τ).loc Cert.GdnRefIdeal.main_arg9) = m ((c.tc : Thread Cert.GdnRefIdeal.nD Cert.GdnRefIdeal.τ).loc Cert.GdnRefIdeal.main_arg9))
      ∧ r.2.sem = fun _ => 0)

def quiescent_RwkvPost [hRwkvPost : Cert.RwkvPost.Facts] : Prop :=
  ∀ (m : (ℓ : Loc Cert.RwkvPost.nD Cert.RwkvPost.τ Cert.RwkvPost.sig) → Buf (Elt Bits) ℓ) (g : Dev Cert.RwkvPost.nD → PrngReg), Pre_RwkvPost m →
    θ_run (Cert.RwkvPost.defs (F := Bits)) (onTc (τ := Cert.RwkvPost.τ) (Cert.RwkvPost.main (F := Bits))) ⟨m, fun _ => 0, g⟩ (fun r => (∀ c : Dev Cert.RwkvPost.nD,
      r.2.mem ((c.tc : Thread Cert.RwkvPost.nD Cert.RwkvPost.τ).loc Cert.RwkvPost.main_arg0) = m ((c.tc : Thread Cert.RwkvPost.nD Cert.RwkvPost.τ).loc Cert.RwkvPost.main_arg0)
      ∧ r.2.mem ((c.tc : Thread Cert.RwkvPost.nD Cert.RwkvPost.τ).loc Cert.RwkvPost.main_arg1) = m ((c.tc : Thread Cert.RwkvPost.nD Cert.RwkvPost.τ).loc Cert.RwkvPost.main_arg1)
      ∧ r.2.mem ((c.tc : Thread Cert.RwkvPost.nD Cert.RwkvPost.τ).loc Cert.RwkvPost.main_arg2) = m ((c.tc : Thread Cert.RwkvPost.nD Cert.RwkvPost.τ).loc Cert.RwkvPost.main_arg2)
      ∧ r.2.mem ((c.tc : Thread Cert.RwkvPost.nD Cert.RwkvPost.τ).loc Cert.RwkvPost.main_arg3) = m ((c.tc : Thread Cert.RwkvPost.nD Cert.RwkvPost.τ).loc Cert.RwkvPost.main_arg3)
      ∧ r.2.mem ((c.tc : Thread Cert.RwkvPost.nD Cert.RwkvPost.τ).loc Cert.RwkvPost.main_arg4) = m ((c.tc : Thread Cert.RwkvPost.nD Cert.RwkvPost.τ).loc Cert.RwkvPost.main_arg4))
      ∧ r.2.sem = fun _ => 0)

def quiescent_RwkvPostIdeal [hRwkvPostIdeal : Cert.RwkvPostIdeal.Facts] : Prop :=
  ∀ (m : (ℓ : Loc Cert.RwkvPostIdeal.nD Cert.RwkvPostIdeal.τ Cert.RwkvPostIdeal.sig) → Buf (Elt Ideal) ℓ) (g : Dev Cert.RwkvPostIdeal.nD → PrngReg), Pre_RwkvPostIdeal m →
    θ_run (Cert.RwkvPostIdeal.defs (F := Ideal)) (onTc (τ := Cert.RwkvPostIdeal.τ) (Cert.RwkvPostIdeal.main (F := Ideal))) ⟨m, fun _ => 0, g⟩ (fun r => (∀ c : Dev Cert.RwkvPostIdeal.nD,
      r.2.mem ((c.tc : Thread Cert.RwkvPostIdeal.nD Cert.RwkvPostIdeal.τ).loc Cert.RwkvPostIdeal.main_arg0) = m ((c.tc : Thread Cert.RwkvPostIdeal.nD Cert.RwkvPostIdeal.τ).loc Cert.RwkvPostIdeal.main_arg0)
      ∧ r.2.mem ((c.tc : Thread Cert.RwkvPostIdeal.nD Cert.RwkvPostIdeal.τ).loc Cert.RwkvPostIdeal.main_arg1) = m ((c.tc : Thread Cert.RwkvPostIdeal.nD Cert.RwkvPostIdeal.τ).loc Cert.RwkvPostIdeal.main_arg1)
      ∧ r.2.mem ((c.tc : Thread Cert.RwkvPostIdeal.nD Cert.RwkvPostIdeal.τ).loc Cert.RwkvPostIdeal.main_arg2) = m ((c.tc : Thread Cert.RwkvPostIdeal.nD Cert.RwkvPostIdeal.τ).loc Cert.RwkvPostIdeal.main_arg2)
      ∧ r.2.mem ((c.tc : Thread Cert.RwkvPostIdeal.nD Cert.RwkvPostIdeal.τ).loc Cert.RwkvPostIdeal.main_arg3) = m ((c.tc : Thread Cert.RwkvPostIdeal.nD Cert.RwkvPostIdeal.τ).loc Cert.RwkvPostIdeal.main_arg3)
      ∧ r.2.mem ((c.tc : Thread Cert.RwkvPostIdeal.nD Cert.RwkvPostIdeal.τ).loc Cert.RwkvPostIdeal.main_arg4) = m ((c.tc : Thread Cert.RwkvPostIdeal.nD Cert.RwkvPostIdeal.τ).loc Cert.RwkvPostIdeal.main_arg4))
      ∧ r.2.sem = fun _ => 0)

def quiescent_RwkvPostIdeal_pre_finite_o [hRwkvPostIdeal : Cert.RwkvPostIdeal.Facts] [hPre_finite_o : Cert.Pre_finite_o.Facts] : Prop :=
  ∀ (m : (ℓ : Loc Cert.RwkvPostIdeal.nD Cert.RwkvPostIdeal.τ Cert.RwkvPostIdeal.sig) → Buf (Elt Ideal) ℓ) (g : Dev Cert.RwkvPostIdeal.nD → PrngReg), Pre_RwkvPostIdeal_finite_o m →
    θ_run (Cert.RwkvPostIdeal.defs (F := Ideal)) (onTc (τ := Cert.RwkvPostIdeal.τ) (Cert.RwkvPostIdeal.main (F := Ideal))) ⟨m, fun _ => 0, g⟩ (fun r => (∀ c : Dev Cert.RwkvPostIdeal.nD,
      r.2.mem ((c.tc : Thread Cert.RwkvPostIdeal.nD Cert.RwkvPostIdeal.τ).loc Cert.RwkvPostIdeal.main_arg0) = m ((c.tc : Thread Cert.RwkvPostIdeal.nD Cert.RwkvPostIdeal.τ).loc Cert.RwkvPostIdeal.main_arg0)
      ∧ r.2.mem ((c.tc : Thread Cert.RwkvPostIdeal.nD Cert.RwkvPostIdeal.τ).loc Cert.RwkvPostIdeal.main_arg1) = m ((c.tc : Thread Cert.RwkvPostIdeal.nD Cert.RwkvPostIdeal.τ).loc Cert.RwkvPostIdeal.main_arg1)
      ∧ r.2.mem ((c.tc : Thread Cert.RwkvPostIdeal.nD Cert.RwkvPostIdeal.τ).loc Cert.RwkvPostIdeal.main_arg2) = m ((c.tc : Thread Cert.RwkvPostIdeal.nD Cert.RwkvPostIdeal.τ).loc Cert.RwkvPostIdeal.main_arg2)
      ∧ r.2.mem ((c.tc : Thread Cert.RwkvPostIdeal.nD Cert.RwkvPostIdeal.τ).loc Cert.RwkvPostIdeal.main_arg3) = m ((c.tc : Thread Cert.RwkvPostIdeal.nD Cert.RwkvPostIdeal.τ).loc Cert.RwkvPostIdeal.main_arg3)
      ∧ r.2.mem ((c.tc : Thread Cert.RwkvPostIdeal.nD Cert.RwkvPostIdeal.τ).loc Cert.RwkvPostIdeal.main_arg4) = m ((c.tc : Thread Cert.RwkvPostIdeal.nD Cert.RwkvPostIdeal.τ).loc Cert.RwkvPostIdeal.main_arg4))
      ∧ r.2.sem = fun _ => 0)

def quiescent_RwkvPostRefIdeal [hRwkvPostRefIdeal : Cert.RwkvPostRefIdeal.Facts] : Prop :=
  ∀ (m : (ℓ : Loc Cert.RwkvPostRefIdeal.nD Cert.RwkvPostRefIdeal.τ Cert.RwkvPostRefIdeal.sig) → Buf (Elt Ideal) ℓ) (g : Dev Cert.RwkvPostRefIdeal.nD → PrngReg), Pre_RwkvPostRefIdeal m →
    θ_run (Cert.RwkvPostRefIdeal.defs (F := Ideal)) (onTc (τ := Cert.RwkvPostRefIdeal.τ) (Cert.RwkvPostRefIdeal.main (F := Ideal))) ⟨m, fun _ => 0, g⟩ (fun r => (∀ c : Dev Cert.RwkvPostRefIdeal.nD,
      r.2.mem ((c.tc : Thread Cert.RwkvPostRefIdeal.nD Cert.RwkvPostRefIdeal.τ).loc Cert.RwkvPostRefIdeal.main_arg0) = m ((c.tc : Thread Cert.RwkvPostRefIdeal.nD Cert.RwkvPostRefIdeal.τ).loc Cert.RwkvPostRefIdeal.main_arg0)
      ∧ r.2.mem ((c.tc : Thread Cert.RwkvPostRefIdeal.nD Cert.RwkvPostRefIdeal.τ).loc Cert.RwkvPostRefIdeal.main_arg1) = m ((c.tc : Thread Cert.RwkvPostRefIdeal.nD Cert.RwkvPostRefIdeal.τ).loc Cert.RwkvPostRefIdeal.main_arg1)
      ∧ r.2.mem ((c.tc : Thread Cert.RwkvPostRefIdeal.nD Cert.RwkvPostRefIdeal.τ).loc Cert.RwkvPostRefIdeal.main_arg2) = m ((c.tc : Thread Cert.RwkvPostRefIdeal.nD Cert.RwkvPostRefIdeal.τ).loc Cert.RwkvPostRefIdeal.main_arg2)
      ∧ r.2.mem ((c.tc : Thread Cert.RwkvPostRefIdeal.nD Cert.RwkvPostRefIdeal.τ).loc Cert.RwkvPostRefIdeal.main_arg3) = m ((c.tc : Thread Cert.RwkvPostRefIdeal.nD Cert.RwkvPostRefIdeal.τ).loc Cert.RwkvPostRefIdeal.main_arg3)
      ∧ r.2.mem ((c.tc : Thread Cert.RwkvPostRefIdeal.nD Cert.RwkvPostRefIdeal.τ).loc Cert.RwkvPostRefIdeal.main_arg4) = m ((c.tc : Thread Cert.RwkvPostRefIdeal.nD Cert.RwkvPostRefIdeal.τ).loc Cert.RwkvPostRefIdeal.main_arg4))
      ∧ r.2.sem = fun _ => 0)

def quiescent_RwkvPostRefIdeal_pre_finite_o [hRwkvPostRefIdeal : Cert.RwkvPostRefIdeal.Facts] [hPre_finite_o : Cert.Pre_finite_o.Facts] : Prop :=
  ∀ (m : (ℓ : Loc Cert.RwkvPostRefIdeal.nD Cert.RwkvPostRefIdeal.τ Cert.RwkvPostRefIdeal.sig) → Buf (Elt Ideal) ℓ) (g : Dev Cert.RwkvPostRefIdeal.nD → PrngReg), Pre_RwkvPostRefIdeal_finite_o m →
    θ_run (Cert.RwkvPostRefIdeal.defs (F := Ideal)) (onTc (τ := Cert.RwkvPostRefIdeal.τ) (Cert.RwkvPostRefIdeal.main (F := Ideal))) ⟨m, fun _ => 0, g⟩ (fun r => (∀ c : Dev Cert.RwkvPostRefIdeal.nD,
      r.2.mem ((c.tc : Thread Cert.RwkvPostRefIdeal.nD Cert.RwkvPostRefIdeal.τ).loc Cert.RwkvPostRefIdeal.main_arg0) = m ((c.tc : Thread Cert.RwkvPostRefIdeal.nD Cert.RwkvPostRefIdeal.τ).loc Cert.RwkvPostRefIdeal.main_arg0)
      ∧ r.2.mem ((c.tc : Thread Cert.RwkvPostRefIdeal.nD Cert.RwkvPostRefIdeal.τ).loc Cert.RwkvPostRefIdeal.main_arg1) = m ((c.tc : Thread Cert.RwkvPostRefIdeal.nD Cert.RwkvPostRefIdeal.τ).loc Cert.RwkvPostRefIdeal.main_arg1)
      ∧ r.2.mem ((c.tc : Thread Cert.RwkvPostRefIdeal.nD Cert.RwkvPostRefIdeal.τ).loc Cert.RwkvPostRefIdeal.main_arg2) = m ((c.tc : Thread Cert.RwkvPostRefIdeal.nD Cert.RwkvPostRefIdeal.τ).loc Cert.RwkvPostRefIdeal.main_arg2)
      ∧ r.2.mem ((c.tc : Thread Cert.RwkvPostRefIdeal.nD Cert.RwkvPostRefIdeal.τ).loc Cert.RwkvPostRefIdeal.main_arg3) = m ((c.tc : Thread Cert.RwkvPostRefIdeal.nD Cert.RwkvPostRefIdeal.τ).loc Cert.RwkvPostRefIdeal.main_arg3)
      ∧ r.2.mem ((c.tc : Thread Cert.RwkvPostRefIdeal.nD Cert.RwkvPostRefIdeal.τ).loc Cert.RwkvPostRefIdeal.main_arg4) = m ((c.tc : Thread Cert.RwkvPostRefIdeal.nD Cert.RwkvPostRefIdeal.τ).loc Cert.RwkvPostRefIdeal.main_arg4))
      ∧ r.2.sem = fun _ => 0)

def preserves_Xattn_XattnIdeal : Prop :=
  True

def algebraic_XattnIdeal_XattnRefIdeal [hXattnIdeal : Cert.XattnIdeal.Facts] [hXattnRefIdeal : Cert.XattnRefIdeal.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)
      ∧ m' ((c.tc : Thread Cert.XattnRefIdeal.nD Cert.XattnRefIdeal.τ).loc Cert.XattnRefIdeal.main_arg3) = m ((c.tc : Thread Cert.XattnIdeal.nD Cert.XattnIdeal.τ).loc Cert.XattnIdeal.main_arg3)
      ∧ m' ((c.tc : Thread Cert.XattnRefIdeal.nD Cert.XattnRefIdeal.τ).loc Cert.XattnRefIdeal.main_arg4) = m ((c.tc : Thread Cert.XattnIdeal.nD Cert.XattnIdeal.τ).loc Cert.XattnIdeal.main_arg4)) →
    ∃ (v0 : (c : Dev Cert.XattnIdeal.nD) → Buf (Elt Ideal) ((c.tc : Thread Cert.XattnIdeal.nD Cert.XattnIdeal.τ).loc Cert.XattnIdeal.main_v5)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v5) = v0 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
          ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v38) = v0 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2)
          ∧ r.2.mem ((c.tc : Thread Cert.XattnRefIdeal.nD Cert.XattnRefIdeal.τ).loc Cert.XattnRefIdeal.main_arg3) = m' ((c.tc : Thread Cert.XattnRefIdeal.nD Cert.XattnRefIdeal.τ).loc Cert.XattnRefIdeal.main_arg3)
          ∧ r.2.mem ((c.tc : Thread Cert.XattnRefIdeal.nD Cert.XattnRefIdeal.τ).loc Cert.XattnRefIdeal.main_arg4) = m' ((c.tc : Thread Cert.XattnRefIdeal.nD Cert.XattnRefIdeal.τ).loc Cert.XattnRefIdeal.main_arg4))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v30) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v13) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v3)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v16) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_Gdn_GdnIdeal : Prop :=
  True

def algebraic_GdnIdeal_GdnRefIdeal_pre_finite [hGdnIdeal : Cert.GdnIdeal.Facts] [hGdnRefIdeal : Cert.GdnRefIdeal.Facts] [hPre_finite : Cert.Pre_finite.Facts] : Prop :=
  ∀ (m : (ℓ : Loc Cert.GdnIdeal.nD Cert.GdnIdeal.τ Cert.GdnIdeal.sig) → Buf (Elt Ideal) ℓ) (g : Dev Cert.GdnIdeal.nD → PrngReg)
    (m' : (ℓ : Loc Cert.GdnRefIdeal.nD Cert.GdnRefIdeal.τ Cert.GdnRefIdeal.sig) → Buf (Elt Ideal) ℓ) (g' : Dev Cert.GdnRefIdeal.nD → PrngReg), Pre_GdnIdeal_finite m →
    (∀ c : Dev Cert.GdnIdeal.nD,
      m' ((c.tc : Thread Cert.GdnRefIdeal.nD Cert.GdnRefIdeal.τ).loc Cert.GdnRefIdeal.main_arg0) = m ((c.tc : Thread Cert.GdnIdeal.nD Cert.GdnIdeal.τ).loc Cert.GdnIdeal.main_arg0)
      ∧ m' ((c.tc : Thread Cert.GdnRefIdeal.nD Cert.GdnRefIdeal.τ).loc Cert.GdnRefIdeal.main_arg1) = m ((c.tc : Thread Cert.GdnIdeal.nD Cert.GdnIdeal.τ).loc Cert.GdnIdeal.main_arg1)
      ∧ m' ((c.tc : Thread Cert.GdnRefIdeal.nD Cert.GdnRefIdeal.τ).loc Cert.GdnRefIdeal.main_arg2) = m ((c.tc : Thread Cert.GdnIdeal.nD Cert.GdnIdeal.τ).loc Cert.GdnIdeal.main_arg2)
      ∧ m' ((c.tc : Thread Cert.GdnRefIdeal.nD Cert.GdnRefIdeal.τ).loc Cert.GdnRefIdeal.main_arg3) = m ((c.tc : Thread Cert.GdnIdeal.nD Cert.GdnIdeal.τ).loc Cert.GdnIdeal.main_arg3)
      ∧ m' ((c.tc : Thread Cert.GdnRefIdeal.nD Cert.GdnRefIdeal.τ).loc Cert.GdnRefIdeal.main_arg4) = m ((c.tc : Thread Cert.GdnIdeal.nD Cert.GdnIdeal.τ).loc Cert.GdnIdeal.main_arg4)
      ∧ m' ((c.tc : Thread Cert.GdnRefIdeal.nD Cert.GdnRefIdeal.τ).loc Cert.GdnRefIdeal.main_arg5) = m ((c.tc : Thread Cert.GdnIdeal.nD Cert.GdnIdeal.τ).loc Cert.GdnIdeal.main_arg5)
      ∧ m' ((c.tc : Thread Cert.GdnRefIdeal.nD Cert.GdnRefIdeal.τ).loc Cert.GdnRefIdeal.main_arg6) = m ((c.tc : Thread Cert.GdnIdeal.nD Cert.GdnIdeal.τ).loc Cert.GdnIdeal.main_arg6)
      ∧ m' ((c.tc : Thread Cert.GdnRefIdeal.nD Cert.GdnRefIdeal.τ).loc Cert.GdnRefIdeal.main_arg7) = m ((c.tc : Thread Cert.GdnIdeal.nD Cert.GdnIdeal.τ).loc Cert.GdnIdeal.main_arg7)
      ∧ m' ((c.tc : Thread Cert.GdnRefIdeal.nD Cert.GdnRefIdeal.τ).loc Cert.GdnRefIdeal.main_arg8) = m ((c.tc : Thread Cert.GdnIdeal.nD Cert.GdnIdeal.τ).loc Cert.GdnIdeal.main_arg8)
      ∧ m' ((c.tc : Thread Cert.GdnRefIdeal.nD Cert.GdnRefIdeal.τ).loc Cert.GdnRefIdeal.main_arg9) = m ((c.tc : Thread Cert.GdnIdeal.nD Cert.GdnIdeal.τ).loc Cert.GdnIdeal.main_arg9)) →
    ∃ (v0 : (c : Dev Cert.GdnIdeal.nD) → Buf (Elt Ideal) ((c.tc : Thread Cert.GdnIdeal.nD Cert.GdnIdeal.τ).loc Cert.GdnIdeal.main_v4)),
      θ_run (Cert.GdnIdeal.defs (F := Ideal)) (onTc (τ := Cert.GdnIdeal.τ) (Cert.GdnIdeal.main (F := Ideal))) ⟨m, fun _ => 0, g⟩ (fun r => ∀ c : Dev Cert.GdnIdeal.nD,
          r.2.mem ((c.tc : Thread Cert.GdnIdeal.nD Cert.GdnIdeal.τ).loc Cert.GdnIdeal.main_v4) = v0 c
          ∧ r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
          ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
          ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
          ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
          ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4)
          ∧ r.2.mem ((c.tc : Thread Cert.GdnIdeal.nD Cert.GdnIdeal.τ).loc Cert.GdnIdeal.main_arg5) = m ((c.tc : Thread Cert.GdnIdeal.nD Cert.GdnIdeal.τ).loc Cert.GdnIdeal.main_arg5)
          ∧ r.2.mem ((c.tc : Thread Cert.GdnIdeal.nD Cert.GdnIdeal.τ).loc Cert.GdnIdeal.main_arg6) = m ((c.tc : Thread Cert.GdnIdeal.nD Cert.GdnIdeal.τ).loc Cert.GdnIdeal.main_arg6)
          ∧ r.2.mem ((c.tc : Thread Cert.GdnIdeal.nD Cert.GdnIdeal.τ).loc Cert.GdnIdeal.main_arg7) = m ((c.tc : Thread Cert.GdnIdeal.nD Cert.GdnIdeal.τ).loc Cert.GdnIdeal.main_arg7)
          ∧ r.2.mem ((c.tc : Thread Cert.GdnIdeal.nD Cert.GdnIdeal.τ).loc Cert.GdnIdeal.main_arg8) = m ((c.tc : Thread Cert.GdnIdeal.nD Cert.GdnIdeal.τ).loc Cert.GdnIdeal.main_arg8)
          ∧ r.2.mem ((c.tc : Thread Cert.GdnIdeal.nD Cert.GdnIdeal.τ).loc Cert.GdnIdeal.main_arg9) = m ((c.tc : Thread Cert.GdnIdeal.nD Cert.GdnIdeal.τ).loc Cert.GdnIdeal.main_arg9))
      ∧ θ_run (Cert.GdnRefIdeal.defs (F := Ideal)) (onTc (τ := Cert.GdnRefIdeal.τ) (Cert.GdnRefIdeal.main (F := Ideal))) ⟨m', fun _ => 0, g'⟩ (fun r => ∀ c : Dev Cert.GdnRefIdeal.nD,
          r.2.mem ((c.tc : Thread Cert.GdnRefIdeal.nD Cert.GdnRefIdeal.τ).loc Cert.GdnRefIdeal.main_v208) = v0 c
          ∧ r.2.mem ((c.tc : Thread Cert.GdnRefIdeal.nD Cert.GdnRefIdeal.τ).loc Cert.GdnRefIdeal.main_arg0) = m' ((c.tc : Thread Cert.GdnRefIdeal.nD Cert.GdnRefIdeal.τ).loc Cert.GdnRefIdeal.main_arg0)
          ∧ r.2.mem ((c.tc : Thread Cert.GdnRefIdeal.nD Cert.GdnRefIdeal.τ).loc Cert.GdnRefIdeal.main_arg1) = m' ((c.tc : Thread Cert.GdnRefIdeal.nD Cert.GdnRefIdeal.τ).loc Cert.GdnRefIdeal.main_arg1)
          ∧ r.2.mem ((c.tc : Thread Cert.GdnRefIdeal.nD Cert.GdnRefIdeal.τ).loc Cert.GdnRefIdeal.main_arg2) = m' ((c.tc : Thread Cert.GdnRefIdeal.nD Cert.GdnRefIdeal.τ).loc Cert.GdnRefIdeal.main_arg2)
          ∧ r.2.mem ((c.tc : Thread Cert.GdnRefIdeal.nD Cert.GdnRefIdeal.τ).loc Cert.GdnRefIdeal.main_arg3) = m' ((c.tc : Thread Cert.GdnRefIdeal.nD Cert.GdnRefIdeal.τ).loc Cert.GdnRefIdeal.main_arg3)
          ∧ r.2.mem ((c.tc : Thread Cert.GdnRefIdeal.nD Cert.GdnRefIdeal.τ).loc Cert.GdnRefIdeal.main_arg4) = m' ((c.tc : Thread Cert.GdnRefIdeal.nD Cert.GdnRefIdeal.τ).loc Cert.GdnRefIdeal.main_arg4)
          ∧ r.2.mem ((c.tc : Thread Cert.GdnRefIdeal.nD Cert.GdnRefIdeal.τ).loc Cert.GdnRefIdeal.main_arg5) = m' ((c.tc : Thread Cert.GdnRefIdeal.nD Cert.GdnRefIdeal.τ).loc Cert.GdnRefIdeal.main_arg5)
          ∧ r.2.mem ((c.tc : Thread Cert.GdnRefIdeal.nD Cert.GdnRefIdeal.τ).loc Cert.GdnRefIdeal.main_arg6) = m' ((c.tc : Thread Cert.GdnRefIdeal.nD Cert.GdnRefIdeal.τ).loc Cert.GdnRefIdeal.main_arg6)
          ∧ r.2.mem ((c.tc : Thread Cert.GdnRefIdeal.nD Cert.GdnRefIdeal.τ).loc Cert.GdnRefIdeal.main_arg7) = m' ((c.tc : Thread Cert.GdnRefIdeal.nD Cert.GdnRefIdeal.τ).loc Cert.GdnRefIdeal.main_arg7)
          ∧ r.2.mem ((c.tc : Thread Cert.GdnRefIdeal.nD Cert.GdnRefIdeal.τ).loc Cert.GdnRefIdeal.main_arg8) = m' ((c.tc : Thread Cert.GdnRefIdeal.nD Cert.GdnRefIdeal.τ).loc Cert.GdnRefIdeal.main_arg8)
          ∧ r.2.mem ((c.tc : Thread Cert.GdnRefIdeal.nD Cert.GdnRefIdeal.τ).loc Cert.GdnRefIdeal.main_arg9) = m' ((c.tc : Thread Cert.GdnRefIdeal.nD Cert.GdnRefIdeal.τ).loc Cert.GdnRefIdeal.main_arg9))

def preserves_RwkvPost_RwkvPostIdeal : Prop :=
  True

def algebraic_RwkvPostIdeal_RwkvPostRefIdeal_pre_finite_o [hRwkvPostIdeal : Cert.RwkvPostIdeal.Facts] [hRwkvPostRefIdeal : Cert.RwkvPostRefIdeal.Facts] [hPre_finite_o : Cert.Pre_finite_o.Facts] : Prop :=
  ∀ (m : (ℓ : Loc Cert.RwkvPostIdeal.nD Cert.RwkvPostIdeal.τ Cert.RwkvPostIdeal.sig) → Buf (Elt Ideal) ℓ) (g : Dev Cert.RwkvPostIdeal.nD → PrngReg)
    (m' : (ℓ : Loc Cert.RwkvPostRefIdeal.nD Cert.RwkvPostRefIdeal.τ Cert.RwkvPostRefIdeal.sig) → Buf (Elt Ideal) ℓ) (g' : Dev Cert.RwkvPostRefIdeal.nD → PrngReg), Pre_RwkvPostIdeal_finite_o m →
    (∀ c : Dev Cert.RwkvPostIdeal.nD,
      m' ((c.tc : Thread Cert.RwkvPostRefIdeal.nD Cert.RwkvPostRefIdeal.τ).loc Cert.RwkvPostRefIdeal.main_arg0) = m ((c.tc : Thread Cert.RwkvPostIdeal.nD Cert.RwkvPostIdeal.τ).loc Cert.RwkvPostIdeal.main_arg0)
      ∧ m' ((c.tc : Thread Cert.RwkvPostRefIdeal.nD Cert.RwkvPostRefIdeal.τ).loc Cert.RwkvPostRefIdeal.main_arg1) = m ((c.tc : Thread Cert.RwkvPostIdeal.nD Cert.RwkvPostIdeal.τ).loc Cert.RwkvPostIdeal.main_arg1)
      ∧ m' ((c.tc : Thread Cert.RwkvPostRefIdeal.nD Cert.RwkvPostRefIdeal.τ).loc Cert.RwkvPostRefIdeal.main_arg2) = m ((c.tc : Thread Cert.RwkvPostIdeal.nD Cert.RwkvPostIdeal.τ).loc Cert.RwkvPostIdeal.main_arg2)
      ∧ m' ((c.tc : Thread Cert.RwkvPostRefIdeal.nD Cert.RwkvPostRefIdeal.τ).loc Cert.RwkvPostRefIdeal.main_arg3) = m ((c.tc : Thread Cert.RwkvPostIdeal.nD Cert.RwkvPostIdeal.τ).loc Cert.RwkvPostIdeal.main_arg3)
      ∧ m' ((c.tc : Thread Cert.RwkvPostRefIdeal.nD Cert.RwkvPostRefIdeal.τ).loc Cert.RwkvPostRefIdeal.main_arg4) = m ((c.tc : Thread Cert.RwkvPostIdeal.nD Cert.RwkvPostIdeal.τ).loc Cert.RwkvPostIdeal.main_arg4)) →
    ∃ (v0 : (c : Dev Cert.RwkvPostIdeal.nD) → Buf (Elt Ideal) ((c.tc : Thread Cert.RwkvPostIdeal.nD Cert.RwkvPostIdeal.τ).loc Cert.RwkvPostIdeal.main_v12)),
      θ_run (Cert.RwkvPostIdeal.defs (F := Ideal)) (onTc (τ := Cert.RwkvPostIdeal.τ) (Cert.RwkvPostIdeal.main (F := Ideal))) ⟨m, fun _ => 0, g⟩ (fun r => ∀ c : Dev Cert.RwkvPostIdeal.nD,
          r.2.mem ((c.tc : Thread Cert.RwkvPostIdeal.nD Cert.RwkvPostIdeal.τ).loc Cert.RwkvPostIdeal.main_v12) = v0 c
          ∧ r.2.mem ((c.tc : Thread Cert.RwkvPostIdeal.nD Cert.RwkvPostIdeal.τ).loc Cert.RwkvPostIdeal.main_arg0) = m ((c.tc : Thread Cert.RwkvPostIdeal.nD Cert.RwkvPostIdeal.τ).loc Cert.RwkvPostIdeal.main_arg0)
          ∧ r.2.mem ((c.tc : Thread Cert.RwkvPostIdeal.nD Cert.RwkvPostIdeal.τ).loc Cert.RwkvPostIdeal.main_arg1) = m ((c.tc : Thread Cert.RwkvPostIdeal.nD Cert.RwkvPostIdeal.τ).loc Cert.RwkvPostIdeal.main_arg1)
          ∧ r.2.mem ((c.tc : Thread Cert.RwkvPostIdeal.nD Cert.RwkvPostIdeal.τ).loc Cert.RwkvPostIdeal.main_arg2) = m ((c.tc : Thread Cert.RwkvPostIdeal.nD Cert.RwkvPostIdeal.τ).loc Cert.RwkvPostIdeal.main_arg2)
          ∧ r.2.mem ((c.tc : Thread Cert.RwkvPostIdeal.nD Cert.RwkvPostIdeal.τ).loc Cert.RwkvPostIdeal.main_arg3) = m ((c.tc : Thread Cert.RwkvPostIdeal.nD Cert.RwkvPostIdeal.τ).loc Cert.RwkvPostIdeal.main_arg3)
          ∧ r.2.mem ((c.tc : Thread Cert.RwkvPostIdeal.nD Cert.RwkvPostIdeal.τ).loc Cert.RwkvPostIdeal.main_arg4) = m ((c.tc : Thread Cert.RwkvPostIdeal.nD Cert.RwkvPostIdeal.τ).loc Cert.RwkvPostIdeal.main_arg4))
      ∧ θ_run (Cert.RwkvPostRefIdeal.defs (F := Ideal)) (onTc (τ := Cert.RwkvPostRefIdeal.τ) (Cert.RwkvPostRefIdeal.main (F := Ideal))) ⟨m', fun _ => 0, g'⟩ (fun r => ∀ c : Dev Cert.RwkvPostRefIdeal.nD,
          r.2.mem ((c.tc : Thread Cert.RwkvPostRefIdeal.nD Cert.RwkvPostRefIdeal.τ).loc Cert.RwkvPostRefIdeal.main_v28) = v0 c
          ∧ r.2.mem ((c.tc : Thread Cert.RwkvPostRefIdeal.nD Cert.RwkvPostRefIdeal.τ).loc Cert.RwkvPostRefIdeal.main_arg0) = m' ((c.tc : Thread Cert.RwkvPostRefIdeal.nD Cert.RwkvPostRefIdeal.τ).loc Cert.RwkvPostRefIdeal.main_arg0)
          ∧ r.2.mem ((c.tc : Thread Cert.RwkvPostRefIdeal.nD Cert.RwkvPostRefIdeal.τ).loc Cert.RwkvPostRefIdeal.main_arg1) = m' ((c.tc : Thread Cert.RwkvPostRefIdeal.nD Cert.RwkvPostRefIdeal.τ).loc Cert.RwkvPostRefIdeal.main_arg1)
          ∧ r.2.mem ((c.tc : Thread Cert.RwkvPostRefIdeal.nD Cert.RwkvPostRefIdeal.τ).loc Cert.RwkvPostRefIdeal.main_arg2) = m' ((c.tc : Thread Cert.RwkvPostRefIdeal.nD Cert.RwkvPostRefIdeal.τ).loc Cert.RwkvPostRefIdeal.main_arg2)
          ∧ r.2.mem ((c.tc : Thread Cert.RwkvPostRefIdeal.nD Cert.RwkvPostRefIdeal.τ).loc Cert.RwkvPostRefIdeal.main_arg3) = m' ((c.tc : Thread Cert.RwkvPostRefIdeal.nD Cert.RwkvPostRefIdeal.τ).loc Cert.RwkvPostRefIdeal.main_arg3)
          ∧ r.2.mem ((c.tc : Thread Cert.RwkvPostRefIdeal.nD Cert.RwkvPostRefIdeal.τ).loc Cert.RwkvPostRefIdeal.main_arg4) = m' ((c.tc : Thread Cert.RwkvPostRefIdeal.nD Cert.RwkvPostRefIdeal.τ).loc Cert.RwkvPostRefIdeal.main_arg4))

def Claim : Prop :=
  ∃ (hXattn : Cert.Xattn.Facts) (hXattnIdeal : Cert.XattnIdeal.Facts) (hXattnRefIdeal : Cert.XattnRefIdeal.Facts) (hMlp : Cert.Mlp.Facts) (hMlpIdeal : Cert.MlpIdeal.Facts) (hMlpRefIdeal : Cert.MlpRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hMemKv : Cert.MemKv.Facts) (hMemKvIdeal : Cert.MemKvIdeal.Facts) (hMemKvRefIdeal : Cert.MemKvRefIdeal.Facts) (hGdn : Cert.Gdn.Facts) (hGdnIdeal : Cert.GdnIdeal.Facts) (hGdnRefIdeal : Cert.GdnRefIdeal.Facts) (hRwkvPost : Cert.RwkvPost.Facts) (hRwkvPostIdeal : Cert.RwkvPostIdeal.Facts) (hRwkvPostRefIdeal : Cert.RwkvPostRefIdeal.Facts) (hPre_finite : Cert.Pre_finite.Facts) (hPre_finite_o : Cert.Pre_finite_o.Facts),
    quiescent_Xattn (hXattn := hXattn)
    ∧ quiescent_XattnIdeal (hXattnIdeal := hXattnIdeal)
    ∧ quiescent_XattnRefIdeal (hXattnRefIdeal := hXattnRefIdeal)
    ∧ quiescent_Mlp (hMlp := hMlp)
    ∧ quiescent_MlpIdeal (hMlpIdeal := hMlpIdeal)
    ∧ quiescent_MlpRefIdeal (hMlpRefIdeal := hMlpRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Gdn (hGdn := hGdn)
    ∧ quiescent_GdnIdeal (hGdnIdeal := hGdnIdeal)
    ∧ quiescent_GdnIdeal_pre_finite (hGdnIdeal := hGdnIdeal) (hPre_finite := hPre_finite)
    ∧ quiescent_GdnRefIdeal (hGdnRefIdeal := hGdnRefIdeal)
    ∧ quiescent_GdnRefIdeal_pre_finite (hGdnRefIdeal := hGdnRefIdeal) (hPre_finite := hPre_finite)
    ∧ quiescent_RwkvPost (hRwkvPost := hRwkvPost)
    ∧ quiescent_RwkvPostIdeal (hRwkvPostIdeal := hRwkvPostIdeal)
    ∧ quiescent_RwkvPostIdeal_pre_finite_o (hRwkvPostIdeal := hRwkvPostIdeal) (hPre_finite_o := hPre_finite_o)
    ∧ quiescent_RwkvPostRefIdeal (hRwkvPostRefIdeal := hRwkvPostRefIdeal)
    ∧ quiescent_RwkvPostRefIdeal_pre_finite_o (hRwkvPostRefIdeal := hRwkvPostRefIdeal) (hPre_finite_o := hPre_finite_o)
    ∧ preserves_Xattn_XattnIdeal
    ∧ algebraic_XattnIdeal_XattnRefIdeal (hXattnIdeal := hXattnIdeal) (hXattnRefIdeal := hXattnRefIdeal)
    ∧ preserves_Mlp_MlpIdeal
    ∧ algebraic_MlpIdeal_MlpRefIdeal (hMlpIdeal := hMlpIdeal) (hMlpRefIdeal := hMlpRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_MemKv_MemKvIdeal
    ∧ algebraic_MemKvIdeal_MemKvRefIdeal (hMemKvIdeal := hMemKvIdeal) (hMemKvRefIdeal := hMemKvRefIdeal)
    ∧ preserves_Gdn_GdnIdeal
    ∧ algebraic_GdnIdeal_GdnRefIdeal_pre_finite (hGdnIdeal := hGdnIdeal) (hGdnRefIdeal := hGdnRefIdeal) (hPre_finite := hPre_finite)
    ∧ preserves_RwkvPost_RwkvPostIdeal
    ∧ algebraic_RwkvPostIdeal_RwkvPostRefIdeal_pre_finite_o (hRwkvPostIdeal := hRwkvPostIdeal) (hRwkvPostRefIdeal := hRwkvPostRefIdeal) (hPre_finite_o := hPre_finite_o)
-- ==== Pre_finite.lean ====
abbrev S16384x1024 : Shape := ⟨2, ![16384, 1024]⟩
abbrev S16384x8 : Shape := ⟨2, ![16384, 8]⟩
abbrev S16384x7680 : Shape := ⟨2, ![16384, 7680]⟩
abbrev S128 : Shape := ⟨1, ![128]⟩
abbrev S16384x8x1 : Shape := ⟨3, ![16384, 8, 1]⟩
abbrev S16384x8x128 : Shape := ⟨3, ![16384, 8, 128]⟩
abbrev S_ : Shape := ⟨0, ![]⟩

class Facts : Prop where
  bcast_S16384x8_S16384x8x1_0_1 : S16384x8.BroadcastsInDim S16384x8x1 (![0, 1] : Fin 2 → Fin S16384x8x1.rank)
  bcast_S16384x8x1_S16384x8x128_0_1_2 : S16384x8x1.BroadcastsInDim S16384x8x128 (![0, 1, 2] : Fin 3 → Fin S16384x8x128.rank)
  shapeCasts_S16384x8x128_S16384x1024 : S16384x8x128.ShapeCasts S16384x1024
  bitsLt_bf16_f32 : FTy.bits .bf16 < FTy.bits .f32
  bcast_S_S16384x1024 : S_.BroadcastsInDim S16384x1024 (![] : Fin 0 → Fin S16384x1024.rank)

variable [Facts]

def fn_part1 {F : FTy → Type} [FloatOps F] (main_v6 : IVec S16384x1024 1) (main_v10 : IVec S16384x1024 1) (main_v14 : IVec S16384x1024 1) (main_v18 : IVec S16384x1024 1) (main_v19 : FVec F S16384x1024 .f32) : IVec S16384x1024 1 :=
  let main_cst_3 : FVec F S_ .f32 := constant S_ .f32 0x7F800000#32
  let main_v20 : FVec F S16384x1024 .f32 := broadcastInDim S16384x1024 ![] bcast_S_S16384x1024 main_cst_3
  let main_v21 : IVec S16384x1024 1 := cmpf .olt main_v19 main_v20
  let main_v22 : IVec S16384x1024 1 := andi main_v6 main_v10
  let main_v23 : IVec S16384x1024 1 := andi main_v22 main_v14
  let main_v24 : IVec S16384x1024 1 := andi main_v23 main_v18
  let main_v25 : IVec S16384x1024 1 := andi main_v24 main_v21
  main_v25

def fn {F : FTy → Type} [FloatOps F] (main_arg0 : FVec F S16384x1024 .bf16) (main_arg1 : FVec F S16384x1024 .bf16) (main_arg2 : FVec F S16384x1024 .bf16) (main_arg3 : FVec F S16384x1024 .bf16) (main_arg4 : FVec F S16384x1024 .bf16) (main_arg5 : FVec F S16384x1024 .bf16) (main_arg6 : FVec F S16384x1024 .bf16) (main_arg7 : FVec F S16384x8 .f32) (main_arg8 : FVec F S16384x7680 .f32) (main_arg9 : FVec F S128 .f32) : IVec S16384x1024 1 :=
  let main_v0 : FVec F S16384x8x1 .f32 := broadcastInDim S16384x8x1 ![0, 1] bcast_S16384x8_S16384x8x1_0_1 main_arg7
  let main_v1 : FVec F S16384x8x128 .f32 := broadcastInDim S16384x8x128 ![0, 1, 2] bcast_S16384x8x1_S16384x8x128_0_1_2 main_v0
  let main_v2 : FVec F S16384x1024 .f32 := shapeCast S16384x1024 main_v1 shapeCasts_S16384x8x128_S16384x1024
  let main_v3 : FVec F S16384x1024 .f32 := (extf .f32 · bitsLt_bf16_f32) main_arg1
  let main_v4 : FVec F S16384x1024 .f32 := Host.absf main_v3
  let main_cst : FVec F S_ .f32 := constant S_ .f32 0x7F800000#32
  let main_v5 : FVec F S16384x1024 .f32 := broadcastInDim S16384x1024 ![] bcast_S_S16384x1024 main_cst
  let main_v6 : IVec S16384x1024 1 := cmpf .olt main_v4 main_v5
  let main_v7 : FVec F S16384x1024 .f32 := (extf .f32 · bitsLt_bf16_f32) main_arg2
  let main_v8 : FVec F S16384x1024 .f32 := Host.absf main_v7
  let main_cst_0 : FVec F S_ .f32 := constant S_ .f32 0x7F800000#32
  let main_v9 : FVec F S16384x1024 .f32 := broadcastInDim S16384x1024 ![] bcast_S_S16384x1024 main_cst_0
  let main_v10 : IVec S16384x1024 1 := cmpf .olt main_v8 main_v9
  let main_v11 : FVec F S16384x1024 .f32 := (extf .f32 · bitsLt_bf16_f32) main_arg3
  let main_v12 : FVec F S16384x1024 .f32 := Host.absf main_v11
  let main_cst_1 : FVec F S_ .f32 := constant S_ .f32 0x7F800000#32
  let main_v13 : FVec F S16384x1024 .f32 := broadcastInDim S16384x1024 ![] bcast_S_S16384x1024 main_cst_1
  let main_v14 : IVec S16384x1024 1 := cmpf .olt main_v12 main_v13
  let main_v15 : FVec F S16384x1024 .f32 := (extf .f32 · bitsLt_bf16_f32) main_arg4
  let main_v16 : FVec F S16384x1024 .f32 := Host.absf main_v15
  let main_cst_2 : FVec F S_ .f32 := constant S_ .f32 0x7F800000#32
  let main_v17 : FVec F S16384x1024 .f32 := broadcastInDim S16384x1024 ![] bcast_S_S16384x1024 main_cst_2
  let main_v18 : IVec S16384x1024 1 := cmpf .olt main_v16 main_v17
  let main_v19 : FVec F S16384x1024 .f32 := Host.absf main_v2
  fn_part1 (F := F) main_v6 main_v10 main_v14 main_v18 main_v19
-- ==== Pre_finite_o.lean ====
abbrev S16384x1024 : Shape := ⟨2, ![16384, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)

variable [Facts]

def fn {F : FTy → Type} [FloatOps F] (main_arg0 : FVec F S16384x1024 .f32) (main_arg1 : FVec F S16384x1024 .f32) (main_arg2 : FVec F S16384x1024 .f32) (main_arg3 : FVec F S1024 .f32) (main_arg4 : FVec F S1024 .f32) : IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  main_v2
-- ==== Xattn.lean ====
abbrev S16384x2048 : Shape := ⟨2, ![16384, 2048]⟩
abbrev S2048 : Shape := ⟨1, ![2048]⟩
abbrev S2048x2048 : Shape := ⟨2, ![2048, 2048]⟩
abbrev S256x4096 : Shape := ⟨2, ![256, 4096]⟩
abbrev S256x2048 : Shape := ⟨2, ![256, 2048]⟩
abbrev S1x2048 : Shape := ⟨2, ![1, 2048]⟩
abbrev S512x2048 : Shape := ⟨2, ![512, 2048]⟩
abbrev S2048x512 : Shape := ⟨2, ![2048, 512]⟩
abbrev S256x512 : Shape := ⟨2, ![256, 512]⟩
abbrev S512 : Shape := ⟨1, ![512]⟩
abbrev S512x1 : Shape := ⟨2, ![512, 1]⟩
abbrev S512x512 : Shape := ⟨2, ![512, 512]⟩
abbrev S512x256 : Shape := ⟨2, ![512, 256]⟩

abbrev nBuf : Space → Nat
  | .hbm => 11
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2048, .f32⟩
  | .hbm, ⟨3, _⟩ => ⟨S256x4096, .bf16⟩
  | .hbm, ⟨4, _⟩ => ⟨S2048x2048, .f32⟩
  | .hbm, ⟨5, _⟩ => ⟨S2048x2048, .bf16⟩
  | .hbm, ⟨6, _⟩ => ⟨S256x2048, .bf16⟩
  | .hbm, ⟨7, _⟩ => ⟨S256x2048, .bf16⟩
  | .hbm, ⟨8, _⟩ => ⟨S2048x2048, .bf16⟩
  | .hbm, ⟨9, _⟩ => ⟨S1x2048, .f32⟩
  | .hbm, ⟨10, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v35 : BitVec 1 := Scalar.cmpi .eq arg1 c3_i32
  let v36 : BitVec 32 := Scalar.extui v35
  let c0_i32_20 : BitVec 32 := 0#32
  let v37 : BitVec 1 := Scalar.cmpi .ne v36 c0_i32_20
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== XattnRefIdeal.lean ====
abbrev S16384x2048 : Shape := ⟨2, ![16384, 2048]⟩
abbrev S2048 : Shape := ⟨1, ![2048]⟩
abbrev S2048x2048 : Shape := ⟨2, ![2048, 2048]⟩
abbrev S256x4096 : Shape := ⟨2, ![256, 4096]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x4x512 : Shape := ⟨3, ![16384, 4, 512]⟩
abbrev S256x2048 : Shape := ⟨2, ![256, 2048]⟩
abbrev S256x4x512 : Shape := ⟨3, ![256, 4, 512]⟩
abbrev S4x16384x256 : Shape := ⟨3, ![4, 16384, 256]⟩
abbrev S4x16384 : Shape := ⟨2, ![4, 16384]⟩
abbrev S4x16384x1 : Shape := ⟨3, ![4, 16384, 1]⟩
abbrev S4x512x16384 : Shape := ⟨3, ![4, 512, 16384]⟩

abbrev nBuf : Space → Nat
  | .hbm => 51
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2048, .f32⟩
  | .hbm, ⟨3, _⟩ => ⟨S256x4096, .bf16⟩
  | .hbm, ⟨4, _⟩ => ⟨S2048x2048, .f32⟩
  | .hbm, ⟨5, _⟩ => ⟨S256x4096, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x4x512, .f32⟩
  | .hbm, ⟨24, _⟩ => ⟨S256x2048, .f32⟩
  | .hbm, ⟨25, _⟩ => ⟨S256x4x512, .f32⟩
  | .hbm, ⟨26, _⟩ => ⟨S256x2048, .f32⟩
  | .hbm, ⟨27, _⟩ => ⟨S256x4x512, .f32⟩
  | .hbm, ⟨28, _⟩ => ⟨S4x16384x256, .f32⟩
  | .hbm, ⟨29, _⟩ => ⟨S_, .f32⟩
  | .hbm, ⟨30, _⟩ => ⟨S4x16384x256, .f32⟩
  | .hbm, ⟨31, _⟩ => ⟨S4x16384x256, .f32⟩
  | .hbm, ⟨32, _⟩ => ⟨S_, .f32⟩
  | .hbm, ⟨33, _⟩ => ⟨S4x16384, .f32⟩
  | .hbm, ⟨34, _⟩ => ⟨S_, .f32⟩
  | .hbm, ⟨35, _⟩ => ⟨S4x16384, .f32⟩
  | .hbm, ⟨36, _⟩ => ⟨S4x16384, .f32⟩
  | .hbm, ⟨37, _⟩ => ⟨S4x16384x1, .f32⟩
  | .hbm, ⟨38, _⟩ => ⟨S4x16384x256, .f32⟩
  | .hbm, ⟨39, _⟩ => ⟨S4x16384x256, .f32⟩
  | .hbm, ⟨40, _⟩ => ⟨S4x16384x256, .f32⟩
  | .hbm, ⟨41, _⟩ => ⟨S_, .f32⟩
  | .hbm, ⟨42, _⟩ => ⟨S4x16384, .f32⟩
  | .hbm, ⟨43, _⟩ => ⟨S4x16384x1, .f32⟩
  | .hbm, ⟨44, _⟩ => ⟨S4x16384x256, .f32⟩
  | .hbm, ⟨45, _⟩ => ⟨S4x16384x256, .f32⟩
  | .hbm, ⟨46, _⟩ => ⟨S4x512x16384, .f32⟩
  | .hbm, ⟨47, _⟩ => ⟨S16384x4x512, .f32⟩
  | .hbm, ⟨48, _⟩ => ⟨S16384x2048, .f32⟩
  | .hbm, ⟨49, _⟩ => ⟨S16384x2048, .f32⟩
  | .hbm, ⟨50, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Mlp.lean ====
abbrev S16384x2048 : Shape := ⟨2, ![16384, 2048]⟩
abbrev S2048 : Shape := ⟨1, ![2048]⟩
abbrev S2048x8192 : Shape := ⟨2, ![2048, 8192]⟩
abbrev S8192x2048 : Shape := ⟨2, ![8192, 2048]⟩
abbrev S1x2048 : Shape := ⟨2, ![1, 2048]⟩
abbrev S512x2048 : Shape := ⟨2, ![512, 2048]⟩
abbrev S2048x1024 : Shape := ⟨2, ![2048, 1024]⟩
abbrev S1024x2048 : Shape := ⟨2, ![1024, 2048]⟩
abbrev S512 : Shape := ⟨1, ![512]⟩
abbrev S512x1 : Shape := ⟨2, ![512, 1]⟩
abbrev S512x1024 : Shape := ⟨2, ![512, 1024]⟩

abbrev nBuf : Space → Nat
  | .hbm => 10
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S2048x8192, .bf16⟩
  | .hbm, ⟨6, _⟩ => ⟨S8192x2048, .bf16⟩
  | .hbm, ⟨7, _⟩ => ⟨S1x2048, .f32⟩
  | .hbm, ⟨8, _⟩ => ⟨S1x2048, .f32⟩
  | .hbm, ⟨9, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x2048, .bf16⟩
  | .local _ .vmem, ⟨6, _⟩ => ⟨S1024x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpRefIdeal.lean ====
abbrev S16384x2048 : Shape := ⟨2, ![16384, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x8192 : Shape := ⟨2, ![16384, 8192]⟩

abbrev nBuf : Space → Nat
  | .hbm => 44
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x8192, .f32⟩
  | .hbm, ⟨22, _⟩ => ⟨S_, .f32⟩
  | .hbm, ⟨23, _⟩ => ⟨S16384x8192, .f32⟩
  | .hbm, ⟨24, _⟩ => ⟨S16384x8192, .f32⟩
  | .hbm, ⟨25, _⟩ => ⟨S16384x8192, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x2048, .f32⟩
  | .hbm, ⟨40, _⟩ => ⟨S16384x2048, .f32⟩
  | .hbm, ⟨41, _⟩ => ⟨S1x2048, .f32⟩
  | .hbm, ⟨42, _⟩ => ⟨S16384x2048, .f32⟩
  | .hbm, ⟨43, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== InProj.lean ====
abbrev S16384x2048 : Shape := ⟨2, ![16384, 2048]⟩
abbrev S2048 : Shape := ⟨1, ![2048]⟩
abbrev S2048x7680 : Shape := ⟨2, ![2048, 7680]⟩
abbrev S1x2048 : Shape := ⟨2, ![1, 2048]⟩
abbrev S16384x7680 : Shape := ⟨2, ![16384, 7680]⟩
abbrev S512x2048 : Shape := ⟨2, ![512, 2048]⟩
abbrev S2048x1536 : Shape := ⟨2, ![2048, 1536]⟩
abbrev S512x1536 : Shape := ⟨2, ![512, 1536]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x7680, .f32⟩
  | .hbm, ⟨3, _⟩ => ⟨S2048x7680, .bf16⟩
  | .hbm, ⟨4, _⟩ => ⟨S1x2048, .f32⟩
  | .hbm, ⟨5, _⟩ => ⟨S16384x7680, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1536, .bf16⟩
  | .local _ .vmem, ⟨4, _⟩ => ⟨S2048x1536, .bf16⟩
  | .local _ .vmem, ⟨5, _⟩ => ⟨S512x1536, .f32⟩
  | .local _ .vmem, ⟨6, _⟩ => ⟨S512x1536, .f32⟩
  | .local _ .vmem, ⟨7, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S16384x2048 : Shape := ⟨2, ![16384, 2048]⟩
abbrev S2048 : Shape := ⟨1, ![2048]⟩
abbrev S2048x7680 : Shape := ⟨2, ![2048, 7680]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x7680 : Shape := ⟨2, ![16384, 7680]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x7680, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x7680, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== OutProj.lean ====
abbrev S16384x2048 : Shape := ⟨2, ![16384, 2048]⟩
abbrev S16384x1024 : Shape := ⟨2, ![16384, 1024]⟩
abbrev S2048x2048 : Shape := ⟨2, ![2048, 2048]⟩
abbrev S1024x2048 : Shape := ⟨2, ![1024, 2048]⟩
abbrev S512x2048 : Shape := ⟨2, ![512, 2048]⟩
abbrev S512x1024 : Shape := ⟨2, ![512, 1024]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x2048, .f32⟩
  | .hbm, ⟨4, _⟩ => ⟨S2048x2048, .bf16⟩
  | .hbm, ⟨5, _⟩ => ⟨S1024x2048, .bf16⟩
  | .hbm, ⟨6, _⟩ => ⟨S1024x2048, .bf16⟩
  | .hbm, ⟨7, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S512x2048, .f32⟩
  | .local _ .vmem, ⟨9, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjRefIdeal.lean ====
abbrev S16384x2048 : Shape := ⟨2, ![16384, 2048]⟩
abbrev S16384x1024 : Shape := ⟨2, ![16384, 1024]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x2048, .f32⟩
  | .hbm, ⟨4, _⟩ => ⟨S16384x2048, .bf16⟩
  | .hbm, ⟨5, _⟩ => ⟨S16384x2048, .f32⟩
  | .hbm, ⟨6, _⟩ => ⟨S16384x2048, .f32⟩
  | .hbm, ⟨7, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== MemKv.lean ====
abbrev S256x2048 : Shape := ⟨2, ![256, 2048]⟩
abbrev S2048 : Shape := ⟨1, ![2048]⟩
abbrev S2048x2048 : Shape := ⟨2, ![2048, 2048]⟩
abbrev S2048x4096 : Shape := ⟨2, ![2048, 4096]⟩
abbrev S1x2048 : Shape := ⟨2, ![1, 2048]⟩
abbrev S256x4096 : Shape := ⟨2, ![256, 4096]⟩
abbrev S2048x1024 : Shape := ⟨2, ![2048, 1024]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 7
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S2048x4096, .f32⟩
  | .hbm, ⟨5, _⟩ => ⟨S2048x4096, .bf16⟩
  | .hbm, ⟨6, _⟩ => ⟨S1x2048, .f32⟩
  | .hbm, ⟨7, _⟩ => ⟨S256x4096, .bf16⟩
  | .local _ .vmem, ⟨0, _⟩ => ⟨S256x2048, .f32⟩
  | .local _ .vmem, ⟨1, _⟩ => ⟨S1x2048, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemKvRefIdeal.lean ====
abbrev S256x2048 : Shape := ⟨2, ![256, 2048]⟩
abbrev S2048 : Shape := ⟨1, ![2048]⟩
abbrev S2048x2048 : Shape := ⟨2, ![2048, 2048]⟩
abbrev S_ : Shape := ⟨0, ![]⟩
abbrev S256 : Shape := ⟨1, ![256]⟩
abbrev S256x1 : Shape := ⟨2, ![256, 1]⟩
abbrev S1x2048 : Shape := ⟨2, ![1, 2048]⟩
abbrev S256x4096 : Shape := ⟨2, ![256, 4096]⟩

abbrev nBuf : Space → Nat
  | .hbm => 24
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x2048, .f32⟩
  | .hbm, ⟨16, _⟩ => ⟨S256x2048, .f32⟩
  | .hbm, ⟨17, _⟩ => ⟨S1x2048, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S256x4096, .f32⟩
  | .hbm, ⟨23, _⟩ => ⟨S256x4096, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Gdn.lean ====
abbrev S16384x1024 : Shape := ⟨2, ![16384, 1024]⟩
abbrev S16384x8 : Shape := ⟨2, ![16384, 8]⟩
abbrev S16384x7680 : Shape := ⟨2, ![16384, 7680]⟩
abbrev S128 : Shape := ⟨1, ![128]⟩
abbrev S16384x8x1 : Shape := ⟨3, ![16384, 8, 1]⟩
abbrev S16384x8x128 : Shape := ⟨3, ![16384, 8, 128]⟩
abbrev S1x128 : Shape := ⟨2, ![1, 128]⟩
abbrev S128x1024 : Shape := ⟨2, ![128, 1024]⟩
abbrev S8x128x128 : Shape := ⟨3, ![8, 128, 128]⟩
abbrev S128x128 : Shape := ⟨2, ![128, 128]⟩
abbrev S64x128 : Shape := ⟨2, ![64, 128]⟩
abbrev S256x128 : Shape := ⟨2, ![256, 128]⟩
abbrev S128x256 : Shape := ⟨2, ![128, 256]⟩
abbrev S1x128x128 : Shape := ⟨3, ![1, 128, 128]⟩
abbrev S128x1 : Shape := ⟨2, ![128, 1]⟩

abbrev nBuf : Space → Nat
  | .hbm => 15
  | .vmem => 22
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S16384x1024, .bf16⟩
  | .hbm, ⟨7, _⟩ => ⟨S16384x8, .f32⟩
  | .hbm, ⟨8, _⟩ => ⟨S16384x7680, .f32⟩
  | .hbm, ⟨9, _⟩ => ⟨S128, .f32⟩
  | .hbm, ⟨10, _⟩ => ⟨S16384x8x1, .f32⟩
  | .hbm, ⟨11, _⟩ => ⟨S16384x8x128, .f32⟩
  | .hbm, ⟨12, _⟩ => ⟨S16384x1024, .f32⟩
  | .hbm, ⟨13, _⟩ => ⟨S1x128, .f32⟩
  | .hbm, ⟨14, _⟩ => ⟨S16384x1024, .bf16⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S1x128, .f32⟩
  | .local _ .vmem, ⟨19, _⟩ => ⟨S128x1024, .bf16⟩
  | .local _ .vmem, ⟨20, _⟩ => ⟨S128x1024, .bf16⟩
  | .local _ .vmem, ⟨21, _⟩ => ⟨S8x128x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== GdnRefIdeal.lean ====
abbrev S16384x1024 : Shape := ⟨2, ![16384, 1024]⟩
abbrev S16384x8 : Shape := ⟨2, ![16384, 8]⟩
abbrev S16384x7680 : Shape := ⟨2, ![16384, 7680]⟩
abbrev S128 : Shape := ⟨1, ![128]⟩
abbrev S256x64x8x128 : Shape := ⟨4, ![256, 64, 8, 128]⟩
abbrev S8x256x64x128 : Shape := ⟨4, ![8, 256, 64, 128]⟩
abbrev S256x64x8 : Shape := ⟨3, ![256, 64, 8]⟩
abbrev S8x256x64 : Shape := ⟨3, ![8, 256, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8x256x64x1 : Shape := ⟨4, ![8, 256, 64, 1]⟩
abbrev S8x256x1x64 : Shape := ⟨4, ![8, 256, 1, 64]⟩
abbrev S8x256x64x64 : Shape := ⟨4, ![8, 256, 64, 64]⟩
abbrev S_ : Shape := ⟨0, ![]⟩
abbrev S8x256x64x256 : Shape := ⟨4, ![8, 256, 64, 256]⟩
abbrev S8x256x1 : Shape := ⟨3, ![8, 256, 1]⟩
abbrev S8x256 : Shape := ⟨2, ![8, 256]⟩
abbrev S256 : Shape := ⟨1, ![256]⟩
abbrev S256x8x64x128 : Shape := ⟨4, ![256, 8, 64, 128]⟩
abbrev S256x8x64x64 : Shape := ⟨4, ![256, 8, 64, 64]⟩
abbrev S256x8 : Shape := ⟨2, ![256, 8]⟩
abbrev S8x128x128 : Shape := ⟨3, ![8, 128, 128]⟩
abbrev S1 : Shape := ⟨1, ![1]⟩
abbrev S1x8x64x128 : Shape := ⟨4, ![1, 8, 64, 128]⟩
abbrev S8x64x128 : Shape := ⟨3, ![8, 64, 128]⟩
abbrev S1x8x64x64 : Shape := ⟨4, ![1, 8, 64, 64]⟩
abbrev S8x64x64 : Shape := ⟨3, ![8, 64, 64]⟩
abbrev S1x8 : Shape := ⟨2, ![1, 8]⟩
abbrev S8 : Shape := ⟨1, ![8]⟩
abbrev S8x1x1 : Shape := ⟨3, ![8, 1, 1]⟩
abbrev S256x1x1x1 : Shape := ⟨4, ![256, 1, 1, 1]⟩
abbrev S16384x8x128 : Shape := ⟨3, ![16384, 8, 128]⟩
abbrev S16384x8x1 : Shape := ⟨3, ![16384, 8, 1]⟩
abbrev S1x1x128 : Shape := ⟨3, ![1, 1, 128]⟩

abbrev nBuf : Space → Nat
  | .hbm => 311
  | .vmem => 0
  | .smem => 0
  | _ => 0

abbrev hbmTy0_0 (i : Nat) : BufTy := match i % 128 with
  | 0 => ⟨S16384x1024, .bf16⟩
  | 1 => ⟨S16384x1024, .bf16⟩
  | 2 => ⟨S16384x1024, .bf16⟩
  | 3 => ⟨S16384x1024, .bf16⟩
  | 4 => ⟨S16384x1024, .bf16⟩
  | 5 => ⟨S16384x1024, .bf16⟩
  | 6 => ⟨S16384x1024, .bf16⟩
  | 7 => ⟨S16384x8, .f32⟩
  | 8 => ⟨S16384x7680, .f32⟩
  | 9 => ⟨S128, .f32⟩
  | 10 => ⟨S16384x1024, .f32⟩
  | 11 => ⟨S256x64x8x128, .f32⟩
  | 12 => ⟨S8x256x64x128, .f32⟩
  | 13 => ⟨S16384x1024, .f32⟩
  | 14 => ⟨S256x64x8x128, .f32⟩
  | 15 => ⟨S8x256x64x128, .f32⟩
  | 16 => ⟨S16384x1024, .f32⟩
  | 17 => ⟨S256x64x8x128, .f32⟩
  | 18 => ⟨S8x256x64x128, .f32⟩
  | 19 => ⟨S16384x1024, .f32⟩
  | 20 => ⟨S256x64x8x128, .f32⟩
  | 21 => ⟨S8x256x64x128, .f32⟩
  | 22 => ⟨S16384x1024, .f32⟩
  | 23 => ⟨S256x64x8x128, .f32⟩
  | 24 => ⟨S8x256x64x128, .f32⟩
  | 25 => ⟨S16384x1024, .f32⟩
  | 26 => ⟨S256x64x8x128, .f32⟩
  | 27 => ⟨S8x256x64x128, .f32⟩
  | 28 => ⟨S16384x1024, .f32⟩
  | 29 => ⟨S256x64x8x128, .f32⟩
  | 30 => ⟨S8x256x64x128, .f32⟩
  | 31 => ⟨S256x64x8, .f32⟩
  | 32 => ⟨S8x256x64, .f32⟩
  | 33 => ⟨S64, .i32⟩
  | 34 => ⟨S64x1, .i32⟩
  | 35 => ⟨S1x64, .i32⟩
  | 36 => ⟨S64x64, .i32⟩
  | 37 => ⟨S64x64, .i32⟩
  | 38 => ⟨S64x64, .i1⟩
  | 39 => ⟨S64x1, .i32⟩
  | 40 => ⟨S1x64, .i32⟩
  | 41 => ⟨S64x64, .i32⟩
  | 42 => ⟨S64x64, .i32⟩
  | 43 => ⟨S64x64, .i1⟩
  | 44 => ⟨S8x256x64x1, .f32⟩
  | 45 => ⟨S8x256x1x64, .f32⟩
  | 46 => ⟨S8x256x64x64, .f32⟩
  | 47 => ⟨S8x256x64x64, .f32⟩
  | 48 => ⟨S8x256x64x64, .f32⟩
  | 49 => ⟨S_, .f32⟩
  | 50 => ⟨S_, .f32⟩
  | 51 => ⟨S8x256x64x64, .i1⟩
  | 52 => ⟨S8x256x64x64, .f32⟩
  | 53 => ⟨S8x256x64x64, .f32⟩
  | 54 => ⟨S8x256x64x64, .f32⟩
  | 55 => ⟨S_, .f32⟩
  | 56 => ⟨S_, .f32⟩
  | 57 => ⟨S8x256x64x64, .i1⟩
  | 58 => ⟨S8x256x64x64, .f32⟩
  | 59 => ⟨S8x256x64x64, .f32⟩
  | 60 => ⟨S8x256x64x64, .f32⟩
  | 61 => ⟨S8x256x64x64, .f32⟩
  | 62 => ⟨S_, .f32⟩
  | 63 => ⟨S_, .f32⟩
  | 64 => ⟨S8x256x64x64, .i1⟩
  | 65 => ⟨S8x256x64x64, .f32⟩
  | 66 => ⟨S8x256x64x64, .f32⟩
  | 67 => ⟨S8x256x64x256, .f32⟩
  | 68 => ⟨S8x256x64x256, .f32⟩
  | 69 => ⟨S8x256x64x256, .f32⟩
  | 70 => ⟨S8x256x64x256, .f32⟩
  | 71 => ⟨S8x256x64x256, .f32⟩
  | 72 => ⟨S8x256x64x256, .f32⟩
  | 73 => ⟨S8x256x64x256, .f32⟩
  | 74 => ⟨S8x256x64x256, .f32⟩
  | 75 => ⟨S8x256x64x256, .f32⟩
  | 76 => ⟨S8x256x64x256, .f32⟩
  | 77 => ⟨S8x256x64x256, .f32⟩
  | 78 => ⟨S8x256x64x256, .f32⟩
  | 79 => ⟨S8x256x64x256, .f32⟩
  | 80 => ⟨S8x256x64x256, .f32⟩
  | 81 => ⟨S8x256x64x256, .f32⟩
  | 82 => ⟨S8x256x64x256, .f32⟩
  | 83 => ⟨S8x256x64x256, .f32⟩
  | 84 => ⟨S8x256x64x256, .f32⟩
  | 85 => ⟨S8x256x64x256, .f32⟩
  | 86 => ⟨S8x256x64x256, .f32⟩
  | 87 => ⟨S8x256x64x256, .f32⟩
  | 88 => ⟨S8x256x64x256, .f32⟩
  | 89 => ⟨S8x256x64x256, .f32⟩
  | 90 => ⟨S8x256x64x256, .f32⟩
  | 91 => ⟨S8x256x64x256, .f32⟩
  | 92 => ⟨S8x256x64x256, .f32⟩
  | 93 => ⟨S8x256x64x256, .f32⟩
  | 94 => ⟨S8x256x64x256, .f32⟩
  | 95 => ⟨S8x256x64x256, .f32⟩
  | 96 => ⟨S8x256x64x256, .f32⟩
  | 97 => ⟨S8x256x64x256, .f32⟩
  | 98 => ⟨S8x256x64x256, .f32⟩
  | 99 => ⟨S8x256x64x256, .f32⟩
  | 100 => ⟨S8x256x64x256, .f32⟩
  | 101 => ⟨S8x256x64x256, .f32⟩
  | 102 => ⟨S8x256x64x256, .f32⟩
  | 103 => ⟨S8x256x64x256, .f32⟩
  | 104 => ⟨S8x256x64x256, .f32⟩
  | 105 => ⟨S8x256x64x256, .f32⟩
  | 106 => ⟨S8x256x64x256, .f32⟩
  | 107 => ⟨S8x256x64x256, .f32⟩
  | 108 => ⟨S8x256x64x256, .f32⟩
  | 109 => ⟨S8x256x64x256, .f32⟩
  | 110 => ⟨S8x256x64x256, .f32⟩
  | 111 => ⟨S8x256x64x256, .f32⟩
  | 112 => ⟨S8x256x64x256, .f32⟩
  | 113 => ⟨S8x256x64x256, .f32⟩
  | 114 => ⟨S8x256x64x256, .f32⟩
  | 115 => ⟨S8x256x64x256, .f32⟩
  | 116 => ⟨S8x256x64x256, .f32⟩
  | 117 => ⟨S8x256x64x256, .f32⟩
  | 118 => ⟨S8x256x64x256, .f32⟩
  | 119 => ⟨S8x256x64x256, .f32⟩
  | 120 => ⟨S8x256x64x256, .f32⟩
  | 121 => ⟨S8x256x64x256, .f32⟩
  | 122 => ⟨S8x256x64x256, .f32⟩
  | 123 => ⟨S8x256x64x256, .f32⟩
  | 124 => ⟨S8x256x64x256, .f32⟩
  | 125 => ⟨S8x256x64x256, .f32⟩
  | 126 => ⟨S8x256x64x256, .f32⟩
  | 127 => ⟨S8x256x64x256, .f32⟩
  | _ => ⟨S16384x1024, .bf16⟩

abbrev hbmTy0_1 (i : Nat) : BufTy := match i % 128 with
  | 0 => ⟨S8x256x64x256, .f32⟩
  | 1 => ⟨S8x256x64x256, .f32⟩
  | 2 => ⟨S8x256x64x256, .f32⟩
  | 3 => ⟨S8x256x64x256, .f32⟩
  | 4 => ⟨S8x256x64x256, .f32⟩
  | 5 => ⟨S8x256x64x256, .f32⟩
  | 6 => ⟨S8x256x64x256, .f32⟩
  | 7 => ⟨S8x256x64x256, .f32⟩
  | 8 => ⟨S8x256x64x256, .f32⟩
  | 9 => ⟨S8x256x64x256, .f32⟩
  | 10 => ⟨S8x256x64x256, .f32⟩
  | 11 => ⟨S8x256x64x256, .f32⟩
  | 12 => ⟨S8x256x64x256, .f32⟩
  | 13 => ⟨S8x256x64x256, .f32⟩
  | 14 => ⟨S8x256x64x256, .f32⟩
  | 15 => ⟨S8x256x64x256, .f32⟩
  | 16 => ⟨S8x256x64x256, .f32⟩
  | 17 => ⟨S8x256x64x256, .f32⟩
  | 18 => ⟨S8x256x64x256, .f32⟩
  | 19 => ⟨S8x256x64x256, .f32⟩
  | 20 => ⟨S8x256x64x256, .f32⟩
  | 21 => ⟨S8x256x64x256, .f32⟩
  | 22 => ⟨S8x256x64x256, .f32⟩
  | 23 => ⟨S8x256x64x256, .f32⟩
  | 24 => ⟨S8x256x64x256, .f32⟩
  | 25 => ⟨S8x256x64x256, .f32⟩
  | 26 => ⟨S8x256x64x256, .f32⟩
  | 27 => ⟨S8x256x64x256, .f32⟩
  | 28 => ⟨S8x256x64x256, .f32⟩
  | 29 => ⟨S8x256x64x256, .f32⟩
  | 30 => ⟨S8x256x64x256, .f32⟩
  | 31 => ⟨S8x256x64x256, .f32⟩
  | 32 => ⟨S8x256x64x256, .f32⟩
  | 33 => ⟨S8x256x64x256, .f32⟩
  | 34 => ⟨S8x256x64x256, .f32⟩
  | 35 => ⟨S8x256x64x256, .f32⟩
  | 36 => ⟨S8x256x64x256, .f32⟩
  | 37 => ⟨S8x256x64x256, .f32⟩
  | 38 => ⟨S8x256x64x256, .f32⟩
  | 39 => ⟨S8x256x64x256, .f32⟩
  | 40 => ⟨S8x256x64x256, .f32⟩
  | 41 => ⟨S8x256x64x256, .f32⟩
  | 42 => ⟨S8x256x64x256, .f32⟩
  | 43 => ⟨S8x256x64x256, .f32⟩
  | 44 => ⟨S8x256x64x256, .f32⟩
  | 45 => ⟨S8x256x64x256, .f32⟩
  | 46 => ⟨S8x256x64x256, .f32⟩
  | 47 => ⟨S8x256x64x256, .f32⟩
  | 48 => ⟨S8x256x64x256, .f32⟩
  | 49 => ⟨S8x256x64x256, .f32⟩
  | 50 => ⟨S8x256x64x256, .f32⟩
  | 51 => ⟨S8x256x64x256, .f32⟩
  | 52 => ⟨S8x256x64x256, .f32⟩
  | 53 => ⟨S8x256x64x256, .f32⟩
  | 54 => ⟨S8x256x64x256, .f32⟩
  | 55 => ⟨S8x256x64x256, .f32⟩
  | 56 => ⟨S8x256x64x256, .f32⟩
  | 57 => ⟨S8x256x64x256, .f32⟩
  | 58 => ⟨S8x256x64x256, .f32⟩
  | 59 => ⟨S8x256x64x256, .f32⟩
  | 60 => ⟨S8x256x64x256, .f32⟩
  | 61 => ⟨S8x256x64x256, .f32⟩
  | 62 => ⟨S8x256x64x256, .f32⟩
  | 63 => ⟨S8x256x64x256, .f32⟩
  | 64 => ⟨S8x256x64x256, .f32⟩
  | 65 => ⟨S8x256x64x256, .f32⟩
  | 66 => ⟨S8x256x64x128, .f32⟩
  | 67 => ⟨S8x256x64x128, .f32⟩
  | 68 => ⟨S8x256x64x64, .f32⟩
  | 69 => ⟨S8x256x64x64, .f32⟩
  | 70 => ⟨S8x256x1, .f32⟩
  | 71 => ⟨S8x256, .f32⟩
  | 72 => ⟨S256, .i32⟩
  | 73 => ⟨S256x8x64x128, .f32⟩
  | 74 => ⟨S256x8x64x128, .f32⟩
  | 75 => ⟨S256x8x64x128, .f32⟩
  | 76 => ⟨S256x8x64x128, .f32⟩
  | 77 => ⟨S256x8x64x64, .f32⟩
  | 78 => ⟨S256x8, .f32⟩
  | 79 => ⟨S_, .f32⟩
  | 80 => ⟨S8x128x128, .f32⟩
  | 81 => ⟨S_, .f32⟩
  | 82 => ⟨S256x8x64x128, .f32⟩
  | 83 => ⟨S_, .i32⟩
  | 84 => ⟨S256, .i32⟩
  | 85 => ⟨S256x8x64x128, .f32⟩
  | 86 => ⟨S256x8x64x128, .f32⟩
  | 87 => ⟨S256x8x64x128, .f32⟩
  | 88 => ⟨S256x8x64x128, .f32⟩
  | 89 => ⟨S256x8x64x64, .f32⟩
  | 90 => ⟨S256x8, .f32⟩
  | 91 => ⟨S256, .i32⟩
  | 92 => ⟨S_, .i32⟩
  | 93 => ⟨S8x128x128, .f32⟩
  | 94 => ⟨S256x8x64x128, .f32⟩
  | 95 => ⟨S_, .i32⟩
  | 96 => ⟨S_, .i1⟩
  | 97 => ⟨S1, .i32⟩
  | 98 => ⟨S_, .i32⟩
  | 99 => ⟨S_, .i32⟩
  | 100 => ⟨S_, .i32⟩
  | 101 => ⟨S_, .i32⟩
  | 102 => ⟨S1x8x64x128, .f32⟩
  | 103 => ⟨S8x64x128, .f32⟩
  | 104 => ⟨S_, .i32⟩
  | 105 => ⟨S_, .i32⟩
  | 106 => ⟨S_, .i32⟩
  | 107 => ⟨S1x8x64x128, .f32⟩
  | 108 => ⟨S8x64x128, .f32⟩
  | 109 => ⟨S_, .i32⟩
  | 110 => ⟨S_, .i32⟩
  | 111 => ⟨S_, .i32⟩
  | 112 => ⟨S1x8x64x128, .f32⟩
  | 113 => ⟨S8x64x128, .f32⟩
  | 114 => ⟨S_, .i32⟩
  | 115 => ⟨S_, .i32⟩
  | 116 => ⟨S_, .i32⟩
  | 117 => ⟨S1x8x64x128, .f32⟩
  | 118 => ⟨S8x64x128, .f32⟩
  | 119 => ⟨S_, .i32⟩
  | 120 => ⟨S_, .i32⟩
  | 121 => ⟨S_, .i32⟩
  | 122 => ⟨S1x8x64x64, .f32⟩
  | 123 => ⟨S8x64x64, .f32⟩
  | 124 => ⟨S_, .i32⟩
  | 125 => ⟨S1x8, .f32⟩
  | 126 => ⟨S8, .f32⟩
  | 127 => ⟨S8x64x128, .f32⟩
  | _ => ⟨S16384x1024, .bf16⟩

abbrev hbmTy0_2 (i : Nat) : BufTy := match i % 128 with
  | 0 => ⟨S8x64x128, .f32⟩
  | 1 => ⟨S8x64x128, .f32⟩
  | 2 => ⟨S8x64x128, .f32⟩
  | 3 => ⟨S8x64x128, .f32⟩
  | 4 => ⟨S8, .f32⟩
  | 5 => ⟨S8x1x1, .f32⟩
  | 6 => ⟨S8x128x128, .f32⟩
  | 7 => ⟨S8x128x128, .f32⟩
  | 8 => ⟨S8x128x128, .f32⟩
  | 9 => ⟨S8x128x128, .f32⟩
  | 10 => ⟨S256, .i32⟩
  | 11 => ⟨S256, .i1⟩
  | 12 => ⟨S256x1x1x1, .i1⟩
  | 13 => ⟨S1x8x64x128, .f32⟩
  | 14 => ⟨S_, .f32⟩
  | 15 => ⟨S_, .f32⟩
  | 16 => ⟨S256x8x64x128, .i1⟩
  | 17 => ⟨S256x8x64x128, .f32⟩
  | 18 => ⟨S256x8x64x128, .f32⟩
  | 19 => ⟨S256x8x64x128, .f32⟩
  | 20 => ⟨S256x8x64x128, .f32⟩
  | 21 => ⟨S_, .i32⟩
  | 22 => ⟨S_, .i32⟩
  | 23 => ⟨S256x64x8x128, .f32⟩
  | 24 => ⟨S16384x8x128, .f32⟩
  | 25 => ⟨S16384x1024, .f32⟩
  | 26 => ⟨S16384x8x128, .f32⟩
  | 27 => ⟨S16384x8x128, .f32⟩
  | 28 => ⟨S_, .f32⟩
  | 29 => ⟨S16384x8, .f32⟩
  | 30 => ⟨S16384x8x1, .f32⟩
  | 31 => ⟨S_, .f32⟩
  | 32 => ⟨S16384x8x1, .f32⟩
  | 33 => ⟨S16384x8x1, .f32⟩
  | 34 => ⟨S_, .f32⟩
  | 35 => ⟨S16384x8x1, .f32⟩
  | 36 => ⟨S16384x8x1, .f32⟩
  | 37 => ⟨S16384x8x1, .f32⟩
  | 38 => ⟨S16384x8x128, .f32⟩
  | 39 => ⟨S16384x8x128, .f32⟩
  | 40 => ⟨S1x1x128, .f32⟩
  | 41 => ⟨S16384x8x128, .f32⟩
  | 42 => ⟨S16384x8x128, .f32⟩
  | 43 => ⟨S16384x8x128, .f32⟩
  | 44 => ⟨S16384x8x128, .f32⟩
  | 45 => ⟨S_, .f32⟩
  | 46 => ⟨S16384x8x128, .f32⟩
  | 47 => ⟨S16384x8x128, .f32⟩
  | 48 => ⟨S_, .f32⟩
  | 49 => ⟨S16384x8x128, .f32⟩
  | 50 => ⟨S16384x8x128, .f32⟩
  | 51 => ⟨S16384x8x128, .f32⟩
  | 52 => ⟨S16384x8x128, .f32⟩
  | 53 => ⟨S16384x1024, .f32⟩
  | 54 => ⟨S16384x1024, .bf16⟩
  | _ => ⟨S16384x1024, .bf16⟩

abbrev hbmTy (i : Nat) : BufTy := match i / 128 with
  | 0 => hbmTy0_0 i
  | 1 => hbmTy0_1 i
  | 2 => hbmTy0_2 i
  | _ => ⟨S16384x1024, .bf16⟩

abbrev bufTy : (tb : Table) → Fin (tcTables nBuf tb) → BufTy
  | .hbm, ⟨i, _⟩ => hbmTy i
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_v39 : Ref sig .tc := ⟨.hbm, 53, rfl⟩
abbrev main_v40 : Ref sig .tc := ⟨.hbm, 54, rfl⟩
abbrev main_cst_0 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_1 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_cst_2 : Ref sig .tc := ⟨.hbm, 207, rfl⟩
abbrev main_v185 : Ref sig .tc := ⟨.hbm, 208, rfl⟩
abbrev main_cst_3 : Ref sig .tc := ⟨.hbm, 209, rfl⟩
abbrev main_v186 : Ref sig .tc := ⟨.hbm, 210, rfl⟩
abbrev main_c : Ref sig .tc := ⟨.hbm, 211, rfl⟩
abbrev main_v187_0 : Ref sig .tc := ⟨.hbm, 212, rfl⟩
abbrev main_v187_1 : Ref sig .tc := ⟨.hbm, 213, rfl⟩
abbrev main_v187_2 : Ref sig .tc := ⟨.hbm, 214, rfl⟩
abbrev main_v187_3 : Ref sig .tc := ⟨.hbm, 215, rfl⟩
abbrev main_v187_4 : Ref sig .tc := ⟨.hbm, 216, rfl⟩
abbrev main_v187_5 : Ref sig .tc := ⟨.hbm, 217, rfl⟩
abbrev main_v187_6 : Ref sig .tc := ⟨.hbm, 218, rfl⟩
abbrev main_v187_7 : Ref sig .tc := ⟨.hbm, 219, rfl⟩
abbrev main_v187_8 : Ref sig .tc := ⟨.hbm, 220, rfl⟩
abbrev main_v187_9 : Ref sig .tc := ⟨.hbm, 221, rfl⟩
abbrev main_v187_10 : Ref sig .tc := ⟨.hbm, 222, rfl⟩
abbrev main_while0c_c_17 : Ref sig .tc := ⟨.hbm, 223, rfl⟩
abbrev main_while0c_v209 : Ref sig .tc := ⟨.hbm, 224, rfl⟩
abbrev main_while0b_call3_v0 : Ref sig .tc := ⟨.hbm, 225, rfl⟩
abbrev main_while0b_v209 : Ref sig .tc := ⟨.hbm, 226, rfl⟩
abbrev main_while0b_call4_c : Ref sig .tc := ⟨.hbm, 227, rfl⟩
abbrev main_while0b_call4_c_0 : Ref sig .tc := ⟨.hbm, 228, rfl⟩
abbrev main_while0b_call4_c_1 : Ref sig .tc := ⟨.hbm, 229, rfl⟩
abbrev main_while0b_call4_v0 : Ref sig .tc := ⟨.hbm, 230, rfl⟩
abbrev main_while0b_v210 : Ref sig .tc := ⟨.hbm, 231, rfl⟩
abbrev main_while0b_call5_c : Ref sig .tc := ⟨.hbm, 232, rfl⟩
abbrev main_while0b_call5_c_0 : Ref sig .tc := ⟨.hbm, 233, rfl⟩
abbrev main_while0b_call5_c_1 : Ref sig .tc := ⟨.hbm, 234, rfl⟩
abbrev main_while0b_call5_v0 : Ref sig .tc := ⟨.hbm, 235, rfl⟩
abbrev main_while0b_v211 : Ref sig .tc := ⟨.hbm, 236, rfl⟩
abbrev main_while0b_call6_c : Ref sig .tc := ⟨.hbm, 237, rfl⟩
abbrev main_while0b_call6_c_0 : Ref sig .tc := ⟨.hbm, 238, rfl⟩
abbrev main_while0b_call6_c_1 : Ref sig .tc := ⟨.hbm, 239, rfl⟩
abbrev main_while0b_call6_v0 : Ref sig .tc := ⟨.hbm, 240, rfl⟩
abbrev main_while0b_v212 : Ref sig .tc := ⟨.hbm, 241, rfl⟩
abbrev main_while0b_call7_c : Ref sig .tc := ⟨.hbm, 242, rfl⟩
abbrev main_while0b_call7_c_0 : Ref sig .tc := ⟨.hbm, 243, rfl⟩
abbrev main_while0b_call7_c_1 : Ref sig .tc := ⟨.hbm, 244, rfl⟩
abbrev main_while0b_call7_v0 : Ref sig .tc := ⟨.hbm, 245, rfl⟩
abbrev main_while0b_v213 : Ref sig .tc := ⟨.hbm, 246, rfl⟩
abbrev main_while0b_call8_c : Ref sig .tc := ⟨.hbm, 247, rfl⟩
abbrev main_while0b_call8_c_0 : Ref sig .tc := ⟨.hbm, 248, rfl⟩
abbrev main_while0b_call8_c_1 : Ref sig .tc := ⟨.hbm, 249, rfl⟩
abbrev main_while0b_call8_v0 : Ref sig .tc := ⟨.hbm, 250, rfl⟩
abbrev main_while0b_v214 : Ref sig .tc := ⟨.hbm, 251, rfl⟩
abbrev main_while0b_call9_c : Ref sig .tc := ⟨.hbm, 252, rfl⟩
abbrev main_while0b_call9_v0 : Ref sig .tc := ⟨.hbm, 253, rfl⟩
abbrev main_while0b_v215 : Ref sig .tc := ⟨.hbm, 254, rfl⟩
abbrev main_while0b_v216 : Ref sig .tc := ⟨.hbm, 255, rfl⟩
abbrev main_while0b_v217 : Ref sig .tc := ⟨.hbm, 256, rfl⟩
abbrev main_while0b_v218 : Ref sig .tc := ⟨.hbm, 257, rfl⟩
abbrev main_while0b_v219 : Ref sig .tc := ⟨.hbm, 258, rfl⟩
abbrev main_while0b_v220 : Ref sig .tc := ⟨.hbm, 259, rfl⟩
abbrev main_while0b_v221 : Ref sig .tc := ⟨.hbm, 260, rfl⟩
abbrev main_while0b_v222 : Ref sig .tc := ⟨.hbm, 261, rfl⟩
abbrev main_while0b_v223 : Ref sig .tc := ⟨.hbm, 262, rfl⟩
abbrev main_while0b_v224 : Ref sig .tc := ⟨.hbm, 263, rfl⟩
abbrev main_while0b_v225 : Ref sig .tc := ⟨.hbm, 264, rfl⟩
abbrev main_while0b_v226 : Ref sig .tc := ⟨.hbm, 265, rfl⟩
abbrev main_while0b_v227 : Ref sig .tc := ⟨.hbm, 266, rfl⟩
abbrev main_while0b_v228 : Ref sig .tc := ⟨.hbm, 267, rfl⟩
abbrev main_while0b_v229 : Ref sig .tc := ⟨.hbm, 268, rfl⟩
abbrev main_while0b_v230 : Ref sig .tc := ⟨.hbm, 269, rfl⟩
abbrev main_while0b_cst_17 : Ref sig .tc := ⟨.hbm, 270, rfl⟩
abbrev main_while0b_call10_v0 : Ref sig .tc := ⟨.hbm, 271, rfl⟩
abbrev main_while0b_call10_v1 : Ref sig .tc := ⟨.hbm, 272, rfl⟩
abbrev main_while0b_call10_v2 : Ref sig .tc := ⟨.hbm, 273, rfl⟩
abbrev main_while0b_call10_v3 : Ref sig .tc := ⟨.hbm, 274, rfl⟩
abbrev main_while0b_v231 : Ref sig .tc := ⟨.hbm, 275, rfl⟩
abbrev main_while0b_v232 : Ref sig .tc := ⟨.hbm, 276, rfl⟩
abbrev main_while0b_c_18 : Ref sig .tc := ⟨.hbm, 277, rfl⟩
abbrev main_while0b_v233 : Ref sig .tc := ⟨.hbm, 278, rfl⟩
abbrev main_v188 : Ref sig .tc := ⟨.hbm, 279, rfl⟩
abbrev main_v189 : Ref sig .tc := ⟨.hbm, 280, rfl⟩
abbrev main_v190 : Ref sig .tc := ⟨.hbm, 281, rfl⟩
abbrev main_v191 : Ref sig .tc := ⟨.hbm, 282, rfl⟩
abbrev main_v192 : Ref sig .tc := ⟨.hbm, 283, rfl⟩
abbrev main_cst_4 : Ref sig .tc := ⟨.hbm, 284, rfl⟩
abbrev main_v193 : Ref sig .tc := ⟨.hbm, 285, rfl⟩
abbrev main_v194 : Ref sig .tc := ⟨.hbm, 286, rfl⟩
abbrev main_cst_5 : Ref sig .tc := ⟨.hbm, 287, rfl⟩
abbrev main_v195 : Ref sig .tc := ⟨.hbm, 288, rfl⟩
abbrev main_v196 : Ref sig .tc := ⟨.hbm, 289, rfl⟩
abbrev main_cst_6 : Ref sig .tc := ⟨.hbm, 290, rfl⟩
abbrev main_v197 : Ref sig .tc := ⟨.hbm, 291, rfl⟩
abbrev main_v198 : Ref sig .tc := ⟨.hbm, 292, rfl⟩
abbrev main_v199 : Ref sig .tc := ⟨.hbm, 293, rfl⟩
abbrev main_v200 : Ref sig .tc := ⟨.hbm, 294, rfl⟩
abbrev main_v201 : Ref sig .tc := ⟨.hbm, 295, rfl⟩
abbrev main_v202 : Ref sig .tc := ⟨.hbm, 296, rfl⟩
abbrev main_v203 : Ref sig .tc := ⟨.hbm, 297, rfl⟩
abbrev main_v204 : Ref sig .tc := ⟨.hbm, 298, rfl⟩
abbrev main_call11_v0 : Ref sig .tc := ⟨.hbm, 299, rfl⟩
abbrev main_call11_v1 : Ref sig .tc := ⟨.hbm, 300, rfl⟩
abbrev main_call11_cst : Ref sig .tc := ⟨.hbm, 301, rfl⟩
abbrev main_call11_v2 : Ref sig .tc := ⟨.hbm, 302, rfl⟩
abbrev main_call11_v3 : Ref sig .tc := ⟨.hbm, 303, rfl⟩
abbrev main_call11_cst_0 : Ref sig .tc := ⟨.hbm, 304, rfl⟩
abbrev main_call11_v4 : Ref sig .tc := ⟨.hbm, 305, rfl⟩
abbrev main_call11_v5 : Ref sig .tc := ⟨.hbm, 306, rfl⟩
abbrev main_v205 : Ref sig .tc := ⟨.hbm, 307, rfl⟩
abbrev main_v206 : Ref sig .tc := ⟨.hbm, 308, rfl⟩
abbrev main_v207 : Ref sig .tc := ⟨.hbm, 309, rfl⟩
abbrev main_v208 : Ref sig .tc := ⟨.hbm, 310, rfl⟩

abbrev nD : Nat := 1
abbrev τ : Topo := Topo.v7x

variable {F : FTy → Type} [FloatOps F]

abbrev main_while0_count : Scf.Loop 32 := ⟨0#32, 256#32, 1#32⟩
-- ==== RwkvPost.lean ====
abbrev S16384x1024 : Shape := ⟨2, ![16384, 1024]⟩
abbrev S1024 : Shape := ⟨1, ![1024]⟩
abbrev S_ : Shape := ⟨0, ![]⟩
abbrev S1024x1 : Shape := ⟨2, ![1024, 1]⟩
abbrev S128 : Shape := ⟨1, ![128]⟩
abbrev S1x128 : Shape := ⟨2, ![1, 128]⟩
abbrev S1024x128 : Shape := ⟨2, ![1024, 128]⟩
abbrev S128x1024 : Shape := ⟨2, ![128, 1024]⟩
abbrev S1x1024 : Shape := ⟨2, ![1, 1024]⟩
abbrev S256x1024 : Shape := ⟨2, ![256, 1024]⟩
abbrev S256x128 : Shape := ⟨2, ![256, 128]⟩

abbrev nBuf : Space → Nat
  | .hbm => 35
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S1024, .i32⟩
  | .hbm, ⟨6, _⟩ => ⟨S_, .i32⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i1⟩
  | .hbm, ⟨14, _⟩ => ⟨S1024, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i1⟩
  | .hbm, ⟨19, _⟩ => ⟨S1024, .i1⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S1024x1, .i32⟩
  | .hbm, ⟨25, _⟩ => ⟨S128, .i32⟩
  | .hbm, ⟨26, _⟩ => ⟨S1x128, .i32⟩
  | .hbm, ⟨27, _⟩ => ⟨S1024x128, .i32⟩
  | .hbm, ⟨28, _⟩ => ⟨S1024x128, .i32⟩
  | .hbm, ⟨29, _⟩ => ⟨S1024x128, .i1⟩
  | .hbm, ⟨30, _⟩ => ⟨S1024x128, .bf16⟩
  | .hbm, ⟨31, _⟩ => ⟨S128x1024, .bf16⟩
  | .hbm, ⟨32, _⟩ => ⟨S1x1024, .f32⟩
  | .hbm, ⟨33, _⟩ => ⟨S1x1024, .f32⟩
  | .hbm, ⟨34, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S1024x128, .bf16⟩
  | .local _ .vmem, ⟨9, _⟩ => ⟨S128x1024, .bf16⟩
  | .local _ .vmem, ⟨10, _⟩ => ⟨S256x1024, .bf16⟩
  | .local _ .vmem, ⟨11, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RwkvPostRefIdeal.lean ====
abbrev S16384x1024 : Shape := ⟨2, ![16384, 1024]⟩
abbrev S1024 : Shape := ⟨1, ![1024]⟩
abbrev S16384x16x64 : Shape := ⟨3, ![16384, 16, 64]⟩
abbrev S_ : Shape := ⟨0, ![]⟩
abbrev S16384x16 : Shape := ⟨2, ![16384, 16]⟩
abbrev S16384x16x1 : Shape := ⟨3, ![16384, 16, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S16384x16x64, .f32⟩
  | .hbm, ⟨6, _⟩ => ⟨S_, .f32⟩
  | .hbm, ⟨7, _⟩ => ⟨S16384x16, .f32⟩
  | .hbm, ⟨8, _⟩ => ⟨S16384x16x1, .f32⟩
  | .hbm, ⟨9, _⟩ => ⟨S_, .f32⟩
  | .hbm, ⟨10, _⟩ => ⟨S16384x16x1, .f32⟩
  | .hbm, ⟨11, _⟩ => ⟨S16384x16x1, .f32⟩
  | .hbm, ⟨12, _⟩ => ⟨S16384x16x64, .f32⟩
  | .hbm, ⟨13, _⟩ => ⟨S16384x16x64, .f32⟩
  | .hbm, ⟨14, _⟩ => ⟨S16384x16x64, .f32⟩
  | .hbm, ⟨15, _⟩ => ⟨S_, .f32⟩
  | .hbm, ⟨16, _⟩ => ⟨S16384x16, .f32⟩
  | .hbm, ⟨17, _⟩ => ⟨S16384x16x1, .f32⟩
  | .hbm, ⟨18, _⟩ => ⟨S_, .f32⟩
  | .hbm, ⟨19, _⟩ => ⟨S16384x16x1, .f32⟩
  | .hbm, ⟨20, _⟩ => ⟨S16384x16x1, .f32⟩
  | .hbm, ⟨21, _⟩ => ⟨S16384x16x64, .f32⟩
  | .hbm, ⟨22, _⟩ => ⟨S16384x16x64, .f32⟩
  | .hbm, ⟨23, _⟩ => ⟨S_, .f32⟩
  | .hbm, ⟨24, _⟩ => ⟨S16384x16x1, .f32⟩
  | .hbm, ⟨25, _⟩ => ⟨S16384x16x1, .f32⟩
  | .hbm, ⟨26, _⟩ => ⟨S16384x16x1, .f32⟩
  | .hbm, ⟨27, _⟩ => ⟨S16384x16x64, .f32⟩
  | .hbm, ⟨28, _⟩ => ⟨S16384x16x64, .f32⟩
  | .hbm, ⟨29, _⟩ => ⟨S16384x1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Proof.MlpPay.lean ====
module

public import proofs.«01_k».proof.Proof.Gen.MlpIdeal.Skeleton
public import proofs.«01_k».proof.Proof.Gen.MlpRefIdeal.Read
public import Idealize.ShloMosaic.Lib.Pointwise

/-! The arithmetic of the MLP call and of its reference, each read at one index over the extended reals. -/

@[expose] public section

set_option maxRecDepth 16384

noncomputable section

open Idealize.ShloMosaic Idealize.ShloMosaic.TcCoe
open scoped BigOperators

/-- The reciprocal root of a row's mean square plus the small constant, over the extended reals. -/
def rowScale (x : Fin 2048 → EReal) : EReal :=
  Idealize.ShloMosaic.Ideal.rsqrt (Idealize.ShloMosaic.Ideal.div (∑ k, x k * x k) (Idealize.ShloMosaic.Ideal.ofBits .f32 0x45000000#32)
    + Idealize.ShloMosaic.Ideal.ofBits .f32 0x358637BD#32)

/-- A row normalized and multiplied by the gain. -/
def rowNorm (x g : Fin 2048 → EReal) (l : Fin 2048) : EReal := x l * rowScale x * g l

namespace MlpProof

open Cert.MlpIdeal

/-- The squared rectified product of a normalized row with one column of the first weight. -/
def act (hn w : Fin 2048 → EReal) : EReal := max (∑ k, hn k * w k) 0 * max (∑ k, hn k * w k) 0

/-- The normalized block that the first tile stores, at an index. -/
theorem pay1_at (x : Vec Ideal S512x2048 .f32) (g : Vec Ideal S1x2048 .f32) (r : Fin 512) (l : Fin 2048) :
    Gen.k0_pay1 x g (ix2 r l) = rowNorm (fun k => x (ix2 r k)) (fun k => g (ix2 0 k)) l := by
  pointwise [Gen.k0_pay1, rowNorm, rowScale]

/-- The residual block that the first tile copies, at an index. -/
theorem pay2_at (x : Vec Ideal S512x2048 .f32) (r : Fin 512) (l : Fin 2048) :
    Gen.k0_pay2 x (ix2 r l) = x (ix2 r l) := by
  pointwise [Gen.k0_pay2]

/-- One tile's contribution added to the accumulator, at an index. -/
theorem pay3_at (hn : Vec Ideal S512x2048 .bf16) (wu : Vec Ideal S2048x1024 .bf16) (acc : Vec Ideal S512x2048 .f32)
    (wd : Vec Ideal S1024x2048 .bf16) (r : Fin 512) (l : Fin 2048) :
    Gen.k0_pay3 hn wu acc wd (ix2 r l) = acc (ix2 r l) + ∑ f : Fin 1024,
      act (fun k => hn (ix2 r k)) (fun k => wu (ix2 k f)) * wd (ix2 f l) := by
  pointwise [Gen.k0_pay3, act]

/-- The final normalization of the accumulator, at an index. -/
theorem pay4_at (x : Vec Ideal S512x2048 .f32) (g : Vec Ideal S1x2048 .f32) (r : Fin 512) (l : Fin 2048) :
    Gen.k0_pay4 x g (ix2 r l) = rowNorm (fun k => x (ix2 r k)) (fun k => g (ix2 0 k)) l := by
  pointwise [Gen.k0_pay4, rowNorm, rowScale]

/-- The reference's normalized input, at an index. -/
theorem ref_norm (x : Vec Ideal S16384x2048 .f32) (g : Vec Ideal S2048 .f32) (r : Fin 16384) (l : Fin 2048) :
    Cert.MlpRefIdeal.Read.val_main_v12 (F := Ideal) x g (ix2 r l) = rowNorm (fun k => x (ix2 r k)) (fun k => g (ix1 k)) l := by
  pointwise [Cert.MlpRefIdeal.Read.val_main_v12, Cert.MlpRefIdeal.Read.val_main_v11, Cert.MlpRefIdeal.Read.val_main_v10, Cert.MlpRefIdeal.Read.val_main_v9, Cert.MlpRefIdeal.Read.val_main_v8, Cert.MlpRefIdeal.Read.val_main_v7, Cert.MlpRefIdeal.Read.val_main_v6, Cert.MlpRefIdeal.Read.val_main_v5, Cert.MlpRefIdeal.Read.val_main_v4, Cert.MlpRefIdeal.Read.val_main_v3, Cert.MlpRefIdeal.Read.val_main_v2, Cert.MlpRefIdeal.Read.val_main_v1, Cert.MlpRefIdeal.Read.val_main_v0, Cert.MlpRefIdeal.Read.val_main_cst, Cert.MlpRefIdeal.Read.val_main_cst_0, Cert.MlpRefIdeal.Read.val_main_cst_1, rowNorm, rowScale]

/-- The reference's residual sum before the final normalization, at an index. -/
def refSum (x : Vec Ideal S16384x2048 .f32) (g : Vec Ideal S2048 .f32) (wu : Vec Ideal S2048x8192 .f32)
    (wd : Vec Ideal S8192x2048 .f32) (r : Fin 16384) (l : Fin 2048) : EReal :=
  x (ix2 r l) + ∑ f : Fin 8192, act (rowNorm (fun k => x (ix2 r k)) (fun k => g (ix1 k))) (fun k => wu (ix2 k f)) * wd (ix2 f l)

/-- The reference's sum is the residual sum. -/
theorem ref_sum (x : Vec Ideal S16384x2048 .f32) (g : Vec Ideal S2048 .f32) (wu : Vec Ideal S2048x8192 .f32)
    (wd : Vec Ideal S8192x2048 .f32) (r : Fin 16384) (l : Fin 2048) :
    Cert.MlpRefIdeal.Read.val_main_v17 (F := Ideal) x g wu wd (ix2 r l) = refSum x g wu wd r l := by
  pointwise [Cert.MlpRefIdeal.Read.val_main_v17, Cert.MlpRefIdeal.Read.val_main_v16, Cert.MlpRefIdeal.Read.val_main_v15, Cert.MlpRefIdeal.Read.val_main_v14, Cert.MlpRefIdeal.Read.val_main_call0_v0, Cert.MlpRefIdeal.Read.val_main_call0_cst, Cert.MlpRefIdeal.Read.val_main_v13, refSum, act, ref_norm]

/-- The reference's result, at an index. -/
theorem ref_at (x : Vec Ideal S16384x2048 .f32) (g : Vec Ideal S2048 .f32) (wu : Vec Ideal S2048x8192 .f32)
    (wd : Vec Ideal S8192x2048 .f32) (gf : Vec Ideal S2048 .f32) (r : Fin 16384) (l : Fin 2048) :
    Cert.MlpRefIdeal.Read.val_main_v30 (F := Ideal) x g wu wd gf (ix2 r l)
      = rowNorm (refSum x g wu wd r) (fun k => gf (ix1 k)) l := by
  pointwise [Cert.MlpRefIdeal.Read.val_main_v30, Cert.MlpRefIdeal.Read.val_main_v29, Cert.MlpRefIdeal.Read.val_main_v28, Cert.MlpRefIdeal.Read.val_main_v27, Cert.MlpRefIdeal.Read.val_main_v26, Cert.MlpRefIdeal.Read.val_main_v25, Cert.MlpRefIdeal.Read.val_main_v24, Cert.MlpRefIdeal.Read.val_main_v23, Cert.MlpRefIdeal.Read.val_main_v22, Cert.MlpRefIdeal.Read.val_main_v21, Cert.MlpRefIdeal.Read.val_main_v20, Cert.MlpRefIdeal.Read.val_main_v19, Cert.MlpRefIdeal.Read.val_main_v18, Cert.MlpRefIdeal.Read.val_main_cst_2, Cert.MlpRefIdeal.Read.val_main_cst_3, Cert.MlpRefIdeal.Read.val_main_cst_4, rowNorm, rowScale, ref_sum]

end MlpProof

end
-- ==== Proof.MlpValue.lean ====
module

public import proofs.«01_k».proof.Proof.MlpPay
public import proofs.«01_k».proof.Proof.Gen.MlpIdeal.Value
public import Idealize.ShloMosaic.Lib.StableHlo.ReadAt

/-! The MLP call's result array: what the grid's points leave in the two scratch buffers, and the last tile's output. -/

@[expose] public section

set_option maxRecDepth 16384

noncomputable section

open Idealize.ShloMosaic Idealize.ShloMosaic.TcCoe Idealize.SL.Sem
open scoped BigOperators

namespace MlpProof

open Cert.MlpIdeal Cert.MlpIdeal.Gen

/-- The two zero offsets, as a constant function. -/
theorem zeros2 : (![0, 0] : Fin 2 → Nat) = fun _ => 0 := funext fun a => by fin_cases a <;> rfl

variable (m : (ℓ : Loc nD τ sig) → Buf (Elt Ideal) ℓ)

/-- The first tile leaves the normalized rows in the first scratch. -/
theorem first_norm (c : Dev nD) (t : Fin cfg0.N) (h0 : t.val % 8 = 0) (h1 : ¬t.val % 8 = 7) :
    (outsAt0 m c t.val t.isLt).2.1 = k0_pay1 (iblk m c 0 t) (iblk m c 1 t) := by
  rw [outsAt0_A m c t h0 h1]
  dsimp only
  unfold sout0_A_0
  rw [View.read_writes_eq_canon _ _ _ (fun y => scover0_A_0 (c := c) (y := y) ..)]
  unfold kernelRun0_A
  dsimp only
  sl_unfold_words
  simp only [View.readAt_eq_ld, (hs0_0 t).read_unread, (hs0_1 t).read_unread]
  rw [View.canon_unit_zero zeros2, View.ld_unit_zero (S := S512x2048) zeros2, View.ld_unit_zero (S := S1x2048) zeros2]

/-- The first tile leaves the residual plus its own contribution in the second scratch. -/
theorem first_acc (c : Dev nD) (t : Fin cfg0.N) (h0 : t.val % 8 = 0) (h1 : ¬t.val % 8 = 7) :
    (outsAt0 m c t.val t.isLt).2.2 = k0_pay3 (k0_pay1 (iblk m c 0 t) (iblk m c 1 t)) (iblk m c 2 t) (k0_pay2 (iblk m c 0 t)) (iblk m c 3 t) := by
  rw [outsAt0_A m c t h0 h1]
  dsimp only
  unfold sout0_A_1
  rw [View.read_writes_eq_canon _ _ _ (fun y => scover0_A_1 (c := c) (y := y) ..)]
  unfold kernelRun0_A
  dsimp only
  sl_unfold_words
  simp only [View.readAt_eq_ld, (hs0_0 t).read_unread, (hs0_1 t).read_unread, (hs0_2 t).read_unread, (hs0_3 t).read_unread]
  rw [View.canon_cons_unit_zero (S := S512x2048) zeros2, View.readCov_unit_zero (S := S512x2048) _ zeros2,
    View.readCov_unit_zero (S := S512x2048) _ zeros2]
  simp only [View.ld_unit_zero (S := S512x2048) zeros2, View.ld_unit_zero (S := S1x2048) zeros2,
    View.ld_unit_zero (S := S2048x1024) zeros2, View.ld_unit_zero (S := S1024x2048) zeros2]

/-- A middle tile leaves the first scratch as it was. -/
theorem mid_norm (c : Dev nD) (t : Fin cfg0.N) (h0 : ¬t.val % 8 = 0) (h1 : ¬t.val % 8 = 7) :
    (outsAt0 m c t.val t.isLt).2.1 = (outsAt0 m c (t.val - 1) (Nat.lt_of_le_of_lt (Nat.sub_le _ _) t.isLt)).2.1 := by
  rw [outsAt0_B m c t h0 h1]
  rfl

/-- A middle tile adds its contribution to the second scratch. -/
theorem mid_acc (c : Dev nD) (t : Fin cfg0.N) (h0 : ¬t.val % 8 = 0) (h1 : ¬t.val % 8 = 7) :
    (outsAt0 m c t.val t.isLt).2.2 = k0_pay3 (outsAt0 m c (t.val - 1) (Nat.lt_of_le_of_lt (Nat.sub_le _ _) t.isLt)).2.1 (iblk m c 2 t)
      (outsAt0 m c (t.val - 1) (Nat.lt_of_le_of_lt (Nat.sub_le _ _) t.isLt)).2.2 (iblk m c 3 t) := by
  rw [outsAt0_B m c t h0 h1]
  dsimp only
  unfold sout0_B_1
  rw [View.read_writes_eq_canon _ _ _ (fun y => scover0_B_1 (c := c) (y := y) ..)]
  unfold kernelRun0_B
  dsimp only
  sl_unfold_words
  simp only [View.readAt_eq_ld, (hs0_2 t).read_unread, (hs0_3 t).read_unread]
  rw [View.canon_unit_zero zeros2]
  simp only [(Memref.isWhole_whole cc0_scratch0).read_unread, (Memref.isWhole_whole cc0_scratch1).read_unread,
    View.ld_unit_zero (S := S512x2048) zeros2, View.ld_unit_zero (S := S2048x1024) zeros2, View.ld_unit_zero (S := S1024x2048) zeros2]

/-- The last tile leaves the first scratch as it was. -/
theorem last_norm (c : Dev nD) (t : Fin cfg0.N) (h0 : ¬t.val % 8 = 0) (h1 : t.val % 8 = 7) :
    (outsAt0 m c t.val t.isLt).2.1 = (outsAt0 m c (t.val - 1) (Nat.lt_of_le_of_lt (Nat.sub_le _ _) t.isLt)).2.1 := by
  rw [outsAt0_C m c t h0 h1]
  rfl

/-- The last tile adds its contribution to the second scratch. -/
theorem last_acc (c : Dev nD) (t : Fin cfg0.N) (h0 : ¬t.val % 8 = 0) (h1 : t.val % 8 = 7) :
    (outsAt0 m c t.val t.isLt).2.2 = k0_pay3 (outsAt0 m c (t.val - 1) (Nat.lt_of_le_of_lt (Nat.sub_le _ _) t.isLt)).2.1 (iblk m c 2 t)
      (outsAt0 m c (t.val - 1) (Nat.lt_of_le_of_lt (Nat.sub_le _ _) t.isLt)).2.2 (iblk m c 3 t) := by
  rw [outsAt0_C m c t h0 h1]
  dsimp only
  unfold sout0_C_1
  rw [View.read_writes_eq_canon _ _ _ (fun y => scover0_C_1 (c := c) (y := y) ..)]
  unfold kernelRun0_C
  dsimp only
  sl_unfold_words
  simp only [View.readAt_eq_ld, (hs0_2 t).read_unread, (hs0_3 t).read_unread]
  rw [View.canon_unit_zero zeros2]
  simp only [(Memref.isWhole_whole cc0_scratch0).read_unread, (Memref.isWhole_whole cc0_scratch1).read_unread,
    View.ld_unit_zero (S := S512x2048) zeros2, View.ld_unit_zero (S := S2048x1024) zeros2, View.ld_unit_zero (S := S1024x2048) zeros2]

/-- The last tile writes the normalized accumulator to the output block. -/
theorem last_out (c : Dev nD) (t : Fin cfg0.N) (h0 : ¬t.val % 8 = 0) (h1 : t.val % 8 = 7) :
    (outsAt0 m c t.val t.isLt).1 = k0_pay4 (outsAt0 m c t.val t.isLt).2.2 (iblk m c 4 t) := by
  rw [last_acc m c t h0 h1, outsAt0_C m c t h0 h1]
  dsimp only
  unfold out0_C_5
  rw [View.read_writes_eq_canon _ _ _ (fun y => cover0_C_5 (c := c) (y := y) ..)]
  unfold kernelRun0_C
  dsimp only
  sl_unfold_words
  simp only [View.readAt_eq_ld, (hs0_2 t).read_unread, (hs0_3 t).read_unread, (hs0_4 t).read_unread]
  rw [View.canon_unit_zero zeros2]
  try rw [View.readCov_unit_zero (S := S512x2048) _ zeros2]
  simp only [(Memref.isWhole_whole cc0_scratch0).read_unread, (Memref.isWhole_whole cc0_scratch1).read_unread,
    View.ld_unit_zero (S := S512x2048) zeros2, View.ld_unit_zero (S := S2048x1024) zeros2, View.ld_unit_zero (S := S1024x2048) zeros2,
    View.ld_unit_zero (S := S1x2048) zeros2]

/-! ## The blocks the windows read -/

variable (c : Dev nD)

/-- The residual stream, as launched. -/
abbrev argX : Vec Ideal S16384x2048 .f32 := m ((c.tc : Thread nD τ).loc main_arg0)
/-- The gain of the first normalization. -/
abbrev argG : Vec Ideal S2048 .f32 := m ((c.tc : Thread nD τ).loc main_arg1)
/-- The first weight. -/
abbrev argU : Vec Ideal S2048x8192 .f32 := m ((c.tc : Thread nD τ).loc main_arg2)
/-- The second weight. -/
abbrev argD : Vec Ideal S8192x2048 .f32 := m ((c.tc : Thread nD τ).loc main_arg3)
/-- The gain of the final normalization. -/
abbrev argF : Vec Ideal S2048 .f32 := m ((c.tc : Thread nD τ).loc main_arg4)

/-- The array row of a point's block row. -/
def row (n : ℕ) (r : Fin 512) : Fin 16384 := ⟨(512 * (n / 8) + r.val) % 16384, Nat.mod_lt _ (by decide)⟩
/-- The hidden column of a tile's column. -/
def col (n : ℕ) (f : Fin 1024) : Fin 8192 := ⟨(1024 * n + f.val) % 8192, Nat.mod_lt _ (by decide)⟩

/-- The region finds the residual stream as launched. -/
theorem V0_at (i : Fin 16384) (j : Fin 2048) : V m c main_arg0 (ix2 i j) = argX m c (ix2 i j) :=
  congrFun (V_main_arg0 m c) _
/-- The region finds the norm's gain as a row. -/
theorem V1_at (i : Fin 1) (j : Fin 2048) : V m c main_v2 (ix2 i j) = argG m c (ix1 j) := by
  unfold V; after_reads_at
/-- The region finds the first weight. -/
theorem V2_at (i : Fin 2048) (j : Fin 8192) : V m c main_v0 (ix2 i j) = argU m c (ix2 i j) := by
  unfold V; after_reads_at
/-- The region finds the second weight. -/
theorem V3_at (i : Fin 8192) (j : Fin 2048) : V m c main_v1 (ix2 i j) = argD m c (ix2 i j) := by
  unfold V; after_reads_at
/-- The region finds the final norm's gain as a row. -/
theorem V4_at (i : Fin 1) (j : Fin 2048) : V m c main_v3 (ix2 i j) = argF m c (ix1 j) := by
  unfold V; after_reads_at

/-- The row block moves once in eight points. -/
theorem index0 : ∀ t : Fin cfg0.N, win0_0.index t (0 : Fin 2) = t.val / 8 ∧ win0_0.index t (1 : Fin 2) = 0 :=
  (by decide +kernel : ∀ t : Fin grid0.N, _)
/-- The gain's window stays. -/
theorem index1 : ∀ t : Fin cfg0.N, win0_1.index t (0 : Fin 2) = 0 ∧ win0_1.index t (1 : Fin 2) = 0 :=
  (by decide +kernel : ∀ t : Fin grid0.N, _)
/-- The first weight's columns move with the point, modulo eight. -/
theorem index2 : ∀ t : Fin cfg0.N, win0_2.index t (0 : Fin 2) = 0 ∧ win0_2.index t (1 : Fin 2) = t.val % 8 :=
  (by decide +kernel : ∀ t : Fin grid0.N, _)
/-- The second weight's rows move with the point, modulo eight. -/
theorem index3 : ∀ t : Fin cfg0.N, win0_3.index t (0 : Fin 2) = t.val % 8 ∧ win0_3.index t (1 : Fin 2) = 0 :=
  (by decide +kernel : ∀ t : Fin grid0.N, _)
/-- The final gain's window stays. -/
theorem index4 : ∀ t : Fin cfg0.N, win0_4.index t (0 : Fin 2) = 0 ∧ win0_4.index t (1 : Fin 2) = 0 :=
  (by decide +kernel : ∀ t : Fin grid0.N, _)

/-- The row block at a point. -/
theorem blk0 (t : Fin cfg0.N) (r : Fin 512) (l : Fin 2048) :
    (iblk m c 0 t : Vec Ideal S512x2048 .f32) (ix2 r l) = argX m c (ix2 (row t.val r) l) := by
  have hi := index0 t
  have hN : t.val < 256 := lt_of_lt_of_eq t.isLt (show cfg0.N = 256 from N_0)
  rw [← V0_at]
  unfold iblk
  rw [View.read_apply]
  show V m c main_arg0 _ = V m c main_arg0 _
  congr 1
  funext a
  apply Fin.ext
  match a with
  | ⟨0, _⟩ => show win0_0.index t 0 * 512 + 1 * r.val = (512 * (t.val / 8) + r.val) % 16384; rw [hi.1]; omega
  | ⟨1, _⟩ => show win0_0.index t 1 * 2048 + 1 * l.val = l.val; rw [hi.2]; omega

/-- The gain at a point. -/
theorem blk1 (t : Fin cfg0.N) (l : Fin 2048) :
    (iblk m c 1 t : Vec Ideal S1x2048 .f32) (ix2 0 l) = argG m c (ix1 l) := by
  have hi := index1 t
  rw [← V1_at m c 0]
  unfold iblk
  rw [View.read_apply]
  show V m c main_v2 _ = V m c main_v2 _
  congr 1
  funext a
  apply Fin.ext
  match a with
  | ⟨0, _⟩ => show win0_1.index t 0 * 1 + 1 * 0 = 0; rw [hi.1]
  | ⟨1, _⟩ => show win0_1.index t 1 * 2048 + 1 * l.val = l.val; rw [hi.2]; omega

/-- The first weight's columns at a point. -/
theorem blk2 (t : Fin cfg0.N) (k : Fin 2048) (f : Fin 1024) :
    (iblk m c 2 t : Vec Ideal S2048x1024 .bf16) (ix2 k f) = argU m c (ix2 k (col (t.val % 8) f)) := by
  have hi := index2 t
  rw [← V2_at]
  unfold iblk
  rw [View.read_apply]
  show V m c main_v0 _ = V m c main_v0 _
  congr 1
  funext a
  apply Fin.ext
  match a with
  | ⟨0, _⟩ => show win0_2.index t 0 * 2048 + 1 * k.val = k.val; rw [hi.1]; omega
  | ⟨1, _⟩ => show win0_2.index t 1 * 1024 + 1 * f.val = (1024 * (t.val % 8) + f.val) % 8192; rw [hi.2]; omega

/-- The second weight's rows at a point. -/
theorem blk3 (t : Fin cfg0.N) (f : Fin 1024) (l : Fin 2048) :
    (iblk m c 3 t : Vec Ideal S1024x2048 .bf16) (ix2 f l) = argD m c (ix2 (col (t.val % 8) f) l) := by
  have hi := index3 t
  rw [← V3_at]
  unfold iblk
  rw [View.read_apply]
  show V m c main_v1 _ = V m c main_v1 _
  congr 1
  funext a
  apply Fin.ext
  match a with
  | ⟨0, _⟩ => show win0_3.index t 0 * 1024 + 1 * f.val = (1024 * (t.val % 8) + f.val) % 8192; rw [hi.1]; omega
  | ⟨1, _⟩ => show win0_3.index t 1 * 2048 + 1 * l.val = l.val; rw [hi.2]; omega

/-- The final gain at a point. -/
theorem blk4 (t : Fin cfg0.N) (l : Fin 2048) :
    (iblk m c 4 t : Vec Ideal S1x2048 .f32) (ix2 0 l) = argF m c (ix1 l) := by
  have hi := index4 t
  rw [← V4_at m c 0]
  unfold iblk
  rw [View.read_apply]
  show V m c main_v3 _ = V m c main_v3 _
  congr 1
  funext a
  apply Fin.ext
  match a with
  | ⟨0, _⟩ => show win0_4.index t 0 * 1 + 1 * 0 = 0; rw [hi.1]
  | ⟨1, _⟩ => show win0_4.index t 1 * 2048 + 1 * l.val = l.val; rw [hi.2]; omega

/-! ## The two scratch buffers over the points -/

/-- A row of the array, normalized. -/
def hnorm (i : Fin 16384) (l : Fin 2048) : EReal := rowNorm (fun k => argX m c (ix2 i k)) (fun k => argG m c (ix1 k)) l

/-- One tile's contribution to a row. -/
def tile (i : Fin 16384) (l : Fin 2048) (n : ℕ) : EReal :=
  ∑ f : Fin 1024, act (hnorm m c i) (fun k => argU m c (ix2 k (col n f))) * argD m c (ix2 (col n f) l)

/-- A tile's payload over the normalized rows adds that tile's contribution. -/
theorem pay3_tile (t : Fin cfg0.N) (hn : Vec Ideal S512x2048 .bf16) (acc : Vec Ideal S512x2048 .f32)
    (h : ∀ r k, hn (ix2 r k) = hnorm m c (row t.val r) k) (r : Fin 512) (l : Fin 2048) :
    k0_pay3 hn (iblk m c 2 t) acc (iblk m c 3 t) (ix2 r l) = acc (ix2 r l) + tile m c (row t.val r) l (t.val % 8) := by
  rw [pay3_at]
  simp only [h, blk2, blk3]
  rfl

/-- The first tile's normalized rows. -/
theorem pay1_norm (t : Fin cfg0.N) (r : Fin 512) (k : Fin 2048) :
    k0_pay1 (iblk m c 0 t) (iblk m c 1 t) (ix2 r k) = hnorm m c (row t.val r) k := by
  rw [pay1_at]
  simp only [blk0, blk1]
  rfl

/-- Within a row block the array row does not move. -/
theorem row_pred (n : ℕ) (h : ¬n % 8 = 0) (r : Fin 512) : row (n - 1) r = row n r := by
  have : (n - 1) / 8 = n / 8 := by omega
  exact Fin.ext (by show (512 * ((n - 1) / 8) + r.val) % 16384 = (512 * (n / 8) + r.val) % 16384; rw [this])

/-- After any point: the first scratch holds the row block's normalized rows, the second the residual plus the tiles so far. -/
theorem state (n : ℕ) : ∀ hn : n < cfg0.N,
    (∀ r k, (outsAt0 m c n hn).2.1 (ix2 r k) = hnorm m c (row n r) k)
    ∧ ∀ r l, (outsAt0 m c n hn).2.2 (ix2 r l)
        = argX m c (ix2 (row n r) l) + ∑ j ∈ Finset.range (n % 8 + 1), tile m c (row n r) l j := by
  induction n using Nat.strong_induction_on with
  | _ n ih =>
    intro hn
    by_cases h0 : n % 8 = 0
    · have h1 : ¬n % 8 = 7 := by omega
      rw [show (outsAt0 m c n hn).2.1 = _ from first_norm m c ⟨n, hn⟩ h0 h1,
        show (outsAt0 m c n hn).2.2 = _ from first_acc m c ⟨n, hn⟩ h0 h1]
      refine ⟨fun r k => pay1_norm m c ⟨n, hn⟩ r k, fun r l => ?_⟩
      rw [pay3_tile m c ⟨n, hn⟩ _ _ (fun r k => pay1_norm m c ⟨n, hn⟩ r k), pay2_at, blk0]
      simp only [h0, zero_add, Finset.range_one, Finset.sum_singleton]
    · have hp : n - 1 < n := by omega
      obtain ⟨ia, ib⟩ := ih (n - 1) hp (lt_trans hp hn)
      have ha : ∀ r k, (outsAt0 m c (n - 1) (lt_trans hp hn)).2.1 (ix2 r k) = hnorm m c (row n r) k :=
        fun r k => by rw [ia, row_pred n h0]
      have hm : (n - 1) % 8 + 1 = n % 8 := by omega
      have hb : (outsAt0 m c n hn).2.1 = (outsAt0 m c (n - 1) (lt_trans hp hn)).2.1
          ∧ (outsAt0 m c n hn).2.2 = k0_pay3 (outsAt0 m c (n - 1) (lt_trans hp hn)).2.1 (iblk m c 2 ⟨n, hn⟩)
              (outsAt0 m c (n - 1) (lt_trans hp hn)).2.2 (iblk m c 3 ⟨n, hn⟩) := by
        by_cases h1 : n % 8 = 7
        · exact ⟨last_norm m c ⟨n, hn⟩ h0 h1, last_acc m c ⟨n, hn⟩ h0 h1⟩
        · exact ⟨mid_norm m c ⟨n, hn⟩ h0 h1, mid_acc m c ⟨n, hn⟩ h0 h1⟩
      rw [hb.1, hb.2]
      refine ⟨ha, fun r l => ?_⟩
      rw [pay3_tile m c ⟨n, hn⟩ _ _ ha, ib, row_pred n h0, hm, Finset.sum_range_succ, add_assoc]

/-- The eight tiles together are the whole hidden sum. -/
theorem tiles_sum (i : Fin 16384) (l : Fin 2048) :
    argX m c (ix2 i l) + ∑ j ∈ Finset.range 8, tile m c i l j = refSum (argX m c) (argG m c) (argU m c) (argD m c) i l := by
  unfold refSum
  rw [Fin.sum_univ_tiles 8 1024 (by decide), Finset.sum_range]
  refine congrArg (_ + ·) (Finset.sum_congr rfl fun j _ => Finset.sum_congr rfl fun f _ => ?_)
  have e : col j.val f = ⟨j.val * 1024 + f.val, by have := j.isLt; have := f.isLt; omega⟩ :=
    Fin.ext (by have := j.isLt; have := f.isLt; show (1024 * j.val + f.val) % 8192 = j.val * 1024 + f.val; omega)
  rw [e]
  rfl

/-- The result array is the reference's last stage. -/
theorem result_eq : Cert.MlpIdeal.Value.G5 (F := Ideal) m c
    = Cert.MlpRefIdeal.Read.val_main_v30 (F := Ideal) (argX m c) (argG m c) (argU m c) (argD m c) (argF m c) := by
  funext i
  obtain ⟨r, l, rfl⟩ : ∃ r l, i = ix2 r l := ⟨i 0, i 1, by idx_ext⟩
  have hN : cfg0.N = 256 := N_0
  have hpt : Cert.MlpIdeal.Value.pt5Of (ix2 r l) = 8 * (r.val / 512) + 7 := by
    show 8 * (1 * (r.val / 512 - 0) + 1 * (l.val / 2048 - 0)) + 7 = _
    have := l.isLt; omega
  have hlt : Cert.MlpIdeal.Value.pt5Of (ix2 r l) < cfg0.N := by
    have := r.isLt; omega
  have hloc : Cert.MlpIdeal.Value.loc5Of (ix2 r l) = ix2 ⟨r.val % 512, Nat.mod_lt _ (by decide)⟩ l := by
    funext a; apply Fin.ext
    match a with
    | ⟨0, _⟩ => rfl
    | ⟨1, _⟩ => exact Nat.mod_eq_of_lt l.isLt
  unfold Cert.MlpIdeal.Value.G5
  rw [dif_pos hlt, ← Cert.MlpIdeal.Value.outsAt0_sweep m c _ hlt, hloc]
  have h0 : ¬Cert.MlpIdeal.Value.pt5Of (ix2 r l) % 8 = 0 := by omega
  have h1 : Cert.MlpIdeal.Value.pt5Of (ix2 r l) % 8 = 7 := by omega
  have hrow : row (Cert.MlpIdeal.Value.pt5Of (ix2 r l)) ⟨r.val % 512, Nat.mod_lt _ (by decide)⟩ = r :=
    Fin.ext (by show (512 * (Cert.MlpIdeal.Value.pt5Of (ix2 r l) / 8) + r.val % 512) % 16384 = r.val; have := r.isLt; omega)
  rw [show (outsAt0 m c _ hlt).1 = _ from last_out m c ⟨_, hlt⟩ h0 h1, pay4_at, ref_at]
  simp only [(state m c _ hlt).2, hrow, h1, blk4]
  exact congrArg (fun f => rowNorm f _ l) (funext fun k => tiles_sum m c r k)

end MlpProof

end
-- ==== Proof.XattnPay.lean ====
module

public import proofs.«01_k».proof.Proof.MlpPay
public import proofs.«01_k».proof.Proof.Gen.XattnIdeal.Skeleton
public import proofs.«01_k».proof.Proof.Gen.XattnRefIdeal.Read
public import Idealize.ShloMosaic.Lib.Pointwise

/-! The arithmetic of the cross-attention call and of its reference, each read at one index over the extended reals. -/

@[expose] public section

set_option maxRecDepth 16384

noncomputable section

open Idealize.ShloMosaic Idealize.ShloMosaic.TcCoe
open scoped BigOperators

namespace XattnProof

open Cert.XattnIdeal

/-- The largest score of a row. -/
def top (s : Fin 256 → EReal) : EReal :=
  (Finset.univ : Finset (Fin 256)).fold max (Idealize.ShloMosaic.Ideal.ofBits .f32 0xFF800000#32) s

/-- The weight that a row of scores gives one memory token. -/
def weight (s : Fin 256 → EReal) (t : Fin 256) : EReal :=
  Idealize.ShloMosaic.Ideal.div (Idealize.ShloMosaic.Ideal.exp (s t - top s)) (∑ u, Idealize.ShloMosaic.Ideal.exp (s u - top s))

/-- The scores of a projected row against the memory keys. -/
def score (q : Fin 512 → EReal) (k : Fin 256 → Fin 512 → EReal) (t : Fin 256) : EReal :=
  (∑ e, q e * k t e) * Idealize.ShloMosaic.Ideal.ofBits .f32 0x3D3504F3#32

/-- One head's attended value at one lane, from the normalized row. -/
def head (hn : Fin 2048 → EReal) (wq : Fin 2048 → Fin 512 → EReal) (k v : Fin 256 → Fin 512 → EReal) (e : Fin 512) : EReal :=
  ∑ t, weight (score (fun d => ∑ x, hn x * wq x d) k) t * v t e

/-- The stored accumulator is the accumulator. -/
theorem pay1_at (x : FVec Ideal S512x2048 .f32) (r : Fin 512) (l : Fin 2048) : Gen.k0_pay1 (F := Ideal) x (ix2 r l) = x (ix2 r l) := by
  pointwise [Gen.k0_pay1]

/-- The normalized block that the first head stores, at an index. -/
theorem pay2_at (x : Vec Ideal S512x2048 .f32) (g : Vec Ideal S1x2048 .f32) (r : Fin 512) (l : Fin 2048) :
    Gen.k0_pay2 x g (ix2 r l) = rowNorm (fun k => x (ix2 r k)) (fun k => g (ix2 0 k)) l := by
  pointwise [Gen.k0_pay2, rowNorm, rowScale]

/-- The residual block that the first head copies, at an index. -/
theorem pay3_at (x : Vec Ideal S512x2048 .f32) (r : Fin 512) (l : Fin 2048) :
    Gen.k0_pay3 x (ix2 r l) = x (ix2 r l) := by
  pointwise [Gen.k0_pay3]

/-- One head's contribution added to the accumulator, at an index. -/
theorem pay4_at (hn : Vec Ideal S512x2048 .bf16) (wq : Vec Ideal S2048x512 .bf16) (k v : Vec Ideal S256x512 .bf16)
    (acc : Vec Ideal S512x2048 .f32) (wo : Vec Ideal S512x2048 .bf16) (r : Fin 512) (l : Fin 2048) :
    Gen.k0_pay4 hn wq k v acc wo (ix2 r l) = acc (ix2 r l) + ∑ e : Fin 512,
      head (fun x => hn (ix2 r x)) (fun x e => wq (ix2 x e)) (fun t e => k (ix2 t e)) (fun t e => v (ix2 t e)) e * wo (ix2 e l) := by
  pointwise [Gen.k0_pay4, head, weight, score, top]

/-- The reference's normalized input, at an index. -/
theorem ref_norm (x : Vec Ideal S16384x2048 .f32) (g : Vec Ideal S2048 .f32) (r : Fin 16384) (l : Fin 2048) :
    Cert.XattnRefIdeal.Read.val_main_v13 (F := Ideal) x g (ix2 r l) = rowNorm (fun k => x (ix2 r k)) (fun k => g (ix1 k)) l := by
  pointwise [Cert.XattnRefIdeal.Read.val_main_v13, Cert.XattnRefIdeal.Read.val_main_v12, Cert.XattnRefIdeal.Read.val_main_v11, Cert.XattnRefIdeal.Read.val_main_v10, Cert.XattnRefIdeal.Read.val_main_v9, Cert.XattnRefIdeal.Read.val_main_v8, Cert.XattnRefIdeal.Read.val_main_v7, Cert.XattnRefIdeal.Read.val_main_v6, Cert.XattnRefIdeal.Read.val_main_v5, Cert.XattnRefIdeal.Read.val_main_v4, Cert.XattnRefIdeal.Read.val_main_v3, Cert.XattnRefIdeal.Read.val_main_v2, Cert.XattnRefIdeal.Read.val_main_v1, Cert.XattnRefIdeal.Read.val_main_cst, Cert.XattnRefIdeal.Read.val_main_cst_0, Cert.XattnRefIdeal.Read.val_main_cst_1, rowNorm, rowScale]

/-- The array column of a head's lane. -/
def lane (h : Fin 4) (e : Fin 512) : Fin 2048 := ⟨h.val * 512 + e.val, by have := h.isLt; have := e.isLt; omega⟩
/-- The memory's value column of a head's lane: the second half of the columns. -/
def vlane (h : Fin 4) (e : Fin 512) : Fin 4096 := ⟨2048 + (h.val * 512 + e.val), by have := h.isLt; have := e.isLt; omega⟩
/-- The memory's key column of a head's lane: the first half of the columns. -/
def klane (h : Fin 4) (e : Fin 512) : Fin 4096 := ⟨h.val * 512 + e.val, by have := h.isLt; have := e.isLt; omega⟩

/-- The reference's scores, at an index. -/
theorem ref_score (x : Vec Ideal S16384x2048 .f32) (g : Vec Ideal S2048 .f32) (wq : Vec Ideal S2048x2048 .f32) (kv : Vec Ideal S256x4096 .bf16)
    (h : Fin 4) (r : Fin 16384) (t : Fin 256) :
    Cert.XattnRefIdeal.Read.val_main_v22 (F := Ideal) x g wq kv (ix3 h r t)
      = score (fun e => ∑ d, rowNorm (fun k => x (ix2 r k)) (fun k => g (ix1 k)) d * wq (ix2 d (lane h e)))
          (fun t e => kv (ix2 t (klane h e))) t := by
  pointwise [Cert.XattnRefIdeal.Read.val_main_v22, Cert.XattnRefIdeal.Read.val_main_v21, Cert.XattnRefIdeal.Read.val_main_v20, Cert.XattnRefIdeal.Read.val_main_cst_2, Cert.XattnRefIdeal.Read.val_main_v17, Cert.XattnRefIdeal.Read.val_main_v16, Cert.XattnRefIdeal.Read.val_main_v15, Cert.XattnRefIdeal.Read.val_main_v14, Cert.XattnRefIdeal.Read.val_main_v0, ref_norm, score, lane, klane]

/-- A maximum started at a bound is not below the bound. -/
theorem max_top (s : Fin 256 → EReal) : max (Idealize.ShloMosaic.Ideal.ofBits .f32 0xFF800000#32) (top s) = top s :=
  max_eq_right ((Finset.le_fold_max _).2 (Or.inl le_rfl))

/-- The scores of one head and one row of the arrays. -/
def rowScore (x : Vec Ideal S16384x2048 .f32) (g : Vec Ideal S2048 .f32) (wq : Vec Ideal S2048x2048 .f32) (kv : Vec Ideal S256x4096 .bf16)
    (h : Fin 4) (r : Fin 16384) : Fin 256 → EReal :=
  score (fun e => ∑ d, rowNorm (fun k => x (ix2 r k)) (fun k => g (ix1 k)) d * wq (ix2 d (lane h e))) (fun t e => kv (ix2 t (klane h e)))

section
variable (x : Vec Ideal S16384x2048 .f32) (g : Vec Ideal S2048 .f32) (wq : Vec Ideal S2048x2048 .f32) (kv : Vec Ideal S256x4096 .bf16)
  (h : Fin 4) (r : Fin 16384) (t : Fin 256)

/-- The reference's scores as the row's scores. -/
theorem ref_rowScore : Cert.XattnRefIdeal.Read.val_main_v22 (F := Ideal) x g wq kv (ix3 h r t) = rowScore x g wq kv h r t :=
  ref_score x g wq kv h r t

/-- The reference's largest score, at an index. -/
theorem ref_fold : Cert.XattnRefIdeal.Read.val_main_v23 (F := Ideal) x g wq kv (ix2 h r) = top (rowScore x g wq kv h r) := by
  pointwise [Cert.XattnRefIdeal.Read.val_main_v23, Cert.XattnRefIdeal.Read.val_main_cst_3, ref_rowScore]
  rfl

/-- The reference's largest score after it is bounded from below, at an index. -/
theorem ref_top : Cert.XattnRefIdeal.Read.val_main_v27 (F := Ideal) x g wq kv (ix3 h r t) = top (rowScore x g wq kv h r) := by
  have e : Cert.XattnRefIdeal.Read.idx_main_v26 (Cert.XattnRefIdeal.Read.idx_main_v27 (ix3 h r t)) = ix2 h r := by idx_ext
  rw [Cert.XattnRefIdeal.Read.val_main_v27_apply, Cert.XattnRefIdeal.Read.val_main_v26_apply, e,
    Cert.XattnRefIdeal.Read.val_main_v25_apply, Cert.XattnRefIdeal.Read.val_main_v24_apply,
    Cert.XattnRefIdeal.Read.val_main_cst_4_apply, ref_fold]
  exact max_top _

/-- The reference's exponentials, at an index. -/
theorem ref_exp : Cert.XattnRefIdeal.Read.val_main_v29 (F := Ideal) x g wq kv (ix3 h r t)
    = Idealize.ShloMosaic.Ideal.exp (rowScore x g wq kv h r t - top (rowScore x g wq kv h r)) := by
  pointwise [Cert.XattnRefIdeal.Read.val_main_v29, Cert.XattnRefIdeal.Read.val_main_v28, ref_rowScore, ref_top]

/-- The reference's attention weights, at an index. -/
theorem ref_weight : Cert.XattnRefIdeal.Read.val_main_v33 (F := Ideal) x g wq kv (ix3 h r t) = weight (rowScore x g wq kv h r) t := by
  pointwise [Cert.XattnRefIdeal.Read.val_main_v33, Cert.XattnRefIdeal.Read.val_main_v32, Cert.XattnRefIdeal.Read.val_main_v31, Cert.XattnRefIdeal.Read.val_main_v30, Cert.XattnRefIdeal.Read.val_main_cst_5, ref_exp, weight]
end

/-- The reference's attended values, at an index. -/
theorem ref_head (x : Vec Ideal S16384x2048 .f32) (g : Vec Ideal S2048 .f32) (wq : Vec Ideal S2048x2048 .f32) (kv : Vec Ideal S256x4096 .bf16)
    (h : Fin 4) (r : Fin 16384) (e : Fin 512) :
    Cert.XattnRefIdeal.Read.val_main_v36 (F := Ideal) x g wq kv (ix2 r (lane h e))
      = head (rowNorm (fun k => x (ix2 r k)) (fun k => g (ix1 k))) (fun d e => wq (ix2 d (lane h e)))
          (fun t e => kv (ix2 t (klane h e))) (fun t e => kv (ix2 t (vlane h e))) e := by
  have hh := h.isLt
  have he := e.isLt
  have e1 : (lane h e).val / 512 = h.val := by show (h.val * 512 + e.val) / 512 = _; omega
  have e2 : (lane h e).val % 512 = e.val := by show (h.val * 512 + e.val) % 512 = _; omega
  pointwise [Cert.XattnRefIdeal.Read.val_main_v36, Cert.XattnRefIdeal.Read.val_main_v35, Cert.XattnRefIdeal.Read.val_main_v34, Cert.XattnRefIdeal.Read.val_main_v19, Cert.XattnRefIdeal.Read.val_main_v18, Cert.XattnRefIdeal.Read.val_main_v0, ref_weight, head, e1, e2]
  exact Finset.sum_congr rfl fun t _ => mul_comm _ _

/-- The reference's result, at an index: the residual plus the four heads' contributions. -/
theorem ref_at (x : Vec Ideal S16384x2048 .f32) (g : Vec Ideal S2048 .f32) (wq : Vec Ideal S2048x2048 .f32) (kv : Vec Ideal S256x4096 .bf16)
    (wo : Vec Ideal S2048x2048 .f32) (r : Fin 16384) (l : Fin 2048) :
    Cert.XattnRefIdeal.Read.val_main_v38 (F := Ideal) x g wq kv wo (ix2 r l)
      = x (ix2 r l) + ∑ h : Fin 4, ∑ e : Fin 512, head (rowNorm (fun k => x (ix2 r k)) (fun k => g (ix1 k))) (fun d e => wq (ix2 d (lane h e)))
          (fun t e => kv (ix2 t (klane h e))) (fun t e => kv (ix2 t (vlane h e))) e * wo (ix2 (lane h e) l) := by
  pointwise [Cert.XattnRefIdeal.Read.val_main_v38, Cert.XattnRefIdeal.Read.val_main_v37]
  rw [Fin.sum_univ_tiles 4 512 (by decide)]
  refine congrArg (_ + ·) (Finset.sum_congr rfl fun h _ => Finset.sum_congr rfl fun e _ => ?_)
  exact congrArg (· * _) (ref_head x g wq kv h r e)

end XattnProof

end
-- ==== Proof.XattnValue.lean ====
module

public import proofs.«01_k».proof.Proof.MlpValue
public import proofs.«01_k».proof.Proof.XattnPay
public import proofs.«01_k».proof.Proof.Gen.XattnIdeal.Value
public import Idealize.ShloMosaic.Lib.StableHlo.ReadAt

/-! The cross-attention call's result array: what the heads of a row block leave in the two scratch buffers, and the last head's output. -/

@[expose] public section

set_option maxRecDepth 16384

noncomputable section

open Idealize.ShloMosaic Idealize.ShloMosaic.TcCoe Idealize.SL.Sem
open scoped BigOperators

namespace XattnProof

open Cert.XattnIdeal Cert.XattnIdeal.Gen

/-- The offset of a whole block. -/
theorem zeros2 : (![0, 0] : Fin 2 → Nat) = fun _ => 0 := funext fun a => by fin_cases a <;> rfl

variable (m : (ℓ : Loc nD τ sig) → Buf (Elt Ideal) ℓ)

/-- The first head leaves the normalized rows in the first scratch. -/
theorem first_norm (c : Dev nD) (t : Fin cfg0.N) (h0 : t.val % 4 = 0) (h1 : ¬t.val % 4 = 3) :
    (outsAt0 m c t.val t.isLt).2.1 = k0_pay2 (iblk m c 0 t) (iblk m c 1 t) := by
  rw [outsAt0_A m c t h0 h1]
  dsimp only
  unfold sout0_A_0
  rw [View.read_writes_eq_canon _ _ _ (fun y => scover0_A_0 (c := c) (y := y) ..)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread]
  rw [View.canon_unit_zero zeros2, View.ld_unit_zero (S := S512x2048) zeros2, View.ld_unit_zero (S := S1x2048) zeros2]

/-- The first head leaves the residual plus its own contribution in the second scratch. -/
theorem first_acc (c : Dev nD) (t : Fin cfg0.N) (h0 : t.val % 4 = 0) (h1 : ¬t.val % 4 = 3) :
    (outsAt0 m c t.val t.isLt).2.2 = k0_pay1 (k0_pay4 (k0_pay2 (iblk m c 0 t) (iblk m c 1 t)) (iblk m c 2 t) (iblk m c 3 t) (iblk m c 4 t) (k0_pay3 (iblk m c 0 t)) (iblk m c 5 t)) := by
  rw [outsAt0_A m c t h0 h1]
  dsimp only
  unfold sout0_A_1
  rw [View.read_writes_eq_canon _ _ _ (fun y => scover0_A_1 (c := c) (y := y) ..)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread]
  rw [View.canon_cons_unit_zero (S := S512x2048) zeros2, View.readCov_unit_zero (S := S512x2048) _ zeros2,
    View.readCov_unit_zero (S := S512x2048) _ zeros2]
  simp only [View.ld_unit_zero (S := S512x2048) zeros2, View.ld_unit_zero (S := S1x2048) zeros2,
    View.ld_unit_zero (S := S2048x512) zeros2, View.ld_unit_zero (S := S256x512) zeros2]

/-- A middle head leaves the first scratch as it was. -/
theorem mid_norm (c : Dev nD) (t : Fin cfg0.N) (h0 : ¬t.val % 4 = 0) (h1 : ¬t.val % 4 = 3) :
    (outsAt0 m c t.val t.isLt).2.1 = (outsAt0 m c (t.val - 1) (Nat.lt_of_le_of_lt (Nat.sub_le _ _) t.isLt)).2.1 := by
  rw [outsAt0_B m c t h0 h1]
  rfl

/-- A middle head adds its contribution to the second scratch. -/
theorem mid_acc (c : Dev nD) (t : Fin cfg0.N) (h0 : ¬t.val % 4 = 0) (h1 : ¬t.val % 4 = 3) :
    (outsAt0 m c t.val t.isLt).2.2 = k0_pay1 (k0_pay4 (outsAt0 m c (t.val - 1) (Nat.lt_of_le_of_lt (Nat.sub_le _ _) t.isLt)).2.1 (iblk m c 2 t) (iblk m c 3 t) (iblk m c 4 t)
      (outsAt0 m c (t.val - 1) (Nat.lt_of_le_of_lt (Nat.sub_le _ _) t.isLt)).2.2 (iblk m c 5 t)) := by
  rw [outsAt0_B m c t h0 h1]
  dsimp only
  unfold sout0_B_1
  rw [View.read_writes_eq_canon _ _ _ (fun y => scover0_B_1 (c := c) (y := y) ..)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread]
  rw [View.canon_unit_zero zeros2]
  simp only [(Memref.isWhole_whole cc0_scratch0).read_unread, (Memref.isWhole_whole cc0_scratch1).read_unread,
    View.ld_unit_zero (S := S512x2048) zeros2, View.ld_unit_zero (S := S1x2048) zeros2,
    View.ld_unit_zero (S := S2048x512) zeros2, View.ld_unit_zero (S := S256x512) zeros2]

/-- The last head leaves the first scratch as it was. -/
theorem last_norm (c : Dev nD) (t : Fin cfg0.N) (h0 : ¬t.val % 4 = 0) (h1 : t.val % 4 = 3) :
    (outsAt0 m c t.val t.isLt).2.1 = (outsAt0 m c (t.val - 1) (Nat.lt_of_le_of_lt (Nat.sub_le _ _) t.isLt)).2.1 := by
  rw [outsAt0_C m c t h0 h1]
  rfl

/-- The last head adds its contribution to the second scratch. -/
theorem last_acc (c : Dev nD) (t : Fin cfg0.N) (h0 : ¬t.val % 4 = 0) (h1 : t.val % 4 = 3) :
    (outsAt0 m c t.val t.isLt).2.2 = k0_pay1 (k0_pay4 (outsAt0 m c (t.val - 1) (Nat.lt_of_le_of_lt (Nat.sub_le _ _) t.isLt)).2.1 (iblk m c 2 t) (iblk m c 3 t) (iblk m c 4 t)
      (outsAt0 m c (t.val - 1) (Nat.lt_of_le_of_lt (Nat.sub_le _ _) t.isLt)).2.2 (iblk m c 5 t)) := by
  rw [outsAt0_C m c t h0 h1]
  dsimp only
  unfold sout0_C_1
  rw [View.read_writes_eq_canon _ _ _ (fun y => scover0_C_1 (c := c) (y := y) ..)]
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread]
  rw [View.canon_unit_zero zeros2]
  simp only [(Memref.isWhole_whole cc0_scratch0).read_unread, (Memref.isWhole_whole cc0_scratch1).read_unread,
    View.ld_unit_zero (S := S512x2048) zeros2, View.ld_unit_zero (S := S1x2048) zeros2,
    View.ld_unit_zero (S := S2048x512) zeros2, View.ld_unit_zero (S := S256x512) zeros2]

/-- The last head writes the accumulator to the output block. -/
theorem last_out (c : Dev nD) (t : Fin cfg0.N) (h0 : ¬t.val % 4 = 0) (h1 : t.val % 4 = 3) :
    (outsAt0 m c t.val t.isLt).1 = (outsAt0 m c t.val t.isLt).2.2 := by
  rw [last_acc m c t h0 h1]
  rw [outsAt0_C m c t h0 h1]
  dsimp only
  unfold out0_C_6
  rw [View.read_writes_eq_canon _ _ _ (fun y => cover0_C_6 (c := c) (y := y) ..)]
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread]
  rw [View.canon_unit_zero zeros2]
  try rw [View.readCov_unit_zero (S := S512x2048) _ zeros2]
  simp only [(Memref.isWhole_whole cc0_scratch0).read_unread, (Memref.isWhole_whole cc0_scratch1).read_unread,
    View.ld_unit_zero (S := S512x2048) zeros2, View.ld_unit_zero (S := S1x2048) zeros2,
    View.ld_unit_zero (S := S2048x512) zeros2, View.ld_unit_zero (S := S256x512) zeros2]

/-! ## The blocks the windows read -/

variable (c : Dev nD)

/-- The residual stream, as launched. -/
abbrev argX : Vec Ideal S16384x2048 .f32 := m ((c.tc : Thread nD τ).loc main_arg0)
/-- The gain of the normalization. -/
abbrev argG : Vec Ideal S2048 .f32 := m ((c.tc : Thread nD τ).loc main_arg1)
/-- The query weight. -/
abbrev argQ : Vec Ideal S2048x2048 .f32 := m ((c.tc : Thread nD τ).loc main_arg2)
/-- The memory's keys and values. -/
abbrev argK : Vec Ideal S256x4096 .bf16 := m ((c.tc : Thread nD τ).loc main_arg3)
/-- The output weight. -/
abbrev argO : Vec Ideal S2048x2048 .f32 := m ((c.tc : Thread nD τ).loc main_arg4)

/-- The array row of a point's block row. -/
def row (n : ℕ) (r : Fin 512) : Fin 16384 := ⟨(512 * (n / 4) + r.val) % 16384, Nat.mod_lt _ (by decide)⟩
/-- The head of a point. -/
def hd (n : ℕ) : Fin 4 := ⟨n % 4, Nat.mod_lt _ (by decide)⟩

/-- The residual as the launch reads it. -/
theorem V0_at (i : Fin 16384) (j : Fin 2048) : V m c main_arg0 (ix2 i j) = argX m c (ix2 i j) :=
  congrFun (V_main_arg0 m c) _
/-- The gain as the launch reads it. -/
theorem V1_at (i : Fin 1) (j : Fin 2048) : V m c main_v4 (ix2 i j) = argG m c (ix1 j) := by
  unfold V; after_reads_at
/-- The query weight as the launch reads it. -/
theorem V2_at (i : Fin 2048) (j : Fin 2048) : V m c main_v0 (ix2 i j) = argQ m c (ix2 i j) := by
  unfold V; after_reads_at
/-- The keys as the launch reads them: the first half of the memory's columns. -/
theorem V3_at (i : Fin 256) (h : Fin 4) (e : Fin 512) : V m c main_v1 (ix2 i (lane h e)) = argK m c (ix2 i (klane h e)) := by
  unfold V; after_reads_at; rfl
/-- The values as the launch reads them: the second half of the memory's columns. -/
theorem V4_at (i : Fin 256) (h : Fin 4) (e : Fin 512) : V m c main_v2 (ix2 i (lane h e)) = argK m c (ix2 i (vlane h e)) := by
  unfold V; after_reads_at; rfl
/-- The output weight as the launch reads it. -/
theorem V5_at (i : Fin 2048) (j : Fin 2048) : V m c main_v3 (ix2 i j) = argO m c (ix2 i j) := by
  unfold V; after_reads_at

/-- Where window 0's block lies. -/
theorem index0 : ∀ t : Fin cfg0.N, win0_0.index t (0 : Fin 2) = t.val / 4 ∧ win0_0.index t (1 : Fin 2) = 0 :=
  (by decide +kernel : ∀ t : Fin grid0.N, _)
/-- Where window 1's block lies. -/
theorem index1 : ∀ t : Fin cfg0.N, win0_1.index t (0 : Fin 2) = 0 ∧ win0_1.index t (1 : Fin 2) = 0 :=
  (by decide +kernel : ∀ t : Fin grid0.N, _)
/-- Where window 2's block lies. -/
theorem index2 : ∀ t : Fin cfg0.N, win0_2.index t (0 : Fin 2) = 0 ∧ win0_2.index t (1 : Fin 2) = t.val % 4 :=
  (by decide +kernel : ∀ t : Fin grid0.N, _)
/-- Where window 3's block lies. -/
theorem index3 : ∀ t : Fin cfg0.N, win0_3.index t (0 : Fin 2) = 0 ∧ win0_3.index t (1 : Fin 2) = t.val % 4 :=
  (by decide +kernel : ∀ t : Fin grid0.N, _)
/-- Where window 4's block lies. -/
theorem index4 : ∀ t : Fin cfg0.N, win0_4.index t (0 : Fin 2) = 0 ∧ win0_4.index t (1 : Fin 2) = t.val % 4 :=
  (by decide +kernel : ∀ t : Fin grid0.N, _)
/-- Where window 5's block lies. -/
theorem index5 : ∀ t : Fin cfg0.N, win0_5.index t (0 : Fin 2) = t.val % 4 ∧ win0_5.index t (1 : Fin 2) = 0 :=
  (by decide +kernel : ∀ t : Fin grid0.N, _)

/-- The residual block. -/
theorem blk0 (t : Fin cfg0.N) (r : Fin 512) (l : Fin 2048) :
    (iblk m c 0 t : Vec Ideal S512x2048 .f32) (ix2 r l) = argX m c (ix2 (row t.val r) l) := by
  have hi := index0 t
  have hN : t.val < 128 := lt_of_lt_of_eq t.isLt (show cfg0.N = 128 from N_0)
  rw [← V0_at]
  unfold iblk
  rw [View.read_apply]
  show V m c main_arg0 _ = V m c main_arg0 _
  congr 1
  funext a
  apply Fin.ext
  match a with
  | ⟨0, _⟩ => show win0_0.index t 0 * 512 + 1 * r.val = (512 * (t.val / 4) + r.val) % 16384; rw [hi.1]; try omega
  | ⟨1, _⟩ => show win0_0.index t 1 * 2048 + 1 * l.val = l.val; rw [hi.2]; try omega

/-- The gain block. -/
theorem blk1 (t : Fin cfg0.N) (l : Fin 2048) :
    (iblk m c 1 t : Vec Ideal S1x2048 .f32) (ix2 0 l) = argG m c (ix1 l) := by
  have hi := index1 t
  have hN : t.val < 128 := lt_of_lt_of_eq t.isLt (show cfg0.N = 128 from N_0)
  rw [← V1_at m c 0]
  unfold iblk
  rw [View.read_apply]
  show V m c main_v4 _ = V m c main_v4 _
  congr 1
  funext a
  apply Fin.ext
  match a with
  | ⟨0, _⟩ => show win0_1.index t 0 * 1 + 1 * 0 = 0; rw [hi.1]; try omega
  | ⟨1, _⟩ => show win0_1.index t 1 * 2048 + 1 * l.val = l.val; rw [hi.2]; try omega

/-- The head's query weight. -/
theorem blk2 (t : Fin cfg0.N) (k : Fin 2048) (e : Fin 512) :
    (iblk m c 2 t : Vec Ideal S2048x512 .bf16) (ix2 k e) = argQ m c (ix2 k (lane (hd t.val) e)) := by
  have hi := index2 t
  have hN : t.val < 128 := lt_of_lt_of_eq t.isLt (show cfg0.N = 128 from N_0)
  rw [← V2_at]
  unfold iblk
  rw [View.read_apply]
  show V m c main_v0 _ = V m c main_v0 _
  congr 1
  funext a
  apply Fin.ext
  match a with
  | ⟨0, _⟩ => show win0_2.index t 0 * 2048 + 1 * k.val = k.val; rw [hi.1]; try omega
  | ⟨1, _⟩ => show win0_2.index t 1 * 512 + 1 * e.val = t.val % 4 * 512 + e.val; rw [hi.2]; try omega

/-- The head's keys. -/
theorem blk3 (t : Fin cfg0.N) (k : Fin 256) (e : Fin 512) :
    (iblk m c 3 t : Vec Ideal S256x512 .bf16) (ix2 k e) = argK m c (ix2 k (klane (hd t.val) e)) := by
  have hi := index3 t
  have hN : t.val < 128 := lt_of_lt_of_eq t.isLt (show cfg0.N = 128 from N_0)
  rw [← V3_at]
  unfold iblk
  rw [View.read_apply]
  show V m c main_v1 _ = V m c main_v1 _
  congr 1
  funext a
  apply Fin.ext
  match a with
  | ⟨0, _⟩ => show win0_3.index t 0 * 256 + 1 * k.val = k.val; rw [hi.1]; try omega
  | ⟨1, _⟩ => show win0_3.index t 1 * 512 + 1 * e.val = t.val % 4 * 512 + e.val; rw [hi.2]; try omega

/-- The head's values. -/
theorem blk4 (t : Fin cfg0.N) (k : Fin 256) (e : Fin 512) :
    (iblk m c 4 t : Vec Ideal S256x512 .bf16) (ix2 k e) = argK m c (ix2 k (vlane (hd t.val) e)) := by
  have hi := index4 t
  have hN : t.val < 128 := lt_of_lt_of_eq t.isLt (show cfg0.N = 128 from N_0)
  rw [← V4_at]
  unfold iblk
  rw [View.read_apply]
  show V m c main_v2 _ = V m c main_v2 _
  congr 1
  funext a
  apply Fin.ext
  match a with
  | ⟨0, _⟩ => show win0_4.index t 0 * 256 + 1 * k.val = k.val; rw [hi.1]; try omega
  | ⟨1, _⟩ => show win0_4.index t 1 * 512 + 1 * e.val = t.val % 4 * 512 + e.val; rw [hi.2]; try omega

/-- The head's output weight. -/
theorem blk5 (t : Fin cfg0.N) (e : Fin 512) (l : Fin 2048) :
    (iblk m c 5 t : Vec Ideal S512x2048 .bf16) (ix2 e l) = argO m c (ix2 (lane (hd t.val) e) l) := by
  have hi := index5 t
  have hN : t.val < 128 := lt_of_lt_of_eq t.isLt (show cfg0.N = 128 from N_0)
  rw [← V5_at]
  unfold iblk
  rw [View.read_apply]
  show V m c main_v3 _ = V m c main_v3 _
  congr 1
  funext a
  apply Fin.ext
  match a with
  | ⟨0, _⟩ => show win0_5.index t 0 * 512 + 1 * e.val = t.val % 4 * 512 + e.val; rw [hi.1]; try omega
  | ⟨1, _⟩ => show win0_5.index t 1 * 2048 + 1 * l.val = l.val; rw [hi.2]; try omega

/-! ## The two scratch buffers over the points -/

/-- A row of the array, normalized. -/
def hnorm (i : Fin 16384) (l : Fin 2048) : EReal := rowNorm (fun k => argX m c (ix2 i k)) (fun k => argG m c (ix1 k)) l

/-- One head's contribution to a row. -/
def part (i : Fin 16384) (l : Fin 2048) (n : ℕ) : EReal :=
  ∑ e : Fin 512, head (hnorm m c i) (fun d e => argQ m c (ix2 d (lane (hd n) e))) (fun t e => argK m c (ix2 t (klane (hd n) e)))
    (fun t e => argK m c (ix2 t (vlane (hd n) e))) e * argO m c (ix2 (lane (hd n) e) l)

/-- A head's payload over the normalized rows adds that head's contribution. -/
theorem pay_part (t : Fin cfg0.N) (hn : Vec Ideal S512x2048 .bf16) (acc : Vec Ideal S512x2048 .f32)
    (h : ∀ r k, hn (ix2 r k) = hnorm m c (row t.val r) k) (r : Fin 512) (l : Fin 2048) :
    k0_pay1 (k0_pay4 hn (iblk m c 2 t) (iblk m c 3 t) (iblk m c 4 t) acc (iblk m c 5 t)) (ix2 r l)
      = acc (ix2 r l) + part m c (row t.val r) l t.val := by
  rw [pay1_at, pay4_at]
  simp only [h, blk2, blk3, blk4, blk5]
  rfl

/-- The first head's normalized rows. -/
theorem pay2_norm (t : Fin cfg0.N) (r : Fin 512) (k : Fin 2048) :
    k0_pay2 (iblk m c 0 t) (iblk m c 1 t) (ix2 r k) = hnorm m c (row t.val r) k := by
  rw [pay2_at]
  simp only [blk0, blk1]
  rfl

/-- Within a row block the array row does not move. -/
theorem row_pred (n : ℕ) (h : ¬n % 4 = 0) (r : Fin 512) : row (n - 1) r = row n r := by
  have : (n - 1) / 4 = n / 4 := by omega
  exact Fin.ext (by show (512 * ((n - 1) / 4) + r.val) % 16384 = (512 * (n / 4) + r.val) % 16384; rw [this])

/-- Only the head of a point counts. -/
theorem part_mod (i : Fin 16384) (l : Fin 2048) (n : ℕ) : part m c i l n = part m c i l (n % 4) := by
  have : hd (n % 4) = hd n := Fin.ext (Nat.mod_mod n 4)
  unfold part
  rw [this]

/-- After any point: the first scratch holds the row block's normalized rows, the second the residual plus the heads so far. -/
theorem state (n : ℕ) : ∀ hn : n < cfg0.N,
    (∀ r k, (outsAt0 m c n hn).2.1 (ix2 r k) = hnorm m c (row n r) k)
    ∧ ∀ r l, (outsAt0 m c n hn).2.2 (ix2 r l)
        = argX m c (ix2 (row n r) l) + ∑ j ∈ Finset.range (n % 4 + 1), part m c (row n r) l j := by
  induction n using Nat.strong_induction_on with
  | _ n ih =>
    intro hn
    by_cases h0 : n % 4 = 0
    · have h1 : ¬n % 4 = 3 := by omega
      rw [show (outsAt0 m c n hn).2.1 = _ from first_norm m c ⟨n, hn⟩ h0 h1,
        show (outsAt0 m c n hn).2.2 = _ from first_acc m c ⟨n, hn⟩ h0 h1]
      refine ⟨fun r k => pay2_norm m c ⟨n, hn⟩ r k, fun r l => ?_⟩
      rw [pay_part m c ⟨n, hn⟩ _ _ (fun r k => pay2_norm m c ⟨n, hn⟩ r k), pay3_at, blk0, part_mod]
      simp only [h0, zero_add, Finset.range_one, Finset.sum_singleton]
    · have hp : n - 1 < n := by omega
      obtain ⟨ia, ib⟩ := ih (n - 1) hp (lt_trans hp hn)
      have ha : ∀ r k, (outsAt0 m c (n - 1) (lt_trans hp hn)).2.1 (ix2 r k) = hnorm m c (row n r) k :=
        fun r k => by rw [ia, row_pred n h0]
      have hm : (n - 1) % 4 + 1 = n % 4 := by omega
      have hb : (outsAt0 m c n hn).2.1 = (outsAt0 m c (n - 1) (lt_trans hp hn)).2.1
          ∧ (outsAt0 m c n hn).2.2 = k0_pay1 (k0_pay4 (outsAt0 m c (n - 1) (lt_trans hp hn)).2.1 (iblk m c 2 ⟨n, hn⟩)
              (iblk m c 3 ⟨n, hn⟩) (iblk m c 4 ⟨n, hn⟩) (outsAt0 m c (n - 1) (lt_trans hp hn)).2.2 (iblk m c 5 ⟨n, hn⟩)) := by
        by_cases h1 : n % 4 = 3
        · exact ⟨last_norm m c ⟨n, hn⟩ h0 h1, last_acc m c ⟨n, hn⟩ h0 h1⟩
        · exact ⟨mid_norm m c ⟨n, hn⟩ h0 h1, mid_acc m c ⟨n, hn⟩ h0 h1⟩
      rw [hb.1, hb.2]
      refine ⟨ha, fun r l => ?_⟩
      rw [pay_part m c ⟨n, hn⟩ _ _ ha, ib, row_pred n h0, hm, part_mod, Finset.sum_range_succ, add_assoc]

/-- The four heads together. -/
theorem parts_sum (i : Fin 16384) (l : Fin 2048) :
    argX m c (ix2 i l) + ∑ j ∈ Finset.range 4, part m c i l j
      = Cert.XattnRefIdeal.Read.val_main_v38 (F := Ideal) (argX m c) (argG m c) (argQ m c) (argK m c) (argO m c) (ix2 i l) := by
  rw [ref_at, Finset.sum_range]
  refine congrArg (_ + ·) (Finset.sum_congr rfl fun j _ => ?_)
  have e : hd j.val = j := Fin.ext (Nat.mod_eq_of_lt j.isLt)
  unfold part
  rw [e]
  rfl

/-- The result array is the reference's last stage. -/
theorem result_eq : Cert.XattnIdeal.Value.G6 (F := Ideal) m c
    = Cert.XattnRefIdeal.Read.val_main_v38 (F := Ideal) (argX m c) (argG m c) (argQ m c) (argK m c) (argO m c) := by
  funext i
  obtain ⟨r, l, rfl⟩ : ∃ r l, i = ix2 r l := ⟨i 0, i 1, by idx_ext⟩
  have hN : cfg0.N = 128 := N_0
  have hpt : Cert.XattnIdeal.Value.pt6Of (ix2 r l) = 4 * (r.val / 512) + 3 := by
    show 4 * (1 * (r.val / 512 - 0) + 1 * (l.val / 2048 - 0)) + 3 = _
    have := l.isLt; omega
  have hlt : Cert.XattnIdeal.Value.pt6Of (ix2 r l) < cfg0.N := by
    have := r.isLt; omega
  have hloc : Cert.XattnIdeal.Value.loc6Of (ix2 r l) = ix2 ⟨r.val % 512, Nat.mod_lt _ (by decide)⟩ l := by
    funext a; apply Fin.ext
    match a with
    | ⟨0, _⟩ => rfl
    | ⟨1, _⟩ => exact Nat.mod_eq_of_lt l.isLt
  unfold Cert.XattnIdeal.Value.G6
  rw [dif_pos hlt, ← Cert.XattnIdeal.Value.outsAt0_sweep m c _ hlt, hloc]
  have h0 : ¬Cert.XattnIdeal.Value.pt6Of (ix2 r l) % 4 = 0 := by omega
  have h1 : Cert.XattnIdeal.Value.pt6Of (ix2 r l) % 4 = 3 := by omega
  have hrow : row (Cert.XattnIdeal.Value.pt6Of (ix2 r l)) ⟨r.val % 512, Nat.mod_lt _ (by decide)⟩ = r :=
    Fin.ext (by show (512 * (Cert.XattnIdeal.Value.pt6Of (ix2 r l) / 4) + r.val % 512) % 16384 = r.val; have := r.isLt; omega)
  rw [show (outsAt0 m c _ hlt).1 = _ from last_out m c ⟨_, hlt⟩ h0 h1]
  rw [(state m c _ hlt).2, hrow, h1]
  exact parts_sum m c r l

end XattnProof

end
-- ==== Proof.ProjPay.lean ====
module

public import proofs.«01_k».proof.Proof.XattnValue
public import proofs.«01_k».proof.Proof.Gen.InProjIdeal.Skeleton
public import proofs.«01_k».proof.Proof.Gen.InProjRefIdeal.Read
public import proofs.«01_k».proof.Proof.Gen.OutProjIdeal.Skeleton
public import proofs.«01_k».proof.Proof.Gen.OutProjRefIdeal.Read
public import proofs.«01_k».proof.Proof.Gen.MemKvIdeal.Skeleton
public import proofs.«01_k».proof.Proof.Gen.MemKvRefIdeal.Read

/-! The arithmetic of the three projection calls and of their references, each read at one index over the extended reals. -/

@[expose] public section

set_option maxRecDepth 16384

noncomputable section

open Idealize.ShloMosaic Idealize.ShloMosaic.TcCoe
open scoped BigOperators

namespace InProjProof

open Cert.InProjIdeal

/-- The normalized block that the first column tile stores, at an index. -/
theorem pay1_at (x : Vec Ideal S512x2048 .f32) (g : Vec Ideal S1x2048 .f32) (r : Fin 512) (l : Fin 2048) :
    Gen.k0_pay1 x g (ix2 r l) = rowNorm (fun k => x (ix2 r k)) (fun k => g (ix2 0 k)) l := by
  pointwise [Gen.k0_pay1, rowNorm, rowScale]

/-- One column tile's product, at an index. -/
theorem pay2_at (hn : Vec Ideal S512x2048 .bf16) (w : Vec Ideal S2048x1536 .bf16) (r : Fin 512) (l : Fin 1536) :
    Gen.k0_pay2 hn w (ix2 r l) = ∑ k : Fin 2048, hn (ix2 r k) * w (ix2 k l) := by
  pointwise [Gen.k0_pay2]

/-- The reference's normalized input, at an index. -/
theorem ref_norm (x : Vec Ideal S16384x2048 .f32) (g : Vec Ideal S2048 .f32) (r : Fin 16384) (l : Fin 2048) :
    Cert.InProjRefIdeal.Read.val_main_v12 (F := Ideal) x g (ix2 r l) = rowNorm (fun k => x (ix2 r k)) (fun k => g (ix1 k)) l := by
  pointwise [Cert.InProjRefIdeal.Read.val_main_v12, Cert.InProjRefIdeal.Read.val_main_v11, Cert.InProjRefIdeal.Read.val_main_v10, Cert.InProjRefIdeal.Read.val_main_v9, Cert.InProjRefIdeal.Read.val_main_v8, Cert.InProjRefIdeal.Read.val_main_v7, Cert.InProjRefIdeal.Read.val_main_v6, Cert.InProjRefIdeal.Read.val_main_v5, Cert.InProjRefIdeal.Read.val_main_v4, Cert.InProjRefIdeal.Read.val_main_v3, Cert.InProjRefIdeal.Read.val_main_v2, Cert.InProjRefIdeal.Read.val_main_v1, Cert.InProjRefIdeal.Read.val_main_v0, Cert.InProjRefIdeal.Read.val_main_cst, Cert.InProjRefIdeal.Read.val_main_cst_0, Cert.InProjRefIdeal.Read.val_main_cst_1, rowNorm, rowScale]

/-- The reference's product, at an index. -/
theorem ref_at (x : Vec Ideal S16384x2048 .f32) (g : Vec Ideal S2048 .f32) (w : Vec Ideal S2048x7680 .f32) (r : Fin 16384) (l : Fin 7680) :
    Cert.InProjRefIdeal.Read.val_main_v13 (F := Ideal) x g w (ix2 r l)
      = ∑ k : Fin 2048, rowNorm (fun k => x (ix2 r k)) (fun k => g (ix1 k)) k * w (ix2 k l) := by
  pointwise [Cert.InProjRefIdeal.Read.val_main_v13, ref_norm]

end InProjProof

namespace OutProjProof

open Cert.OutProjIdeal

/-- The residual plus the two halves' products, at an index. -/
theorem pay1_at (x : Vec Ideal S512x2048 .f32) (a : Vec Ideal S512x1024 .bf16) (wa : Vec Ideal S1024x2048 .bf16)
    (b : Vec Ideal S512x1024 .bf16) (wb : Vec Ideal S1024x2048 .bf16) (r : Fin 512) (l : Fin 2048) :
    Gen.k0_pay1 x a wa b wb (ix2 r l)
      = x (ix2 r l) + ∑ k : Fin 1024, a (ix2 r k) * wa (ix2 k l) + ∑ k : Fin 1024, b (ix2 r k) * wb (ix2 k l) := by
  pointwise [Gen.k0_pay1]

/-- The reference's first half of the joined columns. -/
theorem ref_left (a b : Vec Ideal S16384x1024 .bf16) (r : Fin 16384) (k : Fin 1024) :
    Cert.OutProjRefIdeal.Read.val_main_v1 (F := Ideal) a b (ix2 r (⟨k.val, by have := k.isLt; omega⟩ : Fin 2048)) = a (ix2 r k) := by
  pointwise [Cert.OutProjRefIdeal.Read.val_main_v1, Cert.OutProjRefIdeal.Read.val_main_v0]

/-- The reference's second half of the joined columns. -/
theorem ref_right (a b : Vec Ideal S16384x1024 .bf16) (r : Fin 16384) (k : Fin 1024) :
    Cert.OutProjRefIdeal.Read.val_main_v1 (F := Ideal) a b (ix2 r (⟨1024 + k.val, by have := k.isLt; omega⟩ : Fin 2048)) = b (ix2 r k) := by
  pointwise [Cert.OutProjRefIdeal.Read.val_main_v1, Cert.OutProjRefIdeal.Read.val_main_v0]

/-- The reference's residual sum over the joined columns. -/
theorem ref_joined (x : Vec Ideal S16384x2048 .f32) (a b : Vec Ideal S16384x1024 .bf16) (w : Vec Ideal S2048x2048 .f32)
    (r : Fin 16384) (l : Fin 2048) :
    Cert.OutProjRefIdeal.Read.val_main_v3 (F := Ideal) x a b w (ix2 r l)
      = x (ix2 r l) + ∑ k : Fin 2048, Cert.OutProjRefIdeal.Read.val_main_v1 (F := Ideal) a b (ix2 r k) * w (ix2 k l) := by
  pointwise [Cert.OutProjRefIdeal.Read.val_main_v3, Cert.OutProjRefIdeal.Read.val_main_v2]

/-- The reference's result, its sum cut at the joint. -/
theorem ref_at (x : Vec Ideal S16384x2048 .f32) (a b : Vec Ideal S16384x1024 .bf16) (w : Vec Ideal S2048x2048 .f32)
    (r : Fin 16384) (l : Fin 2048) :
    Cert.OutProjRefIdeal.Read.val_main_v3 (F := Ideal) x a b w (ix2 r l)
      = x (ix2 r l) + ∑ k : Fin 1024, a (ix2 r k) * w (ix2 (⟨k.val, by have := k.isLt; omega⟩ : Fin 2048) l)
        + ∑ k : Fin 1024, b (ix2 r k) * w (ix2 (⟨1024 + k.val, by have := k.isLt; omega⟩ : Fin 2048) l) := by
  rw [ref_joined, Fin.sum_univ_add (a := 1024) (b := 1024), add_assoc]
  refine congrArg (_ + ·) (congrArg₂ (· + ·) (Finset.sum_congr rfl fun k _ => ?_) (Finset.sum_congr rfl fun k _ => ?_))
  · rw [← ref_left a b r k]; rfl
  · rw [← ref_right a b r k]; rfl

end OutProjProof

namespace MemKvProof

open Cert.MemKvIdeal

/-- The normalized block that the first column tile stores, at an index. -/
theorem pay1_at (x : Vec Ideal S256x2048 .f32) (g : Vec Ideal S1x2048 .f32) (r : Fin 256) (l : Fin 2048) :
    Gen.k0_pay1 x g (ix2 r l) = rowNorm (fun k => x (ix2 r k)) (fun k => g (ix2 0 k)) l := by
  pointwise [Gen.k0_pay1, rowNorm, rowScale]

/-- One column tile's product, at an index. -/
theorem pay2_at (hn : Vec Ideal S256x2048 .bf16) (w : Vec Ideal S2048x1024 .bf16) (r : Fin 256) (l : Fin 1024) :
    Gen.k0_pay2 hn w (ix2 r l) = ∑ k : Fin 2048, hn (ix2 r k) * w (ix2 k l) := by
  pointwise [Gen.k0_pay2]

/-- The reference's normalized memory, at an index. -/
theorem ref_norm (x : Vec Ideal S256x2048 .f32) (g : Vec Ideal S2048 .f32) (r : Fin 256) (l : Fin 2048) :
    Cert.MemKvRefIdeal.Read.val_main_v12 (F := Ideal) x g (ix2 r l) = rowNorm (fun k => x (ix2 r k)) (fun k => g (ix1 k)) l := by
  pointwise [Cert.MemKvRefIdeal.Read.val_main_v12, Cert.MemKvRefIdeal.Read.val_main_v11, Cert.MemKvRefIdeal.Read.val_main_v10, Cert.MemKvRefIdeal.Read.val_main_v9, Cert.MemKvRefIdeal.Read.val_main_v8, Cert.MemKvRefIdeal.Read.val_main_v7, Cert.MemKvRefIdeal.Read.val_main_v6, Cert.MemKvRefIdeal.Read.val_main_v5, Cert.MemKvRefIdeal.Read.val_main_v4, Cert.MemKvRefIdeal.Read.val_main_v3, Cert.MemKvRefIdeal.Read.val_main_v2, Cert.MemKvRefIdeal.Read.val_main_v1, Cert.MemKvRefIdeal.Read.val_main_v0, Cert.MemKvRefIdeal.Read.val_main_cst, Cert.MemKvRefIdeal.Read.val_main_cst_0, Cert.MemKvRefIdeal.Read.val_main_cst_1, rowNorm, rowScale]

/-- The reference's keys, at an index. -/
theorem ref_k (x : Vec Ideal S256x2048 .f32) (g : Vec Ideal S2048 .f32) (w : Vec Ideal S2048x2048 .f32) (r : Fin 256) (l : Fin 2048) :
    Cert.MemKvRefIdeal.Read.val_main_v13 (F := Ideal) x g w (ix2 r l)
      = ∑ k : Fin 2048, rowNorm (fun k => x (ix2 r k)) (fun k => g (ix1 k)) k * w (ix2 k l) := by
  pointwise [Cert.MemKvRefIdeal.Read.val_main_v13, ref_norm]

/-- The reference's values, at an index. -/
theorem ref_v (x : Vec Ideal S256x2048 .f32) (g : Vec Ideal S2048 .f32) (w : Vec Ideal S2048x2048 .f32) (r : Fin 256) (l : Fin 2048) :
    Cert.MemKvRefIdeal.Read.val_main_v14 (F := Ideal) x g w (ix2 r l)
      = ∑ k : Fin 2048, rowNorm (fun k => x (ix2 r k)) (fun k => g (ix1 k)) k * w (ix2 k l) := by
  pointwise [Cert.MemKvRefIdeal.Read.val_main_v14, ref_norm]

/-- The two weights joined by columns. -/
def joined (wk wv : Vec Ideal S2048x2048 .f32) (k : Fin 2048) (l : Fin 4096) : EReal :=
  if h : l.val < 2048 then wk (ix2 k ⟨l.val, h⟩) else wv (ix2 k ⟨l.val - 2048, by have := l.isLt; omega⟩)

/-- The reference's joined result, at an index. -/
theorem ref_at (x : Vec Ideal S256x2048 .f32) (g : Vec Ideal S2048 .f32) (wk wv : Vec Ideal S2048x2048 .f32) (r : Fin 256) (l : Fin 4096) :
    Cert.MemKvRefIdeal.Read.val_main_v16 (F := Ideal) x g wk wv (ix2 r l)
      = ∑ k : Fin 2048, rowNorm (fun k => x (ix2 r k)) (fun k => g (ix1 k)) k * joined wk wv k l := by
  rw [Cert.MemKvRefIdeal.Read.val_main_v16_apply]
  by_cases h : l.val < 2048
  · have e : Cert.MemKvRefIdeal.Read.val_main_v15 (F := Ideal) x g wk wv (ix2 r l)
        = Cert.MemKvRefIdeal.Read.val_main_v13 (F := Ideal) x g wk (ix2 r ⟨l.val, h⟩) := by
      pointwise [Cert.MemKvRefIdeal.Read.val_main_v15, h]
    show Cert.MemKvRefIdeal.Read.val_main_v15 (F := Ideal) x g wk wv (ix2 r l) = _
    rw [e, ref_k]
    exact Finset.sum_congr rfl fun k _ => by rw [joined, dif_pos h]
  · have e : Cert.MemKvRefIdeal.Read.val_main_v15 (F := Ideal) x g wk wv (ix2 r l)
        = Cert.MemKvRefIdeal.Read.val_main_v14 (F := Ideal) x g wv (ix2 r ⟨l.val - 2048, by have := l.isLt; omega⟩) := by
      pointwise [Cert.MemKvRefIdeal.Read.val_main_v15, h]
    show Cert.MemKvRefIdeal.Read.val_main_v15 (F := Ideal) x g wk wv (ix2 r l) = _
    rw [e, ref_v]
    exact Finset.sum_congr rfl fun k _ => by rw [joined, dif_neg h]

end MemKvProof

end
-- ==== Proof.InProjValue.lean ====
module

public import proofs.«01_k».proof.Proof.ProjPay
public import proofs.«01_k».proof.Proof.Gen.InProjIdeal.Value
public import Idealize.ShloMosaic.Lib.StableHlo.ReadAt

/-! The input projection's result array: the scratch holds the row block's normalized rows, each point writes one column tile. -/

@[expose] public section

set_option maxRecDepth 16384

noncomputable section

open Idealize.ShloMosaic Idealize.ShloMosaic.TcCoe Idealize.SL.Sem
open scoped BigOperators

namespace InProjProof

open Cert.InProjIdeal Cert.InProjIdeal.Gen

variable (m : (ℓ : Loc nD τ sig) → Buf (Elt Ideal) ℓ)

/-- The first column tile leaves the normalized rows in the scratch. -/
theorem first_norm (c : Dev nD) (t : Fin cfg0.N) (h0 : t.val % 5 = 0) :
    (outsAt0 m c t.val t.isLt).2 = k0_pay1 (iblk m c 0 t) (iblk m c 1 t) := by
  rw [outsAt0_A m c t h0]
  dsimp only
  unfold sout0_A_0
  rw [View.read_writes_eq_canon _ _ _ (fun y => scover0_A_0 (c := c) (y := y) ..)]
  unfold kernelRun0_A
  dsimp only
  sl_unfold_words
  simp only [View.readAt_eq_ld, (hs0_0 t).read_unread, (hs0_1 t).read_unread]
  rw [View.canon_unit_zero MlpProof.zeros2, View.ld_unit_zero (S := S512x2048) MlpProof.zeros2, View.ld_unit_zero (S := S1x2048) MlpProof.zeros2]

/-- The first column tile writes its product to the output block. -/
theorem first_out (c : Dev nD) (t : Fin cfg0.N) (h0 : t.val % 5 = 0) :
    (outsAt0 m c t.val t.isLt).1 = k0_pay2 (k0_pay1 (iblk m c 0 t) (iblk m c 1 t)) (iblk m c 2 t) := by
  rw [outsAt0_A m c t h0]
  dsimp only
  unfold out0_A_3
  rw [View.read_writes_eq_canon _ _ _ (fun y => cover0_A_3 (c := c) (y := y) ..)]
  unfold kernelRun0_A
  dsimp only
  sl_unfold_words
  simp only [View.readAt_eq_ld, (hs0_0 t).read_unread, (hs0_1 t).read_unread, (hs0_2 t).read_unread]
  rw [View.canon_unit_zero MlpProof.zeros2, View.readCov_unit_zero (S := S512x2048) _ MlpProof.zeros2]
  simp only [View.ld_unit_zero (S := S512x2048) MlpProof.zeros2, View.ld_unit_zero (S := S1x2048) MlpProof.zeros2,
    View.ld_unit_zero (S := S2048x1536) MlpProof.zeros2]

/-- A later column tile leaves the scratch as it was. -/
theorem later_norm (c : Dev nD) (t : Fin cfg0.N) (h0 : ¬t.val % 5 = 0) :
    (outsAt0 m c t.val t.isLt).2 = (outsAt0 m c (t.val - 1) (Nat.lt_of_le_of_lt (Nat.sub_le _ _) t.isLt)).2 := by
  rw [outsAt0_B m c t h0]
  rfl

/-- A later column tile writes its product to the output block. -/
theorem later_out (c : Dev nD) (t : Fin cfg0.N) (h0 : ¬t.val % 5 = 0) :
    (outsAt0 m c t.val t.isLt).1 = k0_pay2 (outsAt0 m c (t.val - 1) (Nat.lt_of_le_of_lt (Nat.sub_le _ _) t.isLt)).2 (iblk m c 2 t) := by
  rw [outsAt0_B m c t h0]
  dsimp only
  unfold out0_B_3
  rw [View.read_writes_eq_canon _ _ _ (fun y => cover0_B_3 (c := c) (y := y) ..)]
  unfold kernelRun0_B
  dsimp only
  sl_unfold_words
  simp only [View.readAt_eq_ld, (hs0_2 t).read_unread]
  rw [View.canon_unit_zero MlpProof.zeros2]
  simp only [(Memref.isWhole_whole cc0_scratch0).read_unread,
    View.ld_unit_zero (S := S512x2048) MlpProof.zeros2, View.ld_unit_zero (S := S2048x1536) MlpProof.zeros2]

/-! ## The blocks the windows read -/

variable (c : Dev nD)

/-- The rows, as launched. -/
abbrev argX : Vec Ideal S16384x2048 .f32 := m ((c.tc : Thread nD τ).loc main_arg0)
/-- The gain of the normalization. -/
abbrev argG : Vec Ideal S2048 .f32 := m ((c.tc : Thread nD τ).loc main_arg1)
/-- The weight. -/
abbrev argW : Vec Ideal S2048x7680 .f32 := m ((c.tc : Thread nD τ).loc main_arg2)

/-- The array row of a point's block row. -/
def row (n : ℕ) (r : Fin 512) : Fin 16384 := ⟨(512 * (n / 5) + r.val) % 16384, Nat.mod_lt _ (by decide)⟩
/-- The array column of a tile's column. -/
def col (n : ℕ) (f : Fin 1536) : Fin 7680 := ⟨(1536 * (n % 5) + f.val) % 7680, Nat.mod_lt _ (by decide)⟩

/-- The region finds the rows as launched. -/
theorem V0_at (i : Fin 16384) (j : Fin 2048) : V m c main_arg0 (ix2 i j) = argX m c (ix2 i j) :=
  congrFun (V_main_arg0 m c) _
/-- The region finds the gain as one row. -/
theorem V1_at (i : Fin 1) (j : Fin 2048) : V m c main_v1 (ix2 i j) = argG m c (ix1 j) := by
  unfold V; after_reads_at
/-- The region finds the weight as launched. -/
theorem V2_at (i : Fin 2048) (j : Fin 7680) : V m c main_v0 (ix2 i j) = argW m c (ix2 i j) := by
  unfold V; after_reads_at

/-- The rows' window moves once per row block. -/
theorem index0 : ∀ t : Fin cfg0.N, win0_0.index t (0 : Fin 2) = t.val / 5 ∧ win0_0.index t (1 : Fin 2) = 0 :=
  (by decide +kernel : ∀ t : Fin grid0.N, _)
/-- The gain's window stays. -/
theorem index1 : ∀ t : Fin cfg0.N, win0_1.index t (0 : Fin 2) = 0 ∧ win0_1.index t (1 : Fin 2) = 0 :=
  (by decide +kernel : ∀ t : Fin grid0.N, _)
/-- The weight's window moves with the column tile. -/
theorem index2 : ∀ t : Fin cfg0.N, win0_2.index t (0 : Fin 2) = 0 ∧ win0_2.index t (1 : Fin 2) = t.val % 5 :=
  (by decide +kernel : ∀ t : Fin grid0.N, _)

/-- The rows' block at a point. -/
theorem blk0 (t : Fin cfg0.N) (r : Fin 512) (l : Fin 2048) :
    (iblk m c 0 t : Vec Ideal S512x2048 .f32) (ix2 r l) = argX m c (ix2 (row t.val r) l) := by
  have hi := index0 t
  have hN : t.val < 160 := lt_of_lt_of_eq t.isLt (show cfg0.N = 160 from N_0)
  rw [← V0_at]
  unfold iblk
  rw [View.read_apply]
  show V m c main_arg0 _ = V m c main_arg0 _
  congr 1
  funext a
  apply Fin.ext
  match a with
  | ⟨0, _⟩ => show win0_0.index t 0 * 512 + 1 * r.val = (512 * (t.val / 5) + r.val) % 16384; rw [hi.1]; omega
  | ⟨1, _⟩ => show win0_0.index t 1 * 2048 + 1 * l.val = l.val; rw [hi.2]; omega

/-- The gain's block at a point. -/
theorem blk1 (t : Fin cfg0.N) (l : Fin 2048) :
    (iblk m c 1 t : Vec Ideal S1x2048 .f32) (ix2 0 l) = argG m c (ix1 l) := by
  have hi := index1 t
  rw [← V1_at m c 0]
  unfold iblk
  rw [View.read_apply]
  show V m c main_v1 _ = V m c main_v1 _
  congr 1
  funext a
  apply Fin.ext
  match a with
  | ⟨0, _⟩ => show win0_1.index t 0 * 1 + 1 * 0 = 0; rw [hi.1]
  | ⟨1, _⟩ => show win0_1.index t 1 * 2048 + 1 * l.val = l.val; rw [hi.2]; omega

/-- The weight's block at a point. -/
theorem blk2 (t : Fin cfg0.N) (k : Fin 2048) (f : Fin 1536) :
    (iblk m c 2 t : Vec Ideal S2048x1536 .bf16) (ix2 k f) = argW m c (ix2 k (col t.val f)) := by
  have hi := index2 t
  rw [← V2_at]
  unfold iblk
  rw [View.read_apply]
  show V m c main_v0 _ = V m c main_v0 _
  congr 1
  funext a
  apply Fin.ext
  match a with
  | ⟨0, _⟩ => show win0_2.index t 0 * 2048 + 1 * k.val = k.val; rw [hi.1]; omega
  | ⟨1, _⟩ => show win0_2.index t 1 * 1536 + 1 * f.val = (1536 * (t.val % 5) + f.val) % 7680; rw [hi.2]; omega

/-! ## The scratch and the output block over the points -/

/-- A row of the array, normalized. -/
def hnorm (i : Fin 16384) (l : Fin 2048) : EReal := rowNorm (fun k => argX m c (ix2 i k)) (fun k => argG m c (ix1 k)) l

/-- The first tile's normalized rows. -/
theorem pay1_norm (t : Fin cfg0.N) (r : Fin 512) (k : Fin 2048) :
    k0_pay1 (iblk m c 0 t) (iblk m c 1 t) (ix2 r k) = hnorm m c (row t.val r) k := by
  rw [pay1_at]
  simp only [blk0, blk1]
  rfl

/-- Within a row block the array row does not move. -/
theorem row_pred (n : ℕ) (h : ¬n % 5 = 0) (r : Fin 512) : row (n - 1) r = row n r := by
  have : (n - 1) / 5 = n / 5 := by omega
  exact Fin.ext (by show (512 * ((n - 1) / 5) + r.val) % 16384 = (512 * (n / 5) + r.val) % 16384; rw [this])

/-- After any point the scratch holds the row block's normalized rows. -/
theorem state (n : ℕ) : ∀ hn : n < cfg0.N, ∀ r k, (outsAt0 m c n hn).2 (ix2 r k) = hnorm m c (row n r) k := by
  induction n using Nat.strong_induction_on with
  | _ n ih =>
    intro hn r k
    by_cases h0 : n % 5 = 0
    · rw [show (outsAt0 m c n hn).2 = _ from first_norm m c ⟨n, hn⟩ h0]
      exact pay1_norm m c ⟨n, hn⟩ r k
    · have hp : n - 1 < n := by omega
      rw [show (outsAt0 m c n hn).2 = _ from later_norm m c ⟨n, hn⟩ h0]
      rw [ih (n - 1) hp (lt_trans hp hn), row_pred n h0]

/-- After any point the output block holds the rows' products with the tile's columns. -/
theorem out_at (n : ℕ) (hn : n < cfg0.N) (r : Fin 512) (f : Fin 1536) :
    (outsAt0 m c n hn).1 (ix2 r f) = ∑ k : Fin 2048, hnorm m c (row n r) k * argW m c (ix2 k (col n f)) := by
  by_cases h0 : n % 5 = 0
  · rw [show (outsAt0 m c n hn).1 = _ from first_out m c ⟨n, hn⟩ h0, pay2_at]
    exact Finset.sum_congr rfl fun k _ => by rw [pay1_norm, blk2]
  · have hp : n - 1 < n := by omega
    rw [show (outsAt0 m c n hn).1 = _ from later_out m c ⟨n, hn⟩ h0, pay2_at]
    exact Finset.sum_congr rfl fun k _ => by rw [state m c (n - 1) (lt_trans hp hn), row_pred n h0, blk2]

/-- The result array is the reference's last stage. -/
theorem result_eq : Cert.InProjIdeal.Value.G3 (F := Ideal) m c
    = Cert.InProjRefIdeal.Read.val_main_v13 (F := Ideal) (argX m c) (argG m c) (argW m c) := by
  funext i
  obtain ⟨r, l, rfl⟩ : ∃ r l, i = ix2 r l := ⟨i 0, i 1, by idx_ext⟩
  have hN : cfg0.N = 160 := N_0
  have hpt : Cert.InProjIdeal.Value.pt3Of (ix2 r l) = 5 * (r.val / 512) + l.val / 1536 := by
    show 5 * (r.val / 512 - 0) + 1 * (l.val / 1536 - 0) = _
    omega
  have hlt : Cert.InProjIdeal.Value.pt3Of (ix2 r l) < cfg0.N := by
    have := r.isLt; have := l.isLt; omega
  have hloc : Cert.InProjIdeal.Value.loc3Of (ix2 r l) = ix2 ⟨r.val % 512, Nat.mod_lt _ (by decide)⟩ ⟨l.val % 1536, Nat.mod_lt _ (by decide)⟩ := by
    funext a; apply Fin.ext
    match a with
    | ⟨0, _⟩ => rfl
    | ⟨1, _⟩ => rfl
  unfold Cert.InProjIdeal.Value.G3
  rw [dif_pos hlt, ← Cert.InProjIdeal.Value.outsAt0_sweep m c _ hlt, hloc, out_at, ref_at]
  have hrow : row (Cert.InProjIdeal.Value.pt3Of (ix2 r l)) ⟨r.val % 512, Nat.mod_lt _ (by decide)⟩ = r :=
    Fin.ext (by show (512 * (Cert.InProjIdeal.Value.pt3Of (ix2 r l) / 5) + r.val % 512) % 16384 = r.val; have := r.isLt; have := l.isLt; omega)
  have hcol : col (Cert.InProjIdeal.Value.pt3Of (ix2 r l)) ⟨l.val % 1536, Nat.mod_lt _ (by decide)⟩ = l :=
    Fin.ext (by show (1536 * (Cert.InProjIdeal.Value.pt3Of (ix2 r l) % 5) + l.val % 1536) % 7680 = l.val; have := r.isLt; have := l.isLt; omega)
  rw [hrow, hcol]
  rfl

end InProjProof

end
-- ==== Proof.OutProjValue.lean ====
module

public import proofs.«01_k».proof.Proof.InProjValue
public import proofs.«01_k».proof.Proof.Gen.OutProjIdeal.Value
public import Idealize.ShloMosaic.Lib.StableHlo.ReadAt

/-! The output projection's result array: each point writes one row block of the residual plus the two halves' products. -/

@[expose] public section

set_option maxRecDepth 16384

noncomputable section

open Idealize.ShloMosaic Idealize.ShloMosaic.TcCoe Idealize.SL.Sem
open scoped BigOperators

namespace OutProjProof

open Cert.OutProjIdeal Cert.OutProjIdeal.Gen

variable (m : (ℓ : Loc nD τ sig) → Buf (Elt Ideal) ℓ) (c : Dev nD)

/-- The residual stream, as launched. -/
abbrev argX : Vec Ideal S16384x2048 .f32 := m ((c.tc : Thread nD τ).loc main_arg0)
/-- The first mixer's output. -/
abbrev argA : Vec Ideal S16384x1024 .bf16 := m ((c.tc : Thread nD τ).loc main_arg1)
/-- The second mixer's output. -/
abbrev argB : Vec Ideal S16384x1024 .bf16 := m ((c.tc : Thread nD τ).loc main_arg2)
/-- The weight. -/
abbrev argW : Vec Ideal S2048x2048 .f32 := m ((c.tc : Thread nD τ).loc main_arg3)

/-- The array row of a point's block row. -/
def row (n : ℕ) (r : Fin 512) : Fin 16384 := ⟨(512 * n + r.val) % 16384, Nat.mod_lt _ (by decide)⟩

/-- The region finds the residual stream as launched. -/
theorem V0_at (i : Fin 16384) (j : Fin 2048) : V m c main_arg0 (ix2 i j) = argX m c (ix2 i j) :=
  congrFun (V_main_arg0 m c) _
/-- The region finds the first mixer's output as launched. -/
theorem V1_at (i : Fin 16384) (j : Fin 1024) : V m c main_arg1 (ix2 i j) = argA m c (ix2 i j) :=
  congrFun (V_main_arg1 m c) _
/-- The region finds the second mixer's output as launched. -/
theorem V2_at (i : Fin 16384) (j : Fin 1024) : V m c main_arg2 (ix2 i j) = argB m c (ix2 i j) :=
  congrFun (V_main_arg2 m c) _
/-- The region finds the weight's upper half. -/
theorem V3_at (i : Fin 1024) (j : Fin 2048) : V m c main_v1 (ix2 i j)
    = argW m c (ix2 (⟨i.val, by have := i.isLt; omega⟩ : Fin 2048) j) := by
  unfold V; after_reads_at
/-- The region finds the weight's lower half. -/
theorem V4_at (i : Fin 1024) (j : Fin 2048) : V m c main_v2 (ix2 i j)
    = argW m c (ix2 (⟨1024 + i.val, by have := i.isLt; omega⟩ : Fin 2048) j) := by
  unfold V; after_reads_at

/-- The row blocks of the three row windows and of the output move with the point. -/
theorem index0 : ∀ t : Fin cfg0.N, win0_0.index t (0 : Fin 2) = t.val ∧ win0_0.index t (1 : Fin 2) = 0 :=
  (by decide +kernel : ∀ t : Fin grid0.N, _)
/-- The first mixer's window moves with the point. -/
theorem index1 : ∀ t : Fin cfg0.N, win0_1.index t (0 : Fin 2) = t.val ∧ win0_1.index t (1 : Fin 2) = 0 :=
  (by decide +kernel : ∀ t : Fin grid0.N, _)
/-- The second mixer's window moves with the point. -/
theorem index2 : ∀ t : Fin cfg0.N, win0_2.index t (0 : Fin 2) = t.val ∧ win0_2.index t (1 : Fin 2) = 0 :=
  (by decide +kernel : ∀ t : Fin grid0.N, _)
/-- The upper half's window stays. -/
theorem index3 : ∀ t : Fin cfg0.N, win0_3.index t (0 : Fin 2) = 0 ∧ win0_3.index t (1 : Fin 2) = 0 :=
  (by decide +kernel : ∀ t : Fin grid0.N, _)
/-- The lower half's window stays. -/
theorem index4 : ∀ t : Fin cfg0.N, win0_4.index t (0 : Fin 2) = 0 ∧ win0_4.index t (1 : Fin 2) = 0 :=
  (by decide +kernel : ∀ t : Fin grid0.N, _)
/-- The output's window moves with the point. -/
theorem index5 : ∀ t : Fin cfg0.N, win0_5.index t (0 : Fin 2) = t.val ∧ win0_5.index t (1 : Fin 2) = 0 :=
  (by decide +kernel : ∀ t : Fin grid0.N, _)
/-- Every point writes its block back. -/
theorem flush5 : ∀ t : Fin cfg0.N, (cfg0.win 5).flush t = true :=
  (by decide +kernel : ∀ t : Fin grid0.N, _)

/-- The block of input 0 at a point. -/
theorem blk0 (t : Fin cfg0.N) (r : Fin 512) (l : Fin 2048) :
    (iblk m c 0 t : Vec Ideal S512x2048 .f32) (ix2 r l) = argX m c (ix2 (row t.val r) l) := by
  have hi := index0 t
  have hN : t.val < 32 := lt_of_lt_of_eq t.isLt (show cfg0.N = 32 from N_0)
  rw [← V0_at]
  unfold iblk
  rw [View.read_apply]
  show V m c main_arg0 _ = V m c main_arg0 _
  congr 1
  funext a
  apply Fin.ext
  match a with
  | ⟨0, _⟩ => show win0_0.index t 0 * 512 + 1 * r.val = (512 * t.val + r.val) % 16384; rw [hi.1]; omega
  | ⟨1, _⟩ => show win0_0.index t 1 * 2048 + 1 * l.val = l.val; rw [hi.2]; omega

/-- The block of input 1 at a point. -/
theorem blk1 (t : Fin cfg0.N) (r : Fin 512) (l : Fin 1024) :
    (iblk m c 1 t : Vec Ideal S512x1024 .bf16) (ix2 r l) = argA m c (ix2 (row t.val r) l) := by
  have hi := index1 t
  have hN : t.val < 32 := lt_of_lt_of_eq t.isLt (show cfg0.N = 32 from N_0)
  rw [← V1_at]
  unfold iblk
  rw [View.read_apply]
  show V m c main_arg1 _ = V m c main_arg1 _
  congr 1
  funext a
  apply Fin.ext
  match a with
  | ⟨0, _⟩ => show win0_1.index t 0 * 512 + 1 * r.val = (512 * t.val + r.val) % 16384; rw [hi.1]; omega
  | ⟨1, _⟩ => show win0_1.index t 1 * 1024 + 1 * l.val = l.val; rw [hi.2]; omega

/-- The block of input 2 at a point. -/
theorem blk2 (t : Fin cfg0.N) (r : Fin 512) (l : Fin 1024) :
    (iblk m c 2 t : Vec Ideal S512x1024 .bf16) (ix2 r l) = argB m c (ix2 (row t.val r) l) := by
  have hi := index2 t
  have hN : t.val < 32 := lt_of_lt_of_eq t.isLt (show cfg0.N = 32 from N_0)
  rw [← V2_at]
  unfold iblk
  rw [View.read_apply]
  show V m c main_arg2 _ = V m c main_arg2 _
  congr 1
  funext a
  apply Fin.ext
  match a with
  | ⟨0, _⟩ => show win0_2.index t 0 * 512 + 1 * r.val = (512 * t.val + r.val) % 16384; rw [hi.1]; omega
  | ⟨1, _⟩ => show win0_2.index t 1 * 1024 + 1 * l.val = l.val; rw [hi.2]; omega

/-- The upper half's block at a point. -/
theorem blk3 (t : Fin cfg0.N) (k : Fin 1024) (l : Fin 2048) :
    (iblk m c 3 t : Vec Ideal S1024x2048 .bf16) (ix2 k l) = argW m c (ix2 (⟨k.val, by have := k.isLt; omega⟩ : Fin 2048) l) := by
  have hi := index3 t
  rw [← V3_at]
  unfold iblk
  rw [View.read_apply]
  show V m c main_v1 _ = V m c main_v1 _
  congr 1
  funext a
  apply Fin.ext
  match a with
  | ⟨0, _⟩ => show win0_3.index t 0 * 1024 + 1 * k.val = k.val; rw [hi.1]; omega
  | ⟨1, _⟩ => show win0_3.index t 1 * 2048 + 1 * l.val = l.val; rw [hi.2]; omega

/-- The lower half's block at a point. -/
theorem blk4 (t : Fin cfg0.N) (k : Fin 1024) (l : Fin 2048) :
    (iblk m c 4 t : Vec Ideal S1024x2048 .bf16) (ix2 k l) = argW m c (ix2 (⟨1024 + k.val, by have := k.isLt; omega⟩ : Fin 2048) l) := by
  have hi := index4 t
  rw [← V4_at]
  unfold iblk
  rw [View.read_apply]
  show V m c main_v2 _ = V m c main_v2 _
  congr 1
  funext a
  apply Fin.ext
  match a with
  | ⟨0, _⟩ => show win0_4.index t 0 * 1024 + 1 * k.val = k.val; rw [hi.1]; omega
  | ⟨1, _⟩ => show win0_4.index t 1 * 2048 + 1 * l.val = l.val; rw [hi.2]; omega

/-- What a point writes to its output block, at an index. -/
theorem out_at (t : Fin cfg0.N) (r : Fin 512) (l : Fin 2048) :
    out0_5 (iblk m c 0 t) (iblk m c 1 t) (iblk m c 2 t) (iblk m c 3 t) (iblk m c 4 t) (ix2 r l)
      = Cert.OutProjRefIdeal.Read.val_main_v3 (F := Ideal) (argX m c) (argA m c) (argB m c) (argW m c) (ix2 (row t.val r) l) := by
  unfold out0_5
  rw [View.canon_unit_zero MlpProof.zeros2]
  simp only [r0_0, r0_1, r0_2, View.ld_unit_zero (S := S512x2048) MlpProof.zeros2, View.ld_unit_zero (S := S512x1024) MlpProof.zeros2,
    View.ld_unit_zero (S := S1024x2048) MlpProof.zeros2]
  rw [pay1_at, ref_at]
  simp only [blk0, blk1, blk2, blk3, blk4]

/-- The output window's block of an array, at an index. -/
theorem read_out (A : Vec Ideal S16384x2048 .f32) (t : Fin cfg0.N) (r : Fin 512) (l : Fin 2048) :
    ((cfg0.win 5).blk t).view.read (Elt Ideal) A (ix2 r l) = A (ix2 (row t.val r) l) := by
  have hi := index5 t
  have hN : t.val < 32 := lt_of_lt_of_eq t.isLt (show cfg0.N = 32 from N_0)
  rw [View.read_apply]
  show A _ = A _
  congr 1
  funext a
  apply Fin.ext
  match a with
  | ⟨0, _⟩ => show win0_5.index t 0 * 512 + 1 * r.val = (512 * t.val + r.val) % 16384; rw [hi.1]; omega
  | ⟨1, _⟩ => show win0_5.index t 1 * 2048 + 1 * l.val = l.val; rw [hi.2]; omega

/-- What a point writes back, at an index. -/
theorem flushed_at (t : Fin cfg0.N) (r : Fin 512) (l : Fin 2048) :
    ((dats m 0 c).flushed 5 t : Vec Ideal S512x2048 .f32) (ix2 r l)
      = Cert.OutProjRefIdeal.Read.val_main_v3 (F := Ideal) (argX m c) (argA m c) (argB m c) (argW m c) (ix2 (row t.val r) l) := by
  rw [Cert.OutProjIdeal.Value.flushed5]
  exact out_at m c t r l

/-- The result array at a point's rows. -/
theorem arr_at (t : Fin cfg0.N) (r : Fin 512) (l : Fin 2048) :
    ((dats m 0 c).arrAt 5 cfg0.N : Vec Ideal S16384x2048 .f32) (ix2 (row t.val r) l)
      = Cert.OutProjRefIdeal.Read.val_main_v3 (F := Ideal) (argX m c) (argA m c) (argB m c) (argW m c) (ix2 (row t.val r) l) :=
  (read_out _ t r l).symm.trans ((congrFun (Cert.OutProjIdeal.Value.blocks5 m c t (flush5 t)) (ix2 r l)).trans (flushed_at m c t r l))

/-- The result array is the reference's last stage. -/
theorem result_eq : (dats m 0 c).arrAt 5 cfg0.N
    = Cert.OutProjRefIdeal.Read.val_main_v3 (F := Ideal) (argX m c) (argA m c) (argB m c) (argW m c) := by
  funext i
  obtain ⟨r, l, rfl⟩ : ∃ (r : Fin 16384) (l : Fin 2048), i = ix2 r l := ⟨i 0, i 1, by idx_ext⟩
  have hN : cfg0.N = 32 := N_0
  have hlt : r.val / 512 < cfg0.N := by have := r.isLt; omega
  have hrow : row (r.val / 512) ⟨r.val % 512, Nat.mod_lt _ (by decide)⟩ = r :=
    Fin.ext (by show (512 * (r.val / 512) + r.val % 512) % 16384 = r.val; have := r.isLt; omega)
  have h := arr_at m c ⟨r.val / 512, hlt⟩ ⟨r.val % 512, Nat.mod_lt _ (by decide)⟩ l
  rw [hrow] at h
  exact h

end OutProjProof

end
-- ==== Proof.MemKvValue.lean ====
module

public import proofs.«01_k».proof.Proof.OutProjValue
public import proofs.«01_k».proof.Proof.Gen.MemKvIdeal.Value
public import Idealize.ShloMosaic.Lib.StableHlo.ReadAt

/-! The memory projection's result array: the scratch holds the normalized memory rows, each point writes one column tile. -/

@[expose] public section

set_option maxRecDepth 16384

noncomputable section

open Idealize.ShloMosaic Idealize.ShloMosaic.TcCoe Idealize.SL.Sem
open scoped BigOperators

namespace MemKvProof

open Cert.MemKvIdeal Cert.MemKvIdeal.Gen

variable (m : (ℓ : Loc nD τ sig) → Buf (Elt Ideal) ℓ)

/-- The first column tile leaves the normalized rows in the scratch. -/
theorem first_norm (c : Dev nD) (t : Fin cfg0.N) (h0 : t.val % 4 = 0) :
    (outsAt0 m c t.val t.isLt).2 = k0_pay1 (iblk m c 0 t) (iblk m c 1 t) := by
  rw [outsAt0_A m c t h0]
  dsimp only
  unfold sout0_A_0
  rw [View.read_writes_eq_canon _ _ _ (fun y => scover0_A_0 (c := c) (y := y) ..)]
  unfold kernelRun0_A
  dsimp only
  sl_unfold_words
  simp only [View.readAt_eq_ld, (hs0_0 t).read_unread, (hs0_1 t).read_unread]
  rw [View.canon_unit_zero MlpProof.zeros2, View.ld_unit_zero (S := S256x2048) MlpProof.zeros2, View.ld_unit_zero (S := S1x2048) MlpProof.zeros2]

/-- The first column tile writes its product to the output block. -/
theorem first_out (c : Dev nD) (t : Fin cfg0.N) (h0 : t.val % 4 = 0) :
    (outsAt0 m c t.val t.isLt).1 = k0_pay2 (k0_pay1 (iblk m c 0 t) (iblk m c 1 t)) (iblk m c 2 t) := by
  rw [outsAt0_A m c t h0]
  dsimp only
  unfold out0_A_3
  rw [View.read_writes_eq_canon _ _ _ (fun y => cover0_A_3 (c := c) (y := y) ..)]
  unfold kernelRun0_A
  dsimp only
  sl_unfold_words
  simp only [View.readAt_eq_ld, (hs0_0 t).read_unread, (hs0_1 t).read_unread, (hs0_2 t).read_unread]
  rw [View.canon_unit_zero MlpProof.zeros2, View.readCov_unit_zero (S := S256x2048) _ MlpProof.zeros2]
  simp only [View.ld_unit_zero (S := S256x2048) MlpProof.zeros2, View.ld_unit_zero (S := S1x2048) MlpProof.zeros2,
    View.ld_unit_zero (S := S2048x1024) MlpProof.zeros2]

/-- A later column tile leaves the scratch as it was. -/
theorem later_norm (c : Dev nD) (t : Fin cfg0.N) (h0 : ¬t.val % 4 = 0) :
    (outsAt0 m c t.val t.isLt).2 = (outsAt0 m c (t.val - 1) (Nat.lt_of_le_of_lt (Nat.sub_le _ _) t.isLt)).2 := by
  rw [outsAt0_B m c t h0]
  rfl

/-- A later column tile writes its product to the output block. -/
theorem later_out (c : Dev nD) (t : Fin cfg0.N) (h0 : ¬t.val % 4 = 0) :
    (outsAt0 m c t.val t.isLt).1 = k0_pay2 (outsAt0 m c (t.val - 1) (Nat.lt_of_le_of_lt (Nat.sub_le _ _) t.isLt)).2 (iblk m c 2 t) := by
  rw [outsAt0_B m c t h0]
  dsimp only
  unfold out0_B_3
  rw [View.read_writes_eq_canon _ _ _ (fun y => cover0_B_3 (c := c) (y := y) ..)]
  unfold kernelRun0_B
  dsimp only
  sl_unfold_words
  simp only [View.readAt_eq_ld, (hs0_2 t).read_unread]
  rw [View.canon_unit_zero MlpProof.zeros2]
  simp only [(Memref.isWhole_whole cc0_scratch0).read_unread,
    View.ld_unit_zero (S := S256x2048) MlpProof.zeros2, View.ld_unit_zero (S := S2048x1024) MlpProof.zeros2]

/-! ## The blocks the windows read -/

variable (c : Dev nD)

/-- The rows, as launched. -/
abbrev argX : Vec Ideal S256x2048 .f32 := m ((c.tc : Thread nD τ).loc main_arg0)
/-- The gain of the normalization. -/
abbrev argG : Vec Ideal S2048 .f32 := m ((c.tc : Thread nD τ).loc main_arg1)
/-- The key weight. -/
abbrev argK : Vec Ideal S2048x2048 .f32 := m ((c.tc : Thread nD τ).loc main_arg2)
/-- The value weight. -/
abbrev argV : Vec Ideal S2048x2048 .f32 := m ((c.tc : Thread nD τ).loc main_arg3)

/-- The array row of a point's block row. -/
def row (n : ℕ) (r : Fin 256) : Fin 256 := ⟨(256 * (n / 4) + r.val) % 256, Nat.mod_lt _ (by decide)⟩
/-- The array column of a tile's column. -/
def col (n : ℕ) (f : Fin 1024) : Fin 4096 := ⟨(1024 * (n % 4) + f.val) % 4096, Nat.mod_lt _ (by decide)⟩

/-- The region finds the rows as launched. -/
theorem V0_at (i : Fin 256) (j : Fin 2048) : V m c main_arg0 (ix2 i j) = argX m c (ix2 i j) :=
  congrFun (V_main_arg0 m c) _
/-- The region finds the gain as one row. -/
theorem V1_at (i : Fin 1) (j : Fin 2048) : V m c main_v2 (ix2 i j) = argG m c (ix1 j) := by
  unfold V; after_reads_at
/-- The region finds the two weights joined by columns. -/
theorem V2_at (i : Fin 2048) (j : Fin 4096) : V m c main_v1 (ix2 i j) = joined (argK m c) (argV m c) i j := by
  by_cases h : j.val < 2048
  · rw [joined, dif_pos h]
    unfold V; after_reads_at
    pointwise [h]
    rfl
  · rw [joined, dif_neg h]
    unfold V; after_reads_at
    pointwise [h]
    rfl

/-- The rows' window moves once per row block. -/
theorem index0 : ∀ t : Fin cfg0.N, win0_0.index t (0 : Fin 2) = t.val / 4 ∧ win0_0.index t (1 : Fin 2) = 0 :=
  (by decide +kernel : ∀ t : Fin grid0.N, _)
/-- The gain's window stays. -/
theorem index1 : ∀ t : Fin cfg0.N, win0_1.index t (0 : Fin 2) = 0 ∧ win0_1.index t (1 : Fin 2) = 0 :=
  (by decide +kernel : ∀ t : Fin grid0.N, _)
/-- The weight's window moves with the column tile. -/
theorem index2 : ∀ t : Fin cfg0.N, win0_2.index t (0 : Fin 2) = 0 ∧ win0_2.index t (1 : Fin 2) = t.val % 4 :=
  (by decide +kernel : ∀ t : Fin grid0.N, _)

/-- The rows' block at a point. -/
theorem blk0 (t : Fin cfg0.N) (r : Fin 256) (l : Fin 2048) :
    (iblk m c 0 t : Vec Ideal S256x2048 .f32) (ix2 r l) = argX m c (ix2 (row t.val r) l) := by
  have hi := index0 t
  have hN : t.val < 4 := lt_of_lt_of_eq t.isLt (show cfg0.N = 4 from N_0)
  rw [← V0_at]
  unfold iblk
  rw [View.read_apply]
  show V m c main_arg0 _ = V m c main_arg0 _
  congr 1
  funext a
  apply Fin.ext
  match a with
  | ⟨0, _⟩ => show win0_0.index t 0 * 256 + 1 * r.val = (256 * (t.val / 4) + r.val) % 256; rw [hi.1]; omega
  | ⟨1, _⟩ => show win0_0.index t 1 * 2048 + 1 * l.val = l.val; rw [hi.2]; omega

/-- The gain's block at a point. -/
theorem blk1 (t : Fin cfg0.N) (l : Fin 2048) :
    (iblk m c 1 t : Vec Ideal S1x2048 .f32) (ix2 0 l) = argG m c (ix1 l) := by
  have hi := index1 t
  rw [← V1_at m c 0]
  unfold iblk
  rw [View.read_apply]
  show V m c main_v2 _ = V m c main_v2 _
  congr 1
  funext a
  apply Fin.ext
  match a with
  | ⟨0, _⟩ => show win0_1.index t 0 * 1 + 1 * 0 = 0; rw [hi.1]
  | ⟨1, _⟩ => show win0_1.index t 1 * 2048 + 1 * l.val = l.val; rw [hi.2]; omega

/-- The weight's block at a point. -/
theorem blk2 (t : Fin cfg0.N) (k : Fin 2048) (f : Fin 1024) :
    (iblk m c 2 t : Vec Ideal S2048x1024 .bf16) (ix2 k f) = joined (argK m c) (argV m c) k (col t.val f) := by
  have hi := index2 t
  rw [← V2_at]
  unfold iblk
  rw [View.read_apply]
  show V m c main_v1 _ = V m c main_v1 _
  congr 1
  funext a
  apply Fin.ext
  match a with
  | ⟨0, _⟩ => show win0_2.index t 0 * 2048 + 1 * k.val = k.val; rw [hi.1]; omega
  | ⟨1, _⟩ => show win0_2.index t 1 * 1024 + 1 * f.val = (1024 * (t.val % 4) + f.val) % 4096; rw [hi.2]; omega

/-! ## The scratch and the output block over the points -/

/-- A row of the array, normalized. -/
def hnorm (i : Fin 256) (l : Fin 2048) : EReal := rowNorm (fun k => argX m c (ix2 i k)) (fun k => argG m c (ix1 k)) l

/-- The first tile's normalized rows. -/
theorem pay1_norm (t : Fin cfg0.N) (r : Fin 256) (k : Fin 2048) :
    k0_pay1 (iblk m c 0 t) (iblk m c 1 t) (ix2 r k) = hnorm m c (row t.val r) k := by
  rw [pay1_at]
  simp only [blk0, blk1]
  rfl

/-- Within a row block the array row does not move. -/
theorem row_pred (n : ℕ) (h : ¬n % 4 = 0) (r : Fin 256) : row (n - 1) r = row n r := by
  have : (n - 1) / 4 = n / 4 := by omega
  exact Fin.ext (by show (256 * ((n - 1) / 4) + r.val) % 256 = (256 * (n / 4) + r.val) % 256; rw [this])

/-- After any point the scratch holds the row block's normalized rows. -/
theorem state (n : ℕ) : ∀ hn : n < cfg0.N, ∀ r k, (outsAt0 m c n hn).2 (ix2 r k) = hnorm m c (row n r) k := by
  induction n using Nat.strong_induction_on with
  | _ n ih =>
    intro hn r k
    by_cases h0 : n % 4 = 0
    · rw [show (outsAt0 m c n hn).2 = _ from first_norm m c ⟨n, hn⟩ h0]
      exact pay1_norm m c ⟨n, hn⟩ r k
    · have hp : n - 1 < n := by omega
      rw [show (outsAt0 m c n hn).2 = _ from later_norm m c ⟨n, hn⟩ h0]
      rw [ih (n - 1) hp (lt_trans hp hn), row_pred n h0]

/-- After any point the output block holds the rows' products with the tile's columns. -/
theorem out_at (n : ℕ) (hn : n < cfg0.N) (r : Fin 256) (f : Fin 1024) :
    (outsAt0 m c n hn).1 (ix2 r f) = ∑ k : Fin 2048, hnorm m c (row n r) k * joined (argK m c) (argV m c) k (col n f) := by
  by_cases h0 : n % 4 = 0
  · rw [show (outsAt0 m c n hn).1 = _ from first_out m c ⟨n, hn⟩ h0, pay2_at]
    exact Finset.sum_congr rfl fun k _ => by rw [pay1_norm, blk2]
  · have hp : n - 1 < n := by omega
    rw [show (outsAt0 m c n hn).1 = _ from later_out m c ⟨n, hn⟩ h0, pay2_at]
    exact Finset.sum_congr rfl fun k _ => by rw [state m c (n - 1) (lt_trans hp hn), row_pred n h0, blk2]

/-- The result array is the reference's last stage. -/
theorem result_eq : Cert.MemKvIdeal.Value.G3 (F := Ideal) m c
    = Cert.MemKvRefIdeal.Read.val_main_v16 (F := Ideal) (argX m c) (argG m c) (argK m c) (argV m c) := by
  funext i
  obtain ⟨r, l, rfl⟩ : ∃ r l, i = ix2 r l := ⟨i 0, i 1, by idx_ext⟩
  have hN : cfg0.N = 4 := N_0
  have hpt : Cert.MemKvIdeal.Value.pt3Of (ix2 r l) = 4 * (r.val / 256) + l.val / 1024 := by
    show 4 * (r.val / 256 - 0) + 1 * (l.val / 1024 - 0) = _
    omega
  have hlt : Cert.MemKvIdeal.Value.pt3Of (ix2 r l) < cfg0.N := by
    have := r.isLt; have := l.isLt; omega
  have hloc : Cert.MemKvIdeal.Value.loc3Of (ix2 r l) = ix2 ⟨r.val % 256, Nat.mod_lt _ (by decide)⟩ ⟨l.val % 1024, Nat.mod_lt _ (by decide)⟩ := by
    funext a; apply Fin.ext
    match a with
    | ⟨0, _⟩ => rfl
    | ⟨1, _⟩ => rfl
  unfold Cert.MemKvIdeal.Value.G3
  rw [dif_pos hlt, ← Cert.MemKvIdeal.Value.outsAt0_sweep m c _ hlt, hloc, out_at, ref_at]
  have hrow : row (Cert.MemKvIdeal.Value.pt3Of (ix2 r l)) ⟨r.val % 256, Nat.mod_lt _ (by decide)⟩ = r :=
    Fin.ext (by show (256 * (Cert.MemKvIdeal.Value.pt3Of (ix2 r l) / 4) + r.val % 256) % 256 = r.val; have := r.isLt; have := l.isLt; omega)
  have hcol : col (Cert.MemKvIdeal.Value.pt3Of (ix2 r l)) ⟨l.val % 1024, Nat.mod_lt _ (by decide)⟩ = l :=
    Fin.ext (by show (1024 * (Cert.MemKvIdeal.Value.pt3Of (ix2 r l) % 4) + l.val % 1024) % 4096 = l.val; have := r.isLt; have := l.isLt; omega)
  rw [hrow, hcol]
  rfl

end MemKvProof

end
-- ==== Proof.GdnMath.lean ====
module

public import proofs.«01_k».proof.Proof.MemKvValue
public import Mathlib.Data.Matrix.Mul

/-! The doubling product and the repeated substitution sum the same powers of a matrix. -/

@[expose] public section

noncomputable section

open scoped BigOperators

namespace GdnProof

/-- One doubling: the partial sum `x` of powers, the power `p`. -/
def doubled {R : Type} [Ring R] (m : R) : ℕ → R × R
  | 0 => (1 - m, m)
  | n + 1 => ((doubled m n).1 + (doubled m n).1 * ((doubled m n).2 * (doubled m n).2), (doubled m n).2 * (doubled m n).2)

/-- The power after some doublings. -/
theorem doubled_power {R : Type} [Ring R] (m : R) (n : ℕ) : (doubled m n).2 = m ^ 2 ^ n := by
  induction n with
  | zero => simp [doubled]
  | succ n ih => simp only [doubled, ih]; rw [← pow_add, ← two_mul, ← pow_succ']

/-- The partial sum after some doublings is the alternating sum of powers. -/
theorem doubled_sum {R : Type} [Ring R] (m : R) (n : ℕ) :
    (doubled m n).1 = ∑ j ∈ Finset.range (2 ^ (n + 1)), (-m) ^ j := by
  induction n with
  | zero => simp [doubled, Finset.sum_range_succ, sub_eq_add_neg]
  | succ n ih =>
    have hp : (doubled m n).2 * (doubled m n).2 = (-m) ^ 2 ^ (n + 1) := by
      rw [doubled_power, ← pow_add, ← two_mul, ← pow_succ', neg_pow, pow_succ 2 n, pow_mul' (-1 : R)]
      simp
    show (doubled m n).1 + (doubled m n).1 * ((doubled m n).2 * (doubled m n).2) = _
    rw [hp, ih, pow_succ 2 (n + 1), mul_two, Finset.sum_range_add, Finset.sum_mul]
    refine congrArg _ (Finset.sum_congr rfl fun j _ => ?_)
    rw [← pow_add, add_comm]

/-- Repeated substitution for `x + m x = r`, from `x = r`. -/
def subst {ι κ : Type} [Fintype ι] (m : Matrix ι ι ℝ) (r : Matrix ι κ ℝ) : ℕ → Matrix ι κ ℝ
  | 0 => r
  | n + 1 => r - m * subst m r n

/-- The substitution sums the alternating powers applied to the right-hand side. -/
theorem subst_eq {ι κ : Type} [Fintype ι] [DecidableEq ι] (m : Matrix ι ι ℝ) (r : Matrix ι κ ℝ) (n : ℕ) :
    subst m r n = (∑ j ∈ Finset.range (n + 1), (-m) ^ j) * r := by
  induction n with
  | zero => simp [subst]
  | succ n ih =>
    rw [Finset.sum_range_succ', pow_zero, Matrix.add_mul, Matrix.one_mul]
    have e : (∑ j ∈ Finset.range (n + 1), (-m) ^ (j + 1)) * r = -(m * subst m r n) := by
      rw [ih, ← Matrix.mul_assoc, Finset.mul_sum, ← Matrix.neg_mul, ← Finset.sum_neg_distrib]
      refine congrArg (· * r) (Finset.sum_congr rfl fun j _ => ?_)
      rw [pow_succ', neg_mul]
    rw [e]
    exact (sub_eq_add_neg _ _).trans (add_comm _ _)

/-- After five doublings the product applied to the right-hand side is the sixty-third substitution. -/
theorem doubled_subst {ι κ : Type} [Fintype ι] [DecidableEq ι] (m : Matrix ι ι ℝ) (r : Matrix ι κ ℝ) :
    (doubled m 5).1 * r = subst m r 63 := by
  rw [doubled_sum, subst_eq]
  norm_num

/-- The substitution in a block of a matrix that couples no other rows is the substitution over the block. -/
theorem subst_block {ι κ β : Type} [Fintype ι] [Fintype β] (e : β → ι) (m : Matrix ι ι ℝ) (r : Matrix ι κ ℝ)
    (hm : ∀ (i : β) (f : ι → ℝ), ∑ j, m (e i) j * f j = ∑ j, m (e i) (e j) * f (e j)) (n : ℕ) (i : β) (d : κ) :
    subst m r n (e i) d = subst (m.submatrix e e) (r.submatrix e id) n i d := by
  induction n generalizing i d with
  | zero => rfl
  | succ n ih =>
    show r (e i) d - (m * subst m r n) (e i) d = r (e i) d - (m.submatrix e e * subst (m.submatrix e e) (r.submatrix e id) n) i d
    rw [Matrix.mul_apply, Matrix.mul_apply, hm i (fun j => subst m r n j d)]
    simp only [ih]
    rfl

end GdnProof

end
-- ==== Proof.GdnSpec.lean ====
module

public import proofs.«01_k».proof.Proof.GdnMath

/-! One chunk of the gated delta recurrence, and the recurrence over the chunks. -/

@[expose] public section

noncomputable section

open scoped BigOperators

namespace GdnProof

open Idealize.ShloMosaic

/-- What one head reads of one chunk. -/
structure Chunk where
  q : Fin 64 → Fin 128 → EReal
  k : Fin 64 → Fin 128 → EReal
  kb : Fin 64 → Fin 128 → EReal
  vb : Fin 64 → Fin 128 → EReal
  kbe : Fin 64 → Fin 128 → EReal
  qd : Fin 64 → Fin 128 → EReal
  kt : Fin 64 → Fin 128 → EReal
  g : Fin 64 → EReal

namespace Chunk

variable (c : Chunk)

/-- How much of row `j` has decayed by row `i`. -/
def gam (i j : Fin 64) : EReal := if j ≤ i then Ideal.exp (c.g i - c.g j) else 0

/-- The strictly lower system. -/
def sys (i j : Fin 64) : EReal := if j < i then (∑ d, c.kb i d * c.k j d) * c.gam i j else 0

/-- The weights of the queries. -/
def att (i j : Fin 64) : EReal := (∑ d, c.q i d * c.k j d) * c.gam i j

/-- Repeated substitution in the system, from the right-hand side. -/
def sol {κ : Type} (r : Fin 64 → κ → EReal) : ℕ → Fin 64 → κ → EReal
  | 0 => r
  | n + 1 => fun i d => r i d - ∑ j, c.sys i j * sol r n j d

/-- The substitution works column by column. -/
theorem sol_col {κ ι : Type} (r : Fin 64 → κ → EReal) (f : ι → κ) (n : ℕ) (i : Fin 64) (d : ι) :
    c.sol r n i (f d) = c.sol (fun i d => r i (f d)) n i d := by
  induction n generalizing i with
  | zero => rfl
  | succ n ih => exact congrArg (r i (f d) - ·) (Finset.sum_congr rfl fun j _ => congrArg (c.sys i j * ·) (ih j))

/-- The values, less what the earlier rows of the chunk hold of them. -/
def u (i : Fin 64) (d : Fin 128) : EReal := c.sol c.vb 63 i d

/-- The keys that read the state. -/
def w (i : Fin 64) (d : Fin 128) : EReal := c.sol c.kbe 63 i d

/-- The values, less what the state holds of them. -/
def vnew (s : Fin 128 → Fin 128 → EReal) (i : Fin 64) (d : Fin 128) : EReal := c.u i d - ∑ e, c.w i e * s e d

/-- What the chunk reads out. -/
def out (s : Fin 128 → Fin 128 → EReal) (i : Fin 64) (d : Fin 128) : EReal :=
  ∑ e, c.qd i e * s e d + ∑ j, c.att i j * c.vnew s j d

/-- The state after the chunk. -/
def next (s : Fin 128 → Fin 128 → EReal) (e d : Fin 128) : EReal :=
  s e d * Ideal.exp (c.g 63) + ∑ j, c.kt j e * c.vnew s j d

end Chunk

/-- The state before each chunk. -/
def states (c : ℕ → Chunk) : ℕ → Fin 128 → Fin 128 → EReal
  | 0 => fun _ _ => 0
  | n + 1 => (c n).next (states c n)

/-- The norm and gate of what was read out. -/
def gate (o : Fin 128 → EReal) (nw z : EReal) (d : Fin 128) : EReal :=
  o d * Ideal.rsqrt (Ideal.div (∑ e, o e * o e) (Ideal.ofBits .f32 0x43000000#32) + Ideal.ofBits .f32 0x358637BD#32) * nw *
    (z * Ideal.div 1 (1 + Ideal.exp (-z)))

end GdnProof

end
-- ==== Proof.GdnRefValue.lean ====
module

public import proofs.«01_k».proof.Proof.GdnSpec
public import proofs.«01_k».proof.Proof.Gen.GdnRefIdeal.Step
public import Idealize.ShloMosaic.Lib.Pointwise
public import Idealize.ShloMosaic.Lib.WordCmp

/-! What the reference of the recurrence leaves in each element. -/

@[expose] public section

noncomputable section

open scoped BigOperators

namespace GdnProof

open Idealize.ShloMosaic Cert.GdnRefIdeal Cert.GdnRefIdeal.Gen Cert.GdnRefIdeal.Step

variable (a0 a1 a2 a3 a4 a5 a6 : Vec Ideal S16384x1024 .bf16) (a7 : Vec Ideal S16384x8 .f32)

/-- Head `h`'s part of chunk `n` of an operand. -/
def part (a : Vec Ideal S16384x1024 .bf16) (h : Fin 8) (n : Fin 256) (i : Fin 64) (d : Fin 128) : EReal :=
  a (ix2 ⟨n.val * 64 + i.val, by omega⟩ ⟨h.val * 128 + d.val, by omega⟩)

/-- What head `h` reads of chunk `n` of the operands. -/
def chunkOf (h : Fin 8) (n : Fin 256) : Chunk where
  q := part a0 h n
  k := part a1 h n
  kb := part a2 h n
  vb := part a3 h n
  kbe := part a4 h n
  qd := part a5 h n
  kt := part a6 h n
  g := fun i => a7 (ix2 ⟨n.val * 64 + i.val, by omega⟩ h)

variable (h : Fin 8) (n : Fin 256)

/-- A choice by the order of two row numbers. -/
theorem sge_rows (i j : Fin 64) : IntOp.cmpi .sge (BitVec.ofNat 32 i.val) (BitVec.ofNat 32 j.val) = if j ≤ i then 1#1 else 0#1 := by
  revert i j; decide +kernel

/-- A choice by the strict order of two row numbers. -/
theorem sgt_rows (i j : Fin 64) : IntOp.cmpi .sgt (BitVec.ofNat 32 i.val) (BitVec.ofNat 32 j.val) = if j < i then 1#1 else 0#1 := by
  revert i j; decide +kernel

/-- A selection by a decided word. -/
theorem select_ite {α : Type} (p : Prop) [Decidable p] (x y : α) : Scalar.select (if p then 1#1 else 0#1) x y = if p then x else y := by
  split <;> rfl

/-- The zero of a selection. -/
theorem zero0 : (id (constant S_ FTy.f32 0#32) ix0 : Ideal .f32) = (0 : EReal) := Ideal.ofBits_zero_f32

/-- The reference's queries of a chunk. -/
theorem ref_q (i : Fin 64) (d : Fin 128) :
    A_main_v2 (F := Ideal) a0 a1 a2 a3 a4 a5 a6 a7 (ix4 h n i d) = (chunkOf a0 a1 a2 a3 a4 a5 a6 a7 h n).q i d := by
  pointwise [A_main_v2, A_main_v1, A_main_v0]
  rfl

/-- The reference's keys of a chunk. -/
theorem ref_k (i : Fin 64) (d : Fin 128) :
    A_main_v5 (F := Ideal) a0 a1 a2 a3 a4 a5 a6 a7 (ix4 h n i d) = (chunkOf a0 a1 a2 a3 a4 a5 a6 a7 h n).k i d := by
  pointwise [A_main_v5, A_main_v4, A_main_v3]
  rfl

/-- The reference's keys times the write strength. -/
theorem ref_kb (i : Fin 64) (d : Fin 128) :
    A_main_v8 (F := Ideal) a0 a1 a2 a3 a4 a5 a6 a7 (ix4 h n i d) = (chunkOf a0 a1 a2 a3 a4 a5 a6 a7 h n).kb i d := by
  pointwise [A_main_v8, A_main_v7, A_main_v6]
  rfl

/-- The reference's values times the write strength. -/
theorem ref_vb (i : Fin 64) (d : Fin 128) :
    A_main_v11 (F := Ideal) a0 a1 a2 a3 a4 a5 a6 a7 (ix4 h n i d) = (chunkOf a0 a1 a2 a3 a4 a5 a6 a7 h n).vb i d := by
  pointwise [A_main_v11, A_main_v10, A_main_v9]
  rfl

/-- The reference's decayed keys times the write strength. -/
theorem ref_kbe (i : Fin 64) (d : Fin 128) :
    A_main_v14 (F := Ideal) a0 a1 a2 a3 a4 a5 a6 a7 (ix4 h n i d) = (chunkOf a0 a1 a2 a3 a4 a5 a6 a7 h n).kbe i d := by
  pointwise [A_main_v14, A_main_v13, A_main_v12]
  rfl

/-- The reference's decayed queries of a chunk. -/
theorem ref_qd (i : Fin 64) (d : Fin 128) :
    A_main_v17 (F := Ideal) a0 a1 a2 a3 a4 a5 a6 a7 (ix4 h n i d) = (chunkOf a0 a1 a2 a3 a4 a5 a6 a7 h n).qd i d := by
  pointwise [A_main_v17, A_main_v16, A_main_v15]
  rfl

/-- The reference's keys decayed to the end of the chunk. -/
theorem ref_kt (i : Fin 64) (d : Fin 128) :
    A_main_v20 (F := Ideal) a0 a1 a2 a3 a4 a5 a6 a7 (ix4 h n i d) = (chunkOf a0 a1 a2 a3 a4 a5 a6 a7 h n).kt i d := by
  pointwise [A_main_v20, A_main_v19, A_main_v18]
  rfl

/-- The reference's decay sums of a chunk. -/
theorem ref_g (i : Fin 64) :
    A_main_v22 (F := Ideal) a0 a1 a2 a3 a4 a5 a6 a7 (ix3 h n i) = (chunkOf a0 a1 a2 a3 a4 a5 a6 a7 h n).g i := by
  pointwise [A_main_v22, A_main_v21]
  rfl

/-- How much of row `j` has decayed by row `i`. -/
theorem ref_gam (i j : Fin 64) :
    A_main_v41 (F := Ideal) a0 a1 a2 a3 a4 a5 a6 a7 (ix4 h n i j) = (chunkOf a0 a1 a2 a3 a4 a5 a6 a7 h n).gam i j := by
  pointwise [A_main_v41, A_main_v40, A_main_v39, A_main_v38, A_main_v37, A_main_v36, A_main_v35, A_main_v34, K_main_call0_v1, K_main_call0_v2, K_main_call0_v0, K_main_cst, K_main_call1_v1, K_main_call1_v2, K_main_call1_v0, K_main_cst_0, K_main_v28, K_main_v26, K_main_v27, K_main_v24, K_main_v25, K_main_v23]
  rw [sge_rows, select_ite, select_ite, zero0, ref_g, ref_g]
  unfold Chunk.gam
  split <;> rfl

/-- The strictly lower system. -/
theorem ref_sys (i j : Fin 64) :
    A_main_v44 (F := Ideal) a0 a1 a2 a3 a4 a5 a6 a7 (ix4 h n i j) = (chunkOf a0 a1 a2 a3 a4 a5 a6 a7 h n).sys i j := by
  pointwise [A_main_v44, A_main_v43, A_main_v42, K_main_call2_v1, K_main_call2_v2, K_main_call2_v0, K_main_cst_1, K_main_v33, K_main_v31, K_main_v32, K_main_v29, K_main_v30, K_main_v23]
  rw [sgt_rows, select_ite, zero0, ref_gam]
  simp only [ref_kb, ref_k]
  rfl

/-- The weights of the queries. -/
theorem ref_att (i j : Fin 64) :
    A_main_v175 (F := Ideal) a0 a1 a2 a3 a4 a5 a6 a7 (ix4 h n i j) = (chunkOf a0 a1 a2 a3 a4 a5 a6 a7 h n).att i j := by
  pointwise [A_main_v175, A_main_v174]
  rw [ref_gam]
  simp only [ref_q, ref_k]
  rfl

/-- The right-hand sides side by side. -/
def rhs (i : Fin 64) (d : Fin 256) : EReal := A_main_v45 (F := Ideal) a0 a1 a2 a3 a4 a5 a6 a7 (ix4 h n i d)

/-- A stage of the substitution. -/
def Stage (N : ℕ) (x : FVec Ideal S8x256x64x256 .f32) : Prop :=
  ∀ i d, x (ix4 h n i d) = (chunkOf a0 a1 a2 a3 a4 a5 a6 a7 h n).sol (rhs a0 a1 a2 a3 a4 a5 a6 a7 h n) N i d

/-- One substitution. -/
theorem stage_next (N : ℕ) (x : FVec Ideal S8x256x64x256 .f32) (hx : Stage a0 a1 a2 a3 a4 a5 a6 a7 h n N x) :
    Stage a0 a1 a2 a3 a4 a5 a6 a7 h n (N + 1)
      (subf (A_main_v45 (F := Ideal) a0 a1 a2 a3 a4 a5 a6 a7) (Host.dotGeneral (φ₁ := .f32) (φ₂ := .f32) dot_S8x256x64x64_S8x256x64x256_S8x256x64x256_3_2_2_3_01_01 none (A_main_v44 (F := Ideal) a0 a1 a2 a3 a4 a5 a6 a7) x)) := by
  intro i d
  pointwise []
  simp only [ref_sys, hx _ _]
  rfl

/-- The solution after the substitutions. -/
theorem ref_sol : Stage a0 a1 a2 a3 a4 a5 a6 a7 h n 63 (A_main_v171 (F := Ideal) a0 a1 a2 a3 a4 a5 a6 a7) :=
  have s0 : Stage a0 a1 a2 a3 a4 a5 a6 a7 h n 0 (A_main_v45 (F := Ideal) a0 a1 a2 a3 a4 a5 a6 a7) := fun _ _ => rfl
  have s1 : Stage a0 a1 a2 a3 a4 a5 a6 a7 h n 1 (A_main_v47 a0 a1 a2 a3 a4 a5 a6 a7) := stage_next a0 a1 a2 a3 a4 a5 a6 a7 h n 0 _ s0
  have s2 : Stage a0 a1 a2 a3 a4 a5 a6 a7 h n 2 (A_main_v49 a0 a1 a2 a3 a4 a5 a6 a7) := stage_next a0 a1 a2 a3 a4 a5 a6 a7 h n 1 _ s1
  have s3 : Stage a0 a1 a2 a3 a4 a5 a6 a7 h n 3 (A_main_v51 a0 a1 a2 a3 a4 a5 a6 a7) := stage_next a0 a1 a2 a3 a4 a5 a6 a7 h n 2 _ s2
  have s4 : Stage a0 a1 a2 a3 a4 a5 a6 a7 h n 4 (A_main_v53 a0 a1 a2 a3 a4 a5 a6 a7) := stage_next a0 a1 a2 a3 a4 a5 a6 a7 h n 3 _ s3
  have s5 : Stage a0 a1 a2 a3 a4 a5 a6 a7 h n 5 (A_main_v55 a0 a1 a2 a3 a4 a5 a6 a7) := stage_next a0 a1 a2 a3 a4 a5 a6 a7 h n 4 _ s4
  have s6 : Stage a0 a1 a2 a3 a4 a5 a6 a7 h n 6 (A_main_v57 a0 a1 a2 a3 a4 a5 a6 a7) := stage_next a0 a1 a2 a3 a4 a5 a6 a7 h n 5 _ s5
  have s7 : Stage a0 a1 a2 a3 a4 a5 a6 a7 h n 7 (A_main_v59 a0 a1 a2 a3 a4 a5 a6 a7) := stage_next a0 a1 a2 a3 a4 a5 a6 a7 h n 6 _ s6
  have s8 : Stage a0 a1 a2 a3 a4 a5 a6 a7 h n 8 (A_main_v61 a0 a1 a2 a3 a4 a5 a6 a7) := stage_next a0 a1 a2 a3 a4 a5 a6 a7 h n 7 _ s7
  have s9 : Stage a0 a1 a2 a3 a4 a5 a6 a7 h n 9 (A_main_v63 a0 a1 a2 a3 a4 a5 a6 a7) := stage_next a0 a1 a2 a3 a4 a5 a6 a7 h n 8 _ s8
  have s10 : Stage a0 a1 a2 a3 a4 a5 a6 a7 h n 10 (A_main_v65 a0 a1 a2 a3 a4 a5 a6 a7) := stage_next a0 a1 a2 a3 a4 a5 a6 a7 h n 9 _ s9
  have s11 : Stage a0 a1 a2 a3 a4 a5 a6 a7 h n 11 (A_main_v67 a0 a1 a2 a3 a4 a5 a6 a7) := stage_next a0 a1 a2 a3 a4 a5 a6 a7 h n 10 _ s10
  have s12 : Stage a0 a1 a2 a3 a4 a5 a6 a7 h n 12 (A_main_v69 a0 a1 a2 a3 a4 a5 a6 a7) := stage_next a0 a1 a2 a3 a4 a5 a6 a7 h n 11 _ s11
  have s13 : Stage a0 a1 a2 a3 a4 a5 a6 a7 h n 13 (A_main_v71 a0 a1 a2 a3 a4 a5 a6 a7) := stage_next a0 a1 a2 a3 a4 a5 a6 a7 h n 12 _ s12
  have s14 : Stage a0 a1 a2 a3 a4 a5 a6 a7 h n 14 (A_main_v73 a0 a1 a2 a3 a4 a5 a6 a7) := stage_next a0 a1 a2 a3 a4 a5 a6 a7 h n 13 _ s13
  have s15 : Stage a0 a1 a2 a3 a4 a5 a6 a7 h n 15 (A_main_v75 a0 a1 a2 a3 a4 a5 a6 a7) := stage_next a0 a1 a2 a3 a4 a5 a6 a7 h n 14 _ s14
  have s16 : Stage a0 a1 a2 a3 a4 a5 a6 a7 h n 16 (A_main_v77 a0 a1 a2 a3 a4 a5 a6 a7) := stage_next a0 a1 a2 a3 a4 a5 a6 a7 h n 15 _ s15
  have s17 : Stage a0 a1 a2 a3 a4 a5 a6 a7 h n 17 (A_main_v79 a0 a1 a2 a3 a4 a5 a6 a7) := stage_next a0 a1 a2 a3 a4 a5 a6 a7 h n 16 _ s16
  have s18 : Stage a0 a1 a2 a3 a4 a5 a6 a7 h n 18 (A_main_v81 a0 a1 a2 a3 a4 a5 a6 a7) := stage_next a0 a1 a2 a3 a4 a5 a6 a7 h n 17 _ s17
  have s19 : Stage a0 a1 a2 a3 a4 a5 a6 a7 h n 19 (A_main_v83 a0 a1 a2 a3 a4 a5 a6 a7) := stage_next a0 a1 a2 a3 a4 a5 a6 a7 h n 18 _ s18
  have s20 : Stage a0 a1 a2 a3 a4 a5 a6 a7 h n 20 (A_main_v85 a0 a1 a2 a3 a4 a5 a6 a7) := stage_next a0 a1 a2 a3 a4 a5 a6 a7 h n 19 _ s19
  have s21 : Stage a0 a1 a2 a3 a4 a5 a6 a7 h n 21 (A_main_v87 a0 a1 a2 a3 a4 a5 a6 a7) := stage_next a0 a1 a2 a3 a4 a5 a6 a7 h n 20 _ s20
  have s22 : Stage a0 a1 a2 a3 a4 a5 a6 a7 h n 22 (A_main_v89 a0 a1 a2 a3 a4 a5 a6 a7) := stage_next a0 a1 a2 a3 a4 a5 a6 a7 h n 21 _ s21
  have s23 : Stage a0 a1 a2 a3 a4 a5 a6 a7 h n 23 (A_main_v91 a0 a1 a2 a3 a4 a5 a6 a7) := stage_next a0 a1 a2 a3 a4 a5 a6 a7 h n 22 _ s22
  have s24 : Stage a0 a1 a2 a3 a4 a5 a6 a7 h n 24 (A_main_v93 a0 a1 a2 a3 a4 a5 a6 a7) := stage_next a0 a1 a2 a3 a4 a5 a6 a7 h n 23 _ s23
  have s25 : Stage a0 a1 a2 a3 a4 a5 a6 a7 h n 25 (A_main_v95 a0 a1 a2 a3 a4 a5 a6 a7) := stage_next a0 a1 a2 a3 a4 a5 a6 a7 h n 24 _ s24
  have s26 : Stage a0 a1 a2 a3 a4 a5 a6 a7 h n 26 (A_main_v97 a0 a1 a2 a3 a4 a5 a6 a7) := stage_next a0 a1 a2 a3 a4 a5 a6 a7 h n 25 _ s25
  have s27 : Stage a0 a1 a2 a3 a4 a5 a6 a7 h n 27 (A_main_v99 a0 a1 a2 a3 a4 a5 a6 a7) := stage_next a0 a1 a2 a3 a4 a5 a6 a7 h n 26 _ s26
  have s28 : Stage a0 a1 a2 a3 a4 a5 a6 a7 h n 28 (A_main_v101 a0 a1 a2 a3 a4 a5 a6 a7) := stage_next a0 a1 a2 a3 a4 a5 a6 a7 h n 27 _ s27
  have s29 : Stage a0 a1 a2 a3 a4 a5 a6 a7 h n 29 (A_main_v103 a0 a1 a2 a3 a4 a5 a6 a7) := stage_next a0 a1 a2 a3 a4 a5 a6 a7 h n 28 _ s28
  have s30 : Stage a0 a1 a2 a3 a4 a5 a6 a7 h n 30 (A_main_v105 a0 a1 a2 a3 a4 a5 a6 a7) := stage_next a0 a1 a2 a3 a4 a5 a6 a7 h n 29 _ s29
  have s31 : Stage a0 a1 a2 a3 a4 a5 a6 a7 h n 31 (A_main_v107 a0 a1 a2 a3 a4 a5 a6 a7) := stage_next a0 a1 a2 a3 a4 a5 a6 a7 h n 30 _ s30
  have s32 : Stage a0 a1 a2 a3 a4 a5 a6 a7 h n 32 (A_main_v109 a0 a1 a2 a3 a4 a5 a6 a7) := stage_next a0 a1 a2 a3 a4 a5 a6 a7 h n 31 _ s31
  have s33 : Stage a0 a1 a2 a3 a4 a5 a6 a7 h n 33 (A_main_v111 a0 a1 a2 a3 a4 a5 a6 a7) := stage_next a0 a1 a2 a3 a4 a5 a6 a7 h n 32 _ s32
  have s34 : Stage a0 a1 a2 a3 a4 a5 a6 a7 h n 34 (A_main_v113 a0 a1 a2 a3 a4 a5 a6 a7) := stage_next a0 a1 a2 a3 a4 a5 a6 a7 h n 33 _ s33
  have s35 : Stage a0 a1 a2 a3 a4 a5 a6 a7 h n 35 (A_main_v115 a0 a1 a2 a3 a4 a5 a6 a7) := stage_next a0 a1 a2 a3 a4 a5 a6 a7 h n 34 _ s34
  have s36 : Stage a0 a1 a2 a3 a4 a5 a6 a7 h n 36 (A_main_v117 a0 a1 a2 a3 a4 a5 a6 a7) := stage_next a0 a1 a2 a3 a4 a5 a6 a7 h n 35 _ s35
  have s37 : Stage a0 a1 a2 a3 a4 a5 a6 a7 h n 37 (A_main_v119 a0 a1 a2 a3 a4 a5 a6 a7) := stage_next a0 a1 a2 a3 a4 a5 a6 a7 h n 36 _ s36
  have s38 : Stage a0 a1 a2 a3 a4 a5 a6 a7 h n 38 (A_main_v121 a0 a1 a2 a3 a4 a5 a6 a7) := stage_next a0 a1 a2 a3 a4 a5 a6 a7 h n 37 _ s37
  have s39 : Stage a0 a1 a2 a3 a4 a5 a6 a7 h n 39 (A_main_v123 a0 a1 a2 a3 a4 a5 a6 a7) := stage_next a0 a1 a2 a3 a4 a5 a6 a7 h n 38 _ s38
  have s40 : Stage a0 a1 a2 a3 a4 a5 a6 a7 h n 40 (A_main_v125 a0 a1 a2 a3 a4 a5 a6 a7) := stage_next a0 a1 a2 a3 a4 a5 a6 a7 h n 39 _ s39
  have s41 : Stage a0 a1 a2 a3 a4 a5 a6 a7 h n 41 (A_main_v127 a0 a1 a2 a3 a4 a5 a6 a7) := stage_next a0 a1 a2 a3 a4 a5 a6 a7 h n 40 _ s40
  have s42 : Stage a0 a1 a2 a3 a4 a5 a6 a7 h n 42 (A_main_v129 a0 a1 a2 a3 a4 a5 a6 a7) := stage_next a0 a1 a2 a3 a4 a5 a6 a7 h n 41 _ s41
  have s43 : Stage a0 a1 a2 a3 a4 a5 a6 a7 h n 43 (A_main_v131 a0 a1 a2 a3 a4 a5 a6 a7) := stage_next a0 a1 a2 a3 a4 a5 a6 a7 h n 42 _ s42
  have s44 : Stage a0 a1 a2 a3 a4 a5 a6 a7 h n 44 (A_main_v133 a0 a1 a2 a3 a4 a5 a6 a7) := stage_next a0 a1 a2 a3 a4 a5 a6 a7 h n 43 _ s43
  have s45 : Stage a0 a1 a2 a3 a4 a5 a6 a7 h n 45 (A_main_v135 a0 a1 a2 a3 a4 a5 a6 a7) := stage_next a0 a1 a2 a3 a4 a5 a6 a7 h n 44 _ s44
  have s46 : Stage a0 a1 a2 a3 a4 a5 a6 a7 h n 46 (A_main_v137 a0 a1 a2 a3 a4 a5 a6 a7) := stage_next a0 a1 a2 a3 a4 a5 a6 a7 h n 45 _ s45
  have s47 : Stage a0 a1 a2 a3 a4 a5 a6 a7 h n 47 (A_main_v139 a0 a1 a2 a3 a4 a5 a6 a7) := stage_next a0 a1 a2 a3 a4 a5 a6 a7 h n 46 _ s46
  have s48 : Stage a0 a1 a2 a3 a4 a5 a6 a7 h n 48 (A_main_v141 a0 a1 a2 a3 a4 a5 a6 a7) := stage_next a0 a1 a2 a3 a4 a5 a6 a7 h n 47 _ s47
  have s49 : Stage a0 a1 a2 a3 a4 a5 a6 a7 h n 49 (A_main_v143 a0 a1 a2 a3 a4 a5 a6 a7) := stage_next a0 a1 a2 a3 a4 a5 a6 a7 h n 48 _ s48
  have s50 : Stage a0 a1 a2 a3 a4 a5 a6 a7 h n 50 (A_main_v145 a0 a1 a2 a3 a4 a5 a6 a7) := stage_next a0 a1 a2 a3 a4 a5 a6 a7 h n 49 _ s49
  have s51 : Stage a0 a1 a2 a3 a4 a5 a6 a7 h n 51 (A_main_v147 a0 a1 a2 a3 a4 a5 a6 a7) := stage_next a0 a1 a2 a3 a4 a5 a6 a7 h n 50 _ s50
  have s52 : Stage a0 a1 a2 a3 a4 a5 a6 a7 h n 52 (A_main_v149 a0 a1 a2 a3 a4 a5 a6 a7) := stage_next a0 a1 a2 a3 a4 a5 a6 a7 h n 51 _ s51
  have s53 : Stage a0 a1 a2 a3 a4 a5 a6 a7 h n 53 (A_main_v151 a0 a1 a2 a3 a4 a5 a6 a7) := stage_next a0 a1 a2 a3 a4 a5 a6 a7 h n 52 _ s52
  have s54 : Stage a0 a1 a2 a3 a4 a5 a6 a7 h n 54 (A_main_v153 a0 a1 a2 a3 a4 a5 a6 a7) := stage_next a0 a1 a2 a3 a4 a5 a6 a7 h n 53 _ s53
  have s55 : Stage a0 a1 a2 a3 a4 a5 a6 a7 h n 55 (A_main_v155 a0 a1 a2 a3 a4 a5 a6 a7) := stage_next a0 a1 a2 a3 a4 a5 a6 a7 h n 54 _ s54
  have s56 : Stage a0 a1 a2 a3 a4 a5 a6 a7 h n 56 (A_main_v157 a0 a1 a2 a3 a4 a5 a6 a7) := stage_next a0 a1 a2 a3 a4 a5 a6 a7 h n 55 _ s55
  have s57 : Stage a0 a1 a2 a3 a4 a5 a6 a7 h n 57 (A_main_v159 a0 a1 a2 a3 a4 a5 a6 a7) := stage_next a0 a1 a2 a3 a4 a5 a6 a7 h n 56 _ s56
  have s58 : Stage a0 a1 a2 a3 a4 a5 a6 a7 h n 58 (A_main_v161 a0 a1 a2 a3 a4 a5 a6 a7) := stage_next a0 a1 a2 a3 a4 a5 a6 a7 h n 57 _ s57
  have s59 : Stage a0 a1 a2 a3 a4 a5 a6 a7 h n 59 (A_main_v163 a0 a1 a2 a3 a4 a5 a6 a7) := stage_next a0 a1 a2 a3 a4 a5 a6 a7 h n 58 _ s58
  have s60 : Stage a0 a1 a2 a3 a4 a5 a6 a7 h n 60 (A_main_v165 a0 a1 a2 a3 a4 a5 a6 a7) := stage_next a0 a1 a2 a3 a4 a5 a6 a7 h n 59 _ s59
  have s61 : Stage a0 a1 a2 a3 a4 a5 a6 a7 h n 61 (A_main_v167 a0 a1 a2 a3 a4 a5 a6 a7) := stage_next a0 a1 a2 a3 a4 a5 a6 a7 h n 60 _ s60
  have s62 : Stage a0 a1 a2 a3 a4 a5 a6 a7 h n 62 (A_main_v169 a0 a1 a2 a3 a4 a5 a6 a7) := stage_next a0 a1 a2 a3 a4 a5 a6 a7 h n 61 _ s61
  have s63 : Stage a0 a1 a2 a3 a4 a5 a6 a7 h n 63 (A_main_v171 a0 a1 a2 a3 a4 a5 a6 a7) := stage_next a0 a1 a2 a3 a4 a5 a6 a7 h n 62 _ s62
  s63

/-- The first half of the right-hand sides. -/
theorem rhs_vb (i : Fin 64) (d : Fin 128) :
    rhs a0 a1 a2 a3 a4 a5 a6 a7 h n i ⟨d.val, by omega⟩ = (chunkOf a0 a1 a2 a3 a4 a5 a6 a7 h n).vb i d := by
  have hd : d.val < 128 := d.isLt
  unfold rhs
  pointwise [A_main_v45]
  first | exact ref_vb a0 a1 a2 a3 a4 a5 a6 a7 h n i d | exact ref_kbe a0 a1 a2 a3 a4 a5 a6 a7 h n i d

/-- The values, less what the earlier rows hold of them. -/
theorem ref_u (i : Fin 64) (d : Fin 128) :
    A_main_v179 (F := Ideal) a0 a1 a2 a3 a4 a5 a6 a7 (ix4 n h i d) = (chunkOf a0 a1 a2 a3 a4 a5 a6 a7 h n).u i d := by
  pointwise [A_main_v179, A_main_v172]
  refine (ref_sol a0 a1 a2 a3 a4 a5 a6 a7 h n i _).trans (((chunkOf a0 a1 a2 a3 a4 a5 a6 a7 h n).sol_col _ (fun d : Fin 128 => (⟨d.val, by omega⟩ : Fin 256)) 63 i d).trans ?_)
  simp only [rhs_vb]
  rfl

/-- The second half of the right-hand sides. -/
theorem rhs_kbe (i : Fin 64) (d : Fin 128) :
    rhs a0 a1 a2 a3 a4 a5 a6 a7 h n i ⟨128 + d.val, by omega⟩ = (chunkOf a0 a1 a2 a3 a4 a5 a6 a7 h n).kbe i d := by
  have hd : ¬ 128 + d.val < 128 := by omega
  unfold rhs
  pointwise [A_main_v45]
  first | exact ref_vb a0 a1 a2 a3 a4 a5 a6 a7 h n i d | exact ref_kbe a0 a1 a2 a3 a4 a5 a6 a7 h n i d

/-- The keys that read the state. -/
theorem ref_w (i : Fin 64) (d : Fin 128) :
    A_main_v180 (F := Ideal) a0 a1 a2 a3 a4 a5 a6 a7 (ix4 n h i d) = (chunkOf a0 a1 a2 a3 a4 a5 a6 a7 h n).w i d := by
  pointwise [A_main_v180, A_main_v173]
  refine (ref_sol a0 a1 a2 a3 a4 a5 a6 a7 h n i _).trans (((chunkOf a0 a1 a2 a3 a4 a5 a6 a7 h n).sol_col _ (fun d : Fin 128 => (⟨128 + d.val, by omega⟩ : Fin 256)) 63 i d).trans ?_)
  simp only [rhs_kbe]
  rfl

/-- The decayed queries as the loop takes them. -/
theorem ref_qd_t (i : Fin 64) (d : Fin 128) :
    A_main_v181 (F := Ideal) a0 a1 a2 a3 a4 a5 a6 a7 (ix4 n h i d) = (chunkOf a0 a1 a2 a3 a4 a5 a6 a7 h n).qd i d := by
  pointwise [A_main_v181]
  exact ref_qd a0 a1 a2 a3 a4 a5 a6 a7 h n i d

/-- The keys decayed to the end as the loop takes them. -/
theorem ref_kt_t (i : Fin 64) (d : Fin 128) :
    A_main_v182 (F := Ideal) a0 a1 a2 a3 a4 a5 a6 a7 (ix4 n h i d) = (chunkOf a0 a1 a2 a3 a4 a5 a6 a7 h n).kt i d := by
  pointwise [A_main_v182]
  exact ref_kt a0 a1 a2 a3 a4 a5 a6 a7 h n i d

/-- The weights of the queries as the loop takes them. -/
theorem ref_att_t (i j : Fin 64) :
    A_main_v183 (F := Ideal) a0 a1 a2 a3 a4 a5 a6 a7 (ix4 n h i j) = (chunkOf a0 a1 a2 a3 a4 a5 a6 a7 h n).att i j := by
  pointwise [A_main_v183]
  exact ref_att a0 a1 a2 a3 a4 a5 a6 a7 h n i j

/-- The last decay sum of a chunk as the loop takes it. -/
theorem ref_last :
    A_main_v184 (F := Ideal) a0 a1 a2 a3 a4 a5 a6 a7 (ix2 n h) = (chunkOf a0 a1 a2 a3 a4 a5 a6 a7 h n).g 63 := by
  pointwise [A_main_v184, A_main_v177, A_main_v176]
  exact ref_g a0 a1 a2 a3 a4 a5 a6 a7 h n 63

variable (s : State Ideal)

/-- Trip `j`'s slice of an operand of the loop. -/
theorem slice4 (x : Vec Ideal S256x8x64x128 .f32) (c2 c3 c4 : IVec S_ 32) (h2 : c2 = constantI S_ 32 0#32) (h3 : c3 = constantI S_ 32 0#32)
    (h4 : c4 = constantI S_ 32 0#32) (i : Fin 64) (d : Fin 128) :
    shapeCast S8x64x128 (Host.dynamicSlice S1x8x64x128 x (fun k => (((![(constantI S_ 32 (BitVec.ofNat 32 n.val)), c2, c3, c4] : Fin 4 → IVec S_ 32)) k (Shape.Idx.first h_S_)).toInt) sliceFits_S256x8x64x128_S1x8x64x128) shapeCasts_S1x8x64x128_S8x64x128 (ix3 h i d) =
      x (ix4 n h i d) := by
  subst h2 h3 h4
  have hn : n.val < 256 := n.isLt
  rw [WordCmp.dynamicSlice_eq_extract S1x8x64x128 x _ _ ![n.val, 0, 0, 0] ⟨rfl, fun a => by fin_cases a <;> first | exact Nat.le_refl _ | (show n.val + 1 ≤ 256; omega)⟩ (by intro a; fin_cases a <;> first | rfl | exact WordCmp.toInt_ofNat_of_lt (show n.val < 2 ^ 31 by omega))]
  pointwise []

/-- Trip `j`'s slice of the weights. -/
theorem slice4b (x : Vec Ideal S256x8x64x64 .f32) (c2 c3 c4 : IVec S_ 32) (h2 : c2 = constantI S_ 32 0#32) (h3 : c3 = constantI S_ 32 0#32)
    (h4 : c4 = constantI S_ 32 0#32) (i : Fin 64) (d : Fin 64) :
    shapeCast S8x64x64 (Host.dynamicSlice S1x8x64x64 x (fun k => (((![(constantI S_ 32 (BitVec.ofNat 32 n.val)), c2, c3, c4] : Fin 4 → IVec S_ 32)) k (Shape.Idx.first h_S_)).toInt) sliceFits_S256x8x64x64_S1x8x64x64) shapeCasts_S1x8x64x64_S8x64x64 (ix3 h i d) =
      x (ix4 n h i d) := by
  subst h2 h3 h4
  have hn : n.val < 256 := n.isLt
  rw [WordCmp.dynamicSlice_eq_extract S1x8x64x64 x _ _ ![n.val, 0, 0, 0] ⟨rfl, fun a => by fin_cases a <;> first | exact Nat.le_refl _ | (show n.val + 1 ≤ 256; omega)⟩ (by intro a; fin_cases a <;> first | rfl | exact WordCmp.toInt_ofNat_of_lt (show n.val < 2 ^ 31 by omega))]
  pointwise []

/-- Trip `j`'s slice of the decays. -/
theorem slice2 (x : Vec Ideal S256x8 .f32) (c2 : IVec S_ 32) (h2 : c2 = constantI S_ 32 0#32) :
    shapeCast S8 (Host.dynamicSlice S1x8 x (fun k => (((![(constantI S_ 32 (BitVec.ofNat 32 n.val)), c2] : Fin 2 → IVec S_ 32)) k (Shape.Idx.first h_S_)).toInt) sliceFits_S256x8_S1x8) shapeCasts_S1x8_S8 (ix1 h) =
      x (ix2 n h) := by
  subst h2
  have hn : n.val < 256 := n.isLt
  rw [WordCmp.dynamicSlice_eq_extract S1x8 x _ _ ![n.val, 0] ⟨rfl, fun a => by fin_cases a <;> first | exact Nat.le_refl _ | (show n.val + 1 ≤ 256; omega)⟩ (by intro a; fin_cases a <;> first | rfl | exact WordCmp.toInt_ofNat_of_lt (show n.val < 2 ^ 31 by omega))]
  pointwise []

/-- Trip `j`'s number. -/
theorem slice1 : b1 n.val s ix0 = BitVec.ofNat 32 n.val := by
  have hn : n.val < 256 := n.isLt
  have e := WordCmp.dynamicSlice_eq_extract (s := S256) (α := BitVec 32) S1 (K_main_v178 (F := Ideal))
    (fun k => (((![(constantI S_ 32 (BitVec.ofNat 32 n.val))] : Fin 1 → IVec S_ 32)) k (Shape.Idx.first h_S_)).toInt) sliceFits_S256_S1 ![n.val]
    ⟨rfl, fun a => by fin_cases a; show n.val + 1 ≤ 256; omega⟩ (by intro a; fin_cases a; exact WordCmp.toInt_ofNat_of_lt (show n.val < 2 ^ 31 by omega))
  refine (congrFun (congrArg (fun x => shapeCast S_ x shapeCasts_S1_S_) e) ix0).trans ?_
  pointwise [K_main_v178]

/-- A trip's solutions of the first right-hand side. -/
theorem trip_u (i : Fin 64) (d : Fin 128) : b6 n.val s (ix3 h i d) = s.main_v187_1 (ix4 n h i d) :=
  slice4 h n _ _ _ _ rfl rfl rfl i d

/-- A trip's solutions of the second right-hand side. -/
theorem trip_w (i : Fin 64) (d : Fin 128) : b11 n.val s (ix3 h i d) = s.main_v187_2 (ix4 n h i d) :=
  slice4 h n _ _ _ _ rfl rfl rfl i d

/-- A trip's decayed queries. -/
theorem trip_qd (i : Fin 64) (d : Fin 128) : b16 n.val s (ix3 h i d) = s.main_v187_3 (ix4 n h i d) :=
  slice4 h n _ _ _ _ rfl rfl rfl i d

/-- A trip's keys decayed to the end. -/
theorem trip_kt (i : Fin 64) (d : Fin 128) : b21 n.val s (ix3 h i d) = s.main_v187_4 (ix4 n h i d) :=
  slice4 h n _ _ _ _ rfl rfl rfl i d

/-- A trip's weights of the queries. -/
theorem trip_att (i : Fin 64) (d : Fin 64) : b26 n.val s (ix3 h i d) = s.main_v187_5 (ix4 n h i d) :=
  slice4b h n _ _ _ _ rfl rfl rfl i d

/-- A trip's last decay sum. -/
theorem trip_last : b29 n.val s (ix1 h) = s.main_v187_6 (ix2 n h) :=
  slice2 h n _ _ rfl

/-- The operands of the loop are what was computed before it. -/
structure Held (s : State Ideal) : Prop where
  u : s.main_v187_1 = A_main_v179 a0 a1 a2 a3 a4 a5 a6 a7
  w : s.main_v187_2 = A_main_v180 a0 a1 a2 a3 a4 a5 a6 a7
  qd : s.main_v187_3 = A_main_v181 a0 a1 a2 a3 a4 a5 a6 a7
  kt : s.main_v187_4 = A_main_v182 a0 a1 a2 a3 a4 a5 a6 a7
  att : s.main_v187_5 = A_main_v183 a0 a1 a2 a3 a4 a5 a6 a7
  last : s.main_v187_6 = A_main_v184 a0 a1 a2 a3 a4 a5 a6 a7

variable (hs : Held a0 a1 a2 a3 a4 a5 a6 a7 s) (f : Fin 128 → Fin 128 → EReal) (hf : ∀ e d, s.main_v187_9 (ix3 h e d) = f e d)

include hs hf

/-- The values of a trip, less what the state holds of them. -/
theorem trip_vnew (i : Fin 64) (d : Fin 128) : b31 n.val s (ix3 h i d) = (chunkOf a0 a1 a2 a3 a4 a5 a6 a7 h n).vnew f i d := by
  pointwise [b31, b30]
  simp only [trip_u, trip_w, hs.u, hs.w, ref_u, ref_w, hf]
  rfl

/-- What a trip reads out. -/
theorem trip_out (i : Fin 64) (d : Fin 128) : b34 n.val s (ix3 h i d) = (chunkOf a0 a1 a2 a3 a4 a5 a6 a7 h n).out f i d := by
  pointwise [b34, b33, b32]
  simp only [trip_qd, trip_att, hs.qd, hs.att, ref_qd_t, ref_att_t, hf, trip_vnew a0 a1 a2 a3 a4 a5 a6 a7 h n s hs f hf]
  rfl

/-- The state after a trip. -/
theorem trip_next (e d : Fin 128) : b40 n.val s (ix3 h e d) = (chunkOf a0 a1 a2 a3 a4 a5 a6 a7 h n).next f e d := by
  pointwise [b40, b39, b38, b37, b36, b35]
  simp only [trip_last, trip_kt, hs.kt, hs.last, ref_last, ref_kt_t, hf, trip_vnew a0 a1 a2 a3 a4 a5 a6 a7 h n s hs f hf]
  rfl

/-- The rows a trip writes. -/
theorem trip_rows (n' : Fin 256) (i : Fin 64) (d : Fin 128) :
    b51 n.val s (ix4 n' h i d) = s.main_v187_10 (ix4 n' h i d) + if n' = n then (chunkOf a0 a1 a2 a3 a4 a5 a6 a7 h n).out f i d else 0 := by
  pointwise [b51, b50, b49, b48, b47, b46, b45, b44, b43, b42, b41, K_main_v178]
  have hc : IntOp.cmpi .eq (BitVec.ofNat 32 n'.val) (BitVec.ofNat 32 n.val) = if n' = n then 1#1 else 0#1 := by
    have e : (BitVec.ofNat 32 n'.val = BitVec.ofNat 32 n.val) ↔ n' = n := by
      refine ⟨fun e => ?_, fun e => by rw [e]⟩
      have := congrArg BitVec.toNat e
      rw [BitVec.toNat_ofNat, BitVec.toNat_ofNat, Nat.mod_eq_of_lt (by omega), Nat.mod_eq_of_lt (by omega)] at this
      exact Fin.ext this
    by_cases hh : n' = n
    · rw [if_pos hh, hh]; simp [IntOp.cmpi]
    · rw [if_neg hh]; simp only [IntOp.cmpi]; rw [beq_eq_false_iff_ne.mpr (fun q => hh (e.mp q))]; rfl
  rw [slice1, hc, select_ite, trip_out a0 a1 a2 a3 a4 a5 a6 a7 h n s hs f hf]

omit hs hf

/-- The state's chunks in order. -/
def run (k : ℕ) : Fin 128 → Fin 128 → EReal := states (fun n => chunkOf a0 a1 a2 a3 a4 a5 a6 a7 h (Fin.ofNat 256 n)) k

variable (it : ℕ → State Ideal) (h0 : it 0 = init a0 a1 a2 a3 a4 a5 a6 a7) (hn : ∀ k, it (k + 1) = step k (it k))

include h0 hn

/-- The loop leaves its operands in place. -/
theorem it_held (k : ℕ) : Held a0 a1 a2 a3 a4 a5 a6 a7 (it k) := by
  induction k with
  | zero => rw [h0]; exact ⟨rfl, rfl, rfl, rfl, rfl, rfl⟩
  | succ k ih => rw [hn]; exact ⟨ih.u, ih.w, ih.qd, ih.kt, ih.att, ih.last⟩

/-- The state before each trip. -/
theorem it_state (k : ℕ) (hk : k ≤ 256) (e d : Fin 128) : (it k).main_v187_9 (ix3 h e d) = run a0 a1 a2 a3 a4 a5 a6 a7 h k e d := by
  induction k generalizing e d with
  | zero => rw [h0]; exact Ideal.ofBits_zero_f32
  | succ k ih =>
    rw [hn, step_main_v187_9]
    have hc : Fin.ofNat 256 k = ⟨k, by omega⟩ := Fin.ext (Nat.mod_eq_of_lt (by omega))
    refine (trip_next a0 a1 a2 a3 a4 a5 a6 a7 h ⟨k, by omega⟩ (it k) (it_held a0 a1 a2 a3 a4 a5 a6 a7 it h0 hn k) _ (fun e d => ih (by omega) e d) e d).trans ?_
    rw [← hc]; rfl

/-- The rows written before each trip. -/
theorem it_rows (k : ℕ) (hk : k ≤ 256) (n : Fin 256) (i : Fin 64) (d : Fin 128) :
    (it k).main_v187_10 (ix4 n h i d) = if n.val < k then (chunkOf a0 a1 a2 a3 a4 a5 a6 a7 h n).out (run a0 a1 a2 a3 a4 a5 a6 a7 h n.val) i d else 0 := by
  induction k with
  | zero => rw [h0]; exact Ideal.ofBits_zero_f32
  | succ k ih =>
    rw [hn, step_main_v187_10]
    refine (trip_rows a0 a1 a2 a3 a4 a5 a6 a7 h ⟨k, by omega⟩ (it k) (it_held a0 a1 a2 a3 a4 a5 a6 a7 it h0 hn k) _ (fun e d => it_state a0 a1 a2 a3 a4 a5 a6 a7 h it h0 hn k (by omega) e d) n i d).trans ?_
    rw [ih (by omega)]
    rcases lt_trichotomy n.val k with h1 | h1 | h1
    · rw [if_pos h1, if_neg (fun e => by rw [e] at h1; exact absurd h1 (lt_irrefl _)), if_pos (by omega), add_zero]
    · subst h1
      rw [if_neg (lt_irrefl _), if_pos rfl, if_pos (Nat.lt_succ_self _), zero_add]
    · rw [if_neg (by omega), if_neg (fun e => by rw [e] at h1; exact absurd h1 (lt_irrefl _)), if_neg (by omega), add_zero]

/-- The result of the reference at an element. -/
theorem ref_result (a8 : Vec Ideal S16384x7680 .f32) (a9 : Vec Ideal S128 .f32) (n : Fin 256) (i : Fin 64) (d : Fin 128) :
    R_main_v208 (it 256) a8 a9 (ix2 ⟨n.val * 64 + i.val, by omega⟩ ⟨h.val * 128 + d.val, by omega⟩) =
      gate ((chunkOf a0 a1 a2 a3 a4 a5 a6 a7 h n).out (run a0 a1 a2 a3 a4 a5 a6 a7 h n.val) i) (a9 (ix1 d)) (a8 (ix2 ⟨n.val * 64 + i.val, by omega⟩ ⟨3072 + (h.val * 128 + d.val), by omega⟩)) d := by
  have e : ∀ d, (it 256).main_v187_10 (ix4 n h i d) = (chunkOf a0 a1 a2 a3 a4 a5 a6 a7 h n).out (run a0 a1 a2 a3 a4 a5 a6 a7 h n.val) i d := fun d =>
    (it_rows a0 a1 a2 a3 a4 a5 a6 a7 h it h0 hn 256 (le_refl _) n i d).trans (if_pos n.isLt)
  pointwise [R_main_v208]
  simp only [e]
  rfl

end GdnProof

end
-- ==== Proof.GdnPay.lean ====
module

public import proofs.«01_k».proof.Proof.Gen.GdnIdeal.Value
public import Idealize.ShloMosaic.Lib.Pointwise

@[expose] public section

set_option maxRecDepth 16384

noncomputable section

namespace GdnProof

open Cert.GdnIdeal Cert.GdnIdeal.Gen Idealize.ShloMosaic Idealize.ShloMosaic.TcCoe

variable {F : FTy → Type} [FloatOps F]

/-- The row numbers of a block of two chunks. -/
def rowNo : IVec S128x128 32 := iota .tc S128x128 32 [0] iota_S128x128_d0_w32

/-- The column numbers of a block of two chunks. -/
def colNo : IVec S128x128 32 := iota .tc S128x128 32 [1] iota_S128x128_d1_w32

/-- The strictly lower systems of the two chunks of a block. -/
def hSys (k kb q : FVec F S128x128 .bf16) (g : FVec F S128x128 .f32) : FVec F S128x128 .f32 :=
  k0_pay14 rowNo colNo k0_pay3 (64#32) k0_pay4 k0_pay5 k0_pay6 k g kb q

/-- The weights of the queries of a block of two chunks. -/
def hAtt (k kb q : FVec F S128x128 .bf16) (g : FVec F S128x128 .f32) : FVec F S128x128 .bf16 :=
  k0_pay15 rowNo colNo k0_pay3 (64#32) k0_pay4 k0_pay5 k0_pay6 k g kb q

/-- The solutions of the two chunks' systems, for both right-hand sides. -/
def hSol (k kb q vb kbe : FVec F S128x128 .bf16) (g : FVec F S128x128 .f32) : FVec F S128x256 .f32 :=
  k0_pay18 (hSys k kb q g) k0_pay16 (subf k0_pay16 (hSys k kb q g)) vb kbe

/-- The solutions of the first right-hand side. -/
def hU (k kb q vb kbe : FVec F S128x128 .bf16) (g : FVec F S128x128 .f32) : FVec F S128x128 .f32 :=
  extractStridedSlice S128x128 ![0, 0] (hSol k kb q vb kbe g) slices_S128x256_o0_0_S128x128

/-- The solutions of the second right-hand side. -/
def hW (k kb q vb kbe : FVec F S128x128 .bf16) (g : FVec F S128x128 .f32) : FVec F S128x128 .bf16 :=
  truncf .bf16 (extractStridedSlice S128x128 ![0, 128] (hSol k kb q vb kbe g) slices_S128x256_o0_128_S128x128) bitsLt_bf16_f32

/-- The state a head leaves after its block of two chunks. -/
def hState (q k kb vb kbe qd kt : FVec F S128x128 .bf16) (g : FVec F S128x128 .f32) (s : FVec F S1x128x128 .f32) :
    FVec F S1x128x128 .f32 :=
  k0_pay30 (k0_pay29 (k0_pay11 g) (hU k kb q vb kbe g) (hW k kb q vb kbe g) qd kt s)

/-- What a head writes for its block of two chunks. -/
def hOut (q k kb vb kbe qd kt : FVec F S128x128 .bf16) (g z : FVec F S128x128 .f32) (nw : FVec F S1x128 .f32) (s : FVec F S1x128x128 .f32) :
    FVec F S128x128 .bf16 :=
  k0_pay31 (k0_pay24 k0_pay10 (hAtt k kb q g) (hU k kb q vb kbe g) (hW k kb q vb kbe g) qd s)
    (k0_pay28 k0_pay10 (k0_pay11 g) (hAtt k kb q g) (hU k kb q vb kbe g) (hW k kb q vb kbe g) qd kt s) z nw

/-- A head's columns lie inside the block. -/
theorem colInb (h : Fin 8) (i : Fin 2) : (![0, 128 * h.val] : Fin 2 → ℕ) i + S128x128.size i ≤ S128x1024.size i := by
  have := h.isLt
  fin_cases i
  · exact le_refl 128
  · show 128 * h.val + 128 ≤ 1024
    omega

/-- A head's state lies inside the states. -/
theorem slabInb (h : Fin 8) (i : Fin 3) : (![h.val, 0, 0] : Fin 3 → ℕ) i + S1x128x128.size i ≤ S8x128x128.size i := by
  have := h.isLt
  fin_cases i
  · show h.val + 1 ≤ 8
    omega
  · exact le_refl 128
  · exact le_refl 128

/-- Where a head's columns lie. -/
abbrev colRect (h : Fin 8) : Rect S128x1024 := Rect.unit ![0, 128 * h.val] S128x128.size (colInb h)

/-- Where a head's state lies. -/
abbrev slabRect (h : Fin 8) : Rect S8x128x128 := Rect.unit ![h.val, 0, 0] S1x128x128.size (slabInb h)

/-- One head's columns of a block, as the kernel loads them. -/
abbrev ldb {e : EltTy} (a : Memref sig .tc .vmem S128x1024 e) (ha : a.IsWhole) (x : Vec F S128x1024 e) (h : Fin 8) : Vec F S128x128 e :=
  View.readAt (Elt F) a.view (colRect h).toLoadRect (ha.unread x)

/-- One head's state, as the kernel loads it. -/
abbrev lds (a : Memref sig .tc .vmem S8x128x128 .f32) (ha : a.IsWhole) (x : Vec F S8x128x128 .f32) (h : Fin 8) : Vec F S1x128x128 .f32 :=
  View.readAt (Elt F) a.view (slabRect h).toLoadRect (ha.unread x)

/-- One head's columns of a block. -/
def col {α : Type} (x : S128x1024.Idx → α) (h : Fin 8) : S128x128.Idx → α := fun y => x ((colRect h).emb y)

/-- One head's state. -/
def slab {α : Type} (x : S8x128x128.Idx → α) (h : Fin 8) : S1x128x128.Idx → α := fun y => x ((slabRect h).emb y)

/-- What a load of a head's columns reads. -/
theorem ldb_eq {e : EltTy} (a : Memref sig .tc .vmem S128x1024 e) (ha : a.IsWhole) (x : Vec F S128x1024 e) : ldb a ha x = col x := by
  funext h y
  show a.view.read (Elt F) (ha.unread x) ((colRect h).emb y) = _
  rw [ha.read_unread]
  rfl

/-- What a load of a head's state reads. -/
theorem lds_eq (a : Memref sig .tc .vmem S8x128x128 .f32) (ha : a.IsWhole) (x : Vec F S8x128x128 .f32) : lds a ha x = slab x := by
  funext h y
  show a.view.read (Elt F) (ha.unread x) ((slabRect h).emb y) = _
  rw [ha.read_unread]
  rfl

/-- The gain row, as the kernel loads it. -/
theorem ldn_eq (a : Memref sig .tc .vmem S1x128 .f32) (ha : a.IsWhole) (x : Vec F S1x128 .f32) :
    View.readAt (Elt F) a.view (Rect.unit ![0, 0] S1x128.size inb_S1x128_S1x128_0_0).toLoadRect (ha.unread x) = x := by
  funext y
  show a.view.read (Elt F) (ha.unread x) ((Rect.unit ![0, 0] S1x128.size inb_S1x128_S1x128_0_0).emb y) = _
  rw [ha.read_unread]
  congr 1
  funext a
  apply Fin.ext
  rw [Rect.emb_apply]
  fin_cases a <;> simp

section Heads

variable (l1 l2 l3 l4 l5 l6 l7 : Fin 8 → FVec F S128x128 .bf16) (l8 l9 : Fin 8 → FVec F S128x128 .f32) (nw : FVec F S1x128 .f32)
  (s : Fin 8 → FVec F S1x128x128 .f32)

/-- The state each head leaves. -/
def stF (h : Fin 8) : FVec F S1x128x128 .f32 := hState (l1 h) (l2 h) (l3 h) (l4 h) (l5 h) (l6 h) (l7 h) (l8 h) (s h)

/-- What each head writes. -/
def outF (h : Fin 8) : FVec F S128x128 .bf16 := hOut (l1 h) (l2 h) (l3 h) (l4 h) (l5 h) (l6 h) (l7 h) (l8 h) (l9 h) nw (s h)

end Heads

/-- The eight heads' states, stored one by one, newest first. -/
def stPieces (v : Fin 8 → FVec F S1x128x128 .f32) : List (View.Piece (Elt F) S8x128x128 .f32) :=
  [⟨slabRect 7, v 7⟩, ⟨slabRect 6, v 6⟩, ⟨slabRect 5, v 5⟩, ⟨slabRect 4, v 4⟩, ⟨slabRect 3, v 3⟩, ⟨slabRect 2, v 2⟩, ⟨slabRect 1, v 1⟩, ⟨slabRect 0, v 0⟩]

/-- The eight heads' results, stored one by one, newest first. -/
def outPieces (v : Fin 8 → FVec F S128x128 .bf16) : List (View.Piece (Elt F) S128x1024 .bf16) :=
  [⟨colRect 7, v 7⟩, ⟨colRect 6, v 6⟩, ⟨colRect 5, v 5⟩, ⟨colRect 4, v 4⟩, ⟨colRect 3, v 3⟩, ⟨colRect 2, v 2⟩, ⟨colRect 1, v 1⟩, ⟨colRect 0, v 0⟩]

/-- What the first block stores into the states: zero, then the heads, each reading what lies there by then. -/
def zPieces (a : Memref sig .tc .vmem S8x128x128 .f32) (v : Fin 8 → FVec F S1x128x128 .f32 → FVec F S1x128x128 .f32) :
    ℕ → List (View.Piece (Elt F) S8x128x128 .f32)
  | 0 => [⟨Rect.unit ![0, 0, 0] S8x128x128.size inb_S8x128x128_S8x128x128_0_0_0, k0_pay2⟩]
  | n + 1 => if h : n < 8 then ⟨slabRect ⟨n, h⟩, v ⟨n, h⟩ (a.view.readCov (zPieces a v n) (slabRect ⟨n, h⟩).toLoadRect)⟩ :: zPieces a v n
    else zPieces a v n

/-- What the kernel stores into the carried states, piece by piece. -/
theorem piecesB (c : Dev nD) (i : grid0.Coords) (arg1 : Memref sig .tc .vmem S128x1024 .bf16) (harg1 : arg1.IsWhole) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1x128 .f32) (harg10 : arg10.IsWhole) (arg11 : Memref sig .tc .vmem S128x1024 .bf16) (harg11 : arg11.IsWhole) (arg12 : Memref sig .tc .vmem S8x128x128 .f32) (harg12 : arg12.IsWhole) (hc0 : ¬cond0_0 i)
    (x0 : Vec F S128x1024 .bf16) (x1 : Vec F S128x1024 .bf16) (x2 : Vec F S128x1024 .bf16) (x3 : Vec F S128x1024 .bf16) (x4 : Vec F S128x1024 .bf16) (x5 : Vec F S128x1024 .bf16) (x6 : Vec F S128x1024 .bf16) (x7 : Vec F S128x1024 .f32) (x8 : Vec F S128x1024 .f32) (x9 : Vec F S1x128 .f32) (xs0 : Vec F S8x128x128 .f32) :
    (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xs0).2.1 = stPieces (stF (ldb arg1 harg1 x0) (ldb arg2 harg2 x1) (ldb arg3 harg3 x2) (ldb arg4 harg4 x3) (ldb arg5 harg5 x4) (ldb arg6 harg6 x5) (ldb arg7 harg7 x6) (ldb arg8 harg8 x7) (lds arg12 harg12 xs0)) := by sl_kernel_rfl

/-- What the kernel stores into the block it writes, piece by piece. -/
theorem opiecesB (c : Dev nD) (i : grid0.Coords) (arg1 : Memref sig .tc .vmem S128x1024 .bf16) (harg1 : arg1.IsWhole) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1x128 .f32) (harg10 : arg10.IsWhole) (arg11 : Memref sig .tc .vmem S128x1024 .bf16) (harg11 : arg11.IsWhole) (arg12 : Memref sig .tc .vmem S8x128x128 .f32) (harg12 : arg12.IsWhole) (hc0 : ¬cond0_0 i)
    (x0 : Vec F S128x1024 .bf16) (x1 : Vec F S128x1024 .bf16) (x2 : Vec F S128x1024 .bf16) (x3 : Vec F S128x1024 .bf16) (x4 : Vec F S128x1024 .bf16) (x5 : Vec F S128x1024 .bf16) (x6 : Vec F S128x1024 .bf16) (x7 : Vec F S128x1024 .f32) (x8 : Vec F S128x1024 .f32) (x9 : Vec F S1x128 .f32) (xs0 : Vec F S8x128x128 .f32) :
    (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xs0).1 = outPieces (outF (ldb arg1 harg1 x0) (ldb arg2 harg2 x1) (ldb arg3 harg3 x2) (ldb arg4 harg4 x3) (ldb arg5 harg5 x4) (ldb arg6 harg6 x5) (ldb arg7 harg7 x6) (ldb arg8 harg8 x7) (ldb arg9 harg9 x8) (View.readAt (Elt F) arg10.view (Rect.unit ![0, 0] S1x128.size inb_S1x128_S1x128_0_0).toLoadRect (harg10.unread x9)) (lds arg12 harg12 xs0)) := by sl_kernel_rfl

/-- What the kernel stores into the states at its first block, piece by piece. -/
theorem piecesA (c : Dev nD) (i : grid0.Coords) (arg1 : Memref sig .tc .vmem S128x1024 .bf16) (harg1 : arg1.IsWhole) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1x128 .f32) (harg10 : arg10.IsWhole) (arg11 : Memref sig .tc .vmem S128x1024 .bf16) (harg11 : arg11.IsWhole) (arg12 : Memref sig .tc .vmem S8x128x128 .f32) (harg12 : arg12.IsWhole) (hc0 : cond0_0 i)
    (x0 : Vec F S128x1024 .bf16) (x1 : Vec F S128x1024 .bf16) (x2 : Vec F S128x1024 .bf16) (x3 : Vec F S128x1024 .bf16) (x4 : Vec F S128x1024 .bf16) (x5 : Vec F S128x1024 .bf16) (x6 : Vec F S128x1024 .bf16) (x7 : Vec F S128x1024 .f32) (x8 : Vec F S128x1024 .f32) (x9 : Vec F S1x128 .f32) :
    (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9).2.1 = zPieces arg12 (fun h s => stF (ldb arg1 harg1 x0) (ldb arg2 harg2 x1) (ldb arg3 harg3 x2) (ldb arg4 harg4 x3) (ldb arg5 harg5 x4) (ldb arg6 harg6 x5) (ldb arg7 harg7 x6) (ldb arg8 harg8 x7) (fun _ => s) h) 8 := by sl_kernel_rfl

/-- What the kernel stores into its first block, piece by piece. -/
theorem opiecesA (c : Dev nD) (i : grid0.Coords) (arg1 : Memref sig .tc .vmem S128x1024 .bf16) (harg1 : arg1.IsWhole) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1x128 .f32) (harg10 : arg10.IsWhole) (arg11 : Memref sig .tc .vmem S128x1024 .bf16) (harg11 : arg11.IsWhole) (arg12 : Memref sig .tc .vmem S8x128x128 .f32) (harg12 : arg12.IsWhole) (hc0 : cond0_0 i)
    (x0 : Vec F S128x1024 .bf16) (x1 : Vec F S128x1024 .bf16) (x2 : Vec F S128x1024 .bf16) (x3 : Vec F S128x1024 .bf16) (x4 : Vec F S128x1024 .bf16) (x5 : Vec F S128x1024 .bf16) (x6 : Vec F S128x1024 .bf16) (x7 : Vec F S128x1024 .f32) (x8 : Vec F S128x1024 .f32) (x9 : Vec F S1x128 .f32) :
    (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9).1 = outPieces (outF (ldb arg1 harg1 x0) (ldb arg2 harg2 x1) (ldb arg3 harg3 x2) (ldb arg4 harg4 x3) (ldb arg5 harg5 x4) (ldb arg6 harg6 x5) (ldb arg7 harg7 x6) (ldb arg8 harg8 x7) (ldb arg9 harg9 x8) (View.readAt (Elt F) arg10.view (Rect.unit ![0, 0] S1x128.size inb_S1x128_S1x128_0_0).toLoadRect (harg10.unread x9)) (fun h => arg12.view.readCov (zPieces arg12 (fun h s => stF (ldb arg1 harg1 x0) (ldb arg2 harg2 x1) (ldb arg3 harg3 x2) (ldb arg4 harg4 x3) (ldb arg5 harg5 x4) (ldb arg6 harg6 x5) (ldb arg7 harg7 x6) (ldb arg8 harg8 x7) (fun _ => s) h) h.val) (slabRect h).toLoadRect)) := by sl_kernel_rfl

/-- Where an index of a head's state lies among the states. -/
theorem slab_emb (h : Fin 8) (x : S1x128x128.Idx) (y : S8x128x128.Idx) (h0 : y 0 = h) (h1 : y 1 = x 1) (h2 : y 2 = x 2) :
    (slabRect h).emb x = y := by
  funext a
  apply Fin.ext
  rw [Rect.emb_apply]
  have := (x 0).isLt
  fin_cases a
  · subst h0
    show (y 0).val + 1 * (x 0).val = (y 0).val
    have : (x 0).val < 1 := (x 0).isLt
    omega
  · show 0 + 1 * (x 1).val = (y 1).val
    rw [h1]
    omega
  · show 0 + 1 * (x 2).val = (y 2).val
    rw [h2]
    omega

/-- The head of an index of a head's state. -/
theorem slab_fst (h : Fin 8) (x : S1x128x128.Idx) : ((slabRect h).emb x : S8x128x128.Idx) 0 = h := by
  apply Fin.ext
  rw [Rect.emb_apply]
  have : (x 0).val < 1 := (x 0).isLt
  show h.val + 1 * (x 0).val = h.val
  omega

/-- An index of the states inside its head's. -/
abbrev inSlab (y : S8x128x128.Idx) : S1x128x128.Idx := ix3 (0 : Fin 1) (y 1) (y 2)

/-- Each index of the states lies in its head's state. -/
theorem slab_in (y : S8x128x128.Idx) : (slabRect (y 0)).emb (inSlab y) = y := slab_emb _ _ _ rfl rfl rfl

/-- The place of an index of a head's state inside that state. -/
theorem in_slab (h : Fin 8) (x : S1x128x128.Idx) : inSlab ((slabRect h).emb x) = x := by
  funext a
  have h0 : (x 0).val < 1 := (x 0).isLt
  apply Fin.ext
  fin_cases a
  · show 0 = (x 0).val
    omega
  · show (((slabRect h).emb x : S8x128x128.Idx) 1).val = (x 1).val
    rw [Rect.emb_apply]
    show 0 + 1 * (x 1).val = (x 1).val
    omega
  · show (((slabRect h).emb x : S8x128x128.Idx) 2).val = (x 2).val
    rw [Rect.emb_apply]
    show 0 + 1 * (x 2).val = (x 2).val
    omega

/-- The head of a column of the block. -/
abbrev hd (y : S128x1024.Idx) : Fin 8 := ⟨(y 1).val / 128, by have : (y 1).val < 1024 := (y 1).isLt; omega⟩

/-- A column of the block inside its head's. -/
abbrev inCol (y : S128x1024.Idx) : S128x128.Idx :=
  ix2 (y 0) (⟨(y 1).val % 128, Nat.mod_lt _ (by decide)⟩ : Fin 128)

/-- Each index of a block lies in its head's columns. -/
theorem col_in (y : S128x1024.Idx) : (colRect (hd y)).emb (inCol y) = y := by
  funext a
  apply Fin.ext
  rw [Rect.emb_apply]
  fin_cases a
  · show 0 + 1 * (y 0).val = (y 0).val
    omega
  · show 128 * ((y 1).val / 128) + 1 * ((y 1).val % 128) = (y 1).val
    omega

/-- The head of an index of a head's columns. -/
theorem hd_col (h : Fin 8) (x : S128x128.Idx) : hd ((colRect h).emb x) = h := by
  apply Fin.ext
  have h1 : (x 1).val < 128 := (x 1).isLt
  show (((colRect h).emb x : S128x1024.Idx) 1).val / 128 = h.val
  rw [Rect.emb_apply]
  show (128 * h.val + 1 * (x 1).val) / 128 = h.val
  omega

/-- The place of an index of a head's columns inside them. -/
theorem in_col (h : Fin 8) (x : S128x128.Idx) : inCol ((colRect h).emb x) = x := by
  funext a
  have h1 : (x 1).val < 128 := (x 1).isLt
  apply Fin.ext
  fin_cases a
  · show (((colRect h).emb x : S128x1024.Idx) 0).val = (x 0).val
    rw [Rect.emb_apply]
    show 0 + 1 * (x 0).val = (x 0).val
    omega
  · show (((colRect h).emb x : S128x1024.Idx) 1).val % 128 = (x 1).val
    rw [Rect.emb_apply]
    show (128 * h.val + 1 * (x 1).val) % 128 = (x 1).val
    omega

/-- The eight heads' states together. -/
def stAll {α : Type} (v : Fin 8 → S1x128x128.Idx → α) : S8x128x128.Idx → α := fun y => v (y 0) (inSlab y)

/-- The eight heads' results together. -/
def outAll {α : Type} (v : Fin 8 → S128x128.Idx → α) : S128x1024.Idx → α := fun y => v (hd y) (inCol y)

/-- A head's state, read from the states together. -/
theorem stAll_emb {α : Type} (v : Fin 8 → S1x128x128.Idx → α) (h : Fin 8) (x : S1x128x128.Idx) : v h x = stAll v ((slabRect h).emb x) := by
  unfold stAll
  rw [in_slab, slab_fst]

/-- A head's result, read from the results together. -/
theorem outAll_emb {α : Type} (v : Fin 8 → S128x128.Idx → α) (h : Fin 8) (x : S128x128.Idx) : v h x = outAll v ((colRect h).emb x) := by
  unfold outAll
  rw [in_col, hd_col]

/-- One by one, the eight stores are the eight states together. -/
theorem stPieces_at (v : Fin 8 → FVec F S1x128x128 .f32) : ∀ p ∈ stPieces v, ∀ x : p.1.shape.Idx, p.2 x = stAll v (p.1.emb x) := by
  intro p hp x
  simp only [stPieces, List.mem_cons, List.not_mem_nil, or_false] at hp
  rcases hp with rfl | rfl | rfl | rfl | rfl | rfl | rfl | rfl <;> exact stAll_emb v _ x

/-- One by one, the eight stores are the eight results together. -/
theorem outPieces_at (v : Fin 8 → FVec F S128x128 .bf16) : ∀ p ∈ outPieces v, ∀ x : p.1.shape.Idx, p.2 x = outAll v (p.1.emb x) := by
  intro p hp x
  simp only [outPieces, List.mem_cons, List.not_mem_nil, or_false] at hp
  rcases hp with rfl | rfl | rfl | rfl | rfl | rfl | rfl | rfl <;> exact outAll_emb v _ x

section First

variable (a : Memref sig .tc .vmem S8x128x128 .f32) (v : Fin 8 → FVec F S1x128x128 .f32 → FVec F S1x128x128 .f32)

/-- The states that no head has stored yet are zero. -/
theorem zPieces_ge (n : ℕ) (hn : n ≤ 8) (y : S8x128x128.Idx) (hy : n ≤ (y 0).val) : View.canon (zPieces a v n) y = (k0_pay2 : FVec F S8x128x128 .f32) y := by
  induction n with
  | zero =>
    unfold zPieces
    rw [View.canon_cons_unit_zero (by funext i; fin_cases i <;> rfl)]
  | succ n ih =>
    unfold zPieces
    rw [dif_pos (show n < 8 by omega), View.canon_cons_of_not_mem _ _ (fun hm => ?_), ih (by omega) (by omega)]
    obtain ⟨x, hx⟩ := (slabRect ⟨n, by omega⟩).exists_idx_of_mem hm
    have := slab_fst ⟨n, by omega⟩ x
    rw [show (slabRect ⟨n, by omega⟩).emb x = y from hx] at this
    rw [this] at hy
    simp at hy

/-- So each head reads zero. -/
theorem zPieces_read (h : Fin 8) : a.view.readCov (zPieces a v h.val) (slabRect h).toLoadRect = slab (k0_pay2 : FVec F S8x128x128 .f32) h := by
  rw [View.readCov_eq_canon']
  funext x
  have := slab_fst h x
  exact zPieces_ge a v h.val (by omega) _ (by
    show h.val ≤ (((slabRect h).emb x : S8x128x128.Idx) 0).val
    rw [this])

/-- What the first block leaves in the states. -/
theorem zPieces_lt (n : ℕ) (hn : n ≤ 8) (y : S8x128x128.Idx) (hy : (y 0).val < n) :
    View.canon (zPieces a v n) y = stAll (fun h => v h (slab (k0_pay2 : FVec F S8x128x128 .f32) h)) y := by
  induction n with
  | zero => omega
  | succ n ih =>
    have hn' : n < 8 := by omega
    unfold zPieces
    rw [dif_pos hn']
    by_cases he : (y 0).val = n
    · have e0 : y 0 = (⟨n, hn'⟩ : Fin 8) := Fin.ext he
      have e : (slabRect ⟨n, hn'⟩).emb (inSlab y) = y := slab_emb _ _ _ e0 rfl rfl
      conv_lhs => rw [← e]
      rw [View.canon_cons_emb, zPieces_read a v ⟨n, hn'⟩]
      unfold stAll
      rw [e0]
    · rw [View.canon_cons_of_not_mem _ _ (fun hm => ?_), ih (by omega) (by omega)]
      obtain ⟨x, hx⟩ := (slabRect ⟨n, hn'⟩).exists_idx_of_mem hm
      have := slab_fst ⟨n, hn'⟩ x
      rw [show (slabRect ⟨n, hn'⟩).emb x = y from hx] at this
      exact he (by rw [this])

end First

/-- What a later block leaves in the states. -/
theorem soutB_eq (c : Dev nD) (i : grid0.Coords) (arg1 : Memref sig .tc .vmem S128x1024 .bf16) (harg1 : arg1.IsWhole) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1x128 .f32) (harg10 : arg10.IsWhole) (arg11 : Memref sig .tc .vmem S128x1024 .bf16) (harg11 : arg11.IsWhole) (arg12 : Memref sig .tc .vmem S8x128x128 .f32) (harg12 : arg12.IsWhole) (hc0 : ¬cond0_0 i)
    (x0 : Vec F S128x1024 .bf16) (x1 : Vec F S128x1024 .bf16) (x2 : Vec F S128x1024 .bf16) (x3 : Vec F S128x1024 .bf16) (x4 : Vec F S128x1024 .bf16) (x5 : Vec F S128x1024 .bf16) (x6 : Vec F S128x1024 .bf16) (x7 : Vec F S128x1024 .f32) (x8 : Vec F S128x1024 .f32) (x9 : Vec F S1x128 .f32) (xs0 : Vec F S8x128x128 .f32) :
    sout0_B_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xs0 = stAll (stF (col x0) (col x1) (col x2) (col x3) (col x4) (col x5) (col x6) (col x7) (slab xs0)) := by
  funext y
  unfold sout0_B_0
  rw [View.read_writes_apply_of_pieces _ _ (stAll (stF (ldb arg1 harg1 x0) (ldb arg2 harg2 x1) (ldb arg3 harg3 x2) (ldb arg4 harg4 x3) (ldb arg5 harg5 x4) (ldb arg6 harg6 x5) (ldb arg7 harg7 x6) (ldb arg8 harg8 x7) (lds arg12 harg12 xs0))) _ (by rw [piecesB]; exact stPieces_at _) y
    (scover0_B_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xs0 y)]
  simp only [ldb_eq, lds_eq]

/-- What a later block writes. -/
theorem outB_eq (c : Dev nD) (i : grid0.Coords) (arg1 : Memref sig .tc .vmem S128x1024 .bf16) (harg1 : arg1.IsWhole) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1x128 .f32) (harg10 : arg10.IsWhole) (arg11 : Memref sig .tc .vmem S128x1024 .bf16) (harg11 : arg11.IsWhole) (arg12 : Memref sig .tc .vmem S8x128x128 .f32) (harg12 : arg12.IsWhole) (hc0 : ¬cond0_0 i)
    (x0 : Vec F S128x1024 .bf16) (x1 : Vec F S128x1024 .bf16) (x2 : Vec F S128x1024 .bf16) (x3 : Vec F S128x1024 .bf16) (x4 : Vec F S128x1024 .bf16) (x5 : Vec F S128x1024 .bf16) (x6 : Vec F S128x1024 .bf16) (x7 : Vec F S128x1024 .f32) (x8 : Vec F S128x1024 .f32) (x9 : Vec F S1x128 .f32) (xs0 : Vec F S8x128x128 .f32) :
    out0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xs0 = outAll (outF (col x0) (col x1) (col x2) (col x3) (col x4) (col x5) (col x6) (col x7) (col x8) x9 (slab xs0)) := by
  funext y
  unfold out0_B_10
  rw [View.read_writes_apply_of_pieces _ _ (outAll (outF (ldb arg1 harg1 x0) (ldb arg2 harg2 x1) (ldb arg3 harg3 x2) (ldb arg4 harg4 x3) (ldb arg5 harg5 x4) (ldb arg6 harg6 x5) (ldb arg7 harg7 x6) (ldb arg8 harg8 x7) (ldb arg9 harg9 x8) (View.readAt (Elt F) arg10.view (Rect.unit ![0, 0] S1x128.size inb_S1x128_S1x128_0_0).toLoadRect (harg10.unread x9)) (lds arg12 harg12 xs0))) _ (by rw [opiecesB]; exact outPieces_at _) y
    (cover0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xs0 y)]
  simp only [ldb_eq, lds_eq]
  rw [ldn_eq]

/-- What the first block leaves in the states. -/
theorem soutA_eq (c : Dev nD) (i : grid0.Coords) (arg1 : Memref sig .tc .vmem S128x1024 .bf16) (harg1 : arg1.IsWhole) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1x128 .f32) (harg10 : arg10.IsWhole) (arg11 : Memref sig .tc .vmem S128x1024 .bf16) (harg11 : arg11.IsWhole) (arg12 : Memref sig .tc .vmem S8x128x128 .f32) (harg12 : arg12.IsWhole) (hc0 : cond0_0 i)
    (x0 : Vec F S128x1024 .bf16) (x1 : Vec F S128x1024 .bf16) (x2 : Vec F S128x1024 .bf16) (x3 : Vec F S128x1024 .bf16) (x4 : Vec F S128x1024 .bf16) (x5 : Vec F S128x1024 .bf16) (x6 : Vec F S128x1024 .bf16) (x7 : Vec F S128x1024 .f32) (x8 : Vec F S128x1024 .f32) (x9 : Vec F S1x128 .f32) :
    sout0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 = stAll (stF (col x0) (col x1) (col x2) (col x3) (col x4) (col x5) (col x6) (col x7) (slab k0_pay2)) := by
  funext y
  unfold sout0_A_0
  rw [View.read_writes_eq_canon _ _ _ (fun y => scover0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 y), piecesA, zPieces_lt _ _ 8 le_rfl y (y 0).isLt]
  simp only [ldb_eq]
  rfl

/-- What the first block writes. -/
theorem outA_eq (c : Dev nD) (i : grid0.Coords) (arg1 : Memref sig .tc .vmem S128x1024 .bf16) (harg1 : arg1.IsWhole) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1x128 .f32) (harg10 : arg10.IsWhole) (arg11 : Memref sig .tc .vmem S128x1024 .bf16) (harg11 : arg11.IsWhole) (arg12 : Memref sig .tc .vmem S8x128x128 .f32) (harg12 : arg12.IsWhole) (hc0 : cond0_0 i)
    (x0 : Vec F S128x1024 .bf16) (x1 : Vec F S128x1024 .bf16) (x2 : Vec F S128x1024 .bf16) (x3 : Vec F S128x1024 .bf16) (x4 : Vec F S128x1024 .bf16) (x5 : Vec F S128x1024 .bf16) (x6 : Vec F S128x1024 .bf16) (x7 : Vec F S128x1024 .f32) (x8 : Vec F S128x1024 .f32) (x9 : Vec F S1x128 .f32) :
    out0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 = outAll (outF (col x0) (col x1) (col x2) (col x3) (col x4) (col x5) (col x6) (col x7) (col x8) x9 (slab k0_pay2)) := by
  funext y
  unfold out0_A_10
  rw [View.read_writes_apply_of_pieces _ _ (outAll (outF (ldb arg1 harg1 x0) (ldb arg2 harg2 x1) (ldb arg3 harg3 x2) (ldb arg4 harg4 x3) (ldb arg5 harg5 x4) (ldb arg6 harg6 x5) (ldb arg7 harg7 x6) (ldb arg8 harg8 x7) (ldb arg9 harg9 x8) (View.readAt (Elt F) arg10.view (Rect.unit ![0, 0] S1x128.size inb_S1x128_S1x128_0_0).toLoadRect (harg10.unread x9)) (slab k0_pay2))) _ (by
      rw [opiecesA]
      simp only [zPieces_read]
      exact outPieces_at _) y
    (cover0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 y)]
  simp only [ldb_eq]
  rw [ldn_eq]

end GdnProof

end
-- ==== Proof.GdnHead.lean ====
module

public import proofs.«01_k».proof.Proof.GdnSpec
public import proofs.«01_k».proof.Proof.GdnPay
public import Idealize.ShloMosaic.Lib.Pointwise

/-! What the kernel's stages for one head and two chunks leave in each element. -/

@[expose] public section

set_option maxRecDepth 16384

noncomputable section

open scoped BigOperators

namespace GdnProof

open Cert.GdnIdeal Cert.GdnIdeal.Gen Idealize.ShloMosaic

/-- The row of a block that holds row `i` of its chunk `b`. -/
def row (b : Fin 2) (i : Fin 64) : Fin 128 := ⟨b.val * 64 + i.val, by omega⟩

/-- The chunk a row of the block lies in, as the kernel counts it. -/
def chunkNo (r : Fin 128) : BitVec 32 :=
  Scalar.select
    (IntOp.andi
      (IntOp.cmpi .ne
        (IntOp.subi (BitVec.setWidth 32 (IntOp.cmpi .sgt (BitVec.ofNat 32 r.val) 0#32))
          (BitVec.setWidth 32 (IntOp.cmpi .slt (BitVec.ofNat 32 r.val) 0#32)))
        (Scalar.subi (Scalar.extui (Scalar.cmpi .sgt 64#32 0#32)) (Scalar.extui (Scalar.cmpi .slt 64#32 0#32))))
      (IntOp.cmpi .ne (IntOp.remsi .vector (BitVec.ofNat 32 r.val) 64#32) 0#32))
    (IntOp.subi (IntOp.divsi .vector (BitVec.ofNat 32 r.val) 64#32) 1#32)
    (IntOp.divsi .vector (BitVec.ofNat 32 r.val) 64#32)

/-- The kernel's count is the quotient by the chunk's length. -/
theorem chunkNo_row (b : Fin 2) (i : Fin 64) : chunkNo (row b i) = BitVec.ofNat 32 b.val := by
  revert b i; decide +kernel

/-- Equal chunk counts. -/
theorem chunk_eq (b b' : Fin 2) : IntOp.cmpi .eq (BitVec.ofNat 32 b.val) (BitVec.ofNat 32 b'.val) = if b = b' then 1#1 else 0#1 := by
  revert b b'; decide +kernel

/-- Rows in order. -/
theorem row_sgt (b : Fin 2) (i j : Fin 64) :
    IntOp.cmpi .sgt (BitVec.ofNat 32 (row b i).val) (BitVec.ofNat 32 (row b j).val) = if j < i then 1#1 else 0#1 := by
  revert b i j; decide +kernel

/-- Rows in order or the same. -/
theorem row_sge (b : Fin 2) (i j : Fin 64) :
    IntOp.cmpi .sge (BitVec.ofNat 32 (row b i).val) (BitVec.ofNat 32 (row b j).val) = if j ≤ i then 1#1 else 0#1 := by
  revert b i j; decide +kernel

/-- The mask of the earlier rows of the same chunk. -/
theorem mask_lt (b b' : Fin 2) (i j : Fin 64) :
    k0_pay9 rowNo colNo k0_pay3 (64#32) k0_pay4 k0_pay5 k0_pay6 (ix2 (row b i) (row b' j)) = if b = b' ∧ j < i then 1#1 else 0#1 := by
  have e : k0_pay9 rowNo colNo k0_pay3 (64#32) k0_pay4 k0_pay5 k0_pay6 (ix2 (row b i) (row b' j)) =
      IntOp.andi (IntOp.cmpi .eq (chunkNo (row b i)) (chunkNo (row b' j)))
        (IntOp.cmpi .sgt (BitVec.ofNat 32 (row b i).val) (BitVec.ofNat 32 (row b' j).val)) := by
    pointwise [k0_pay9, k0_pay7, k0_pay4, k0_pay5, k0_pay6, k0_pay3, rowNo, colNo, chunkNo]
  rw [e, chunkNo_row, chunkNo_row, chunk_eq]
  by_cases h : b = b'
  · subst h
    rw [row_sgt]
    by_cases h' : j < i <;> simp [h', IntOp.andi]
  · simp [h, IntOp.andi]

/-- The mask of the rows of the same chunk up to a row. -/
theorem mask_le (b b' : Fin 2) (i j : Fin 64) :
    k0_pay8 rowNo colNo k0_pay3 (64#32) k0_pay4 k0_pay5 k0_pay6 (ix2 (row b i) (row b' j)) = if b = b' ∧ j ≤ i then 1#1 else 0#1 := by
  have e : k0_pay8 rowNo colNo k0_pay3 (64#32) k0_pay4 k0_pay5 k0_pay6 (ix2 (row b i) (row b' j)) =
      IntOp.andi (IntOp.cmpi .eq (chunkNo (row b i)) (chunkNo (row b' j)))
        (IntOp.cmpi .sge (BitVec.ofNat 32 (row b i).val) (BitVec.ofNat 32 (row b' j).val)) := by
    pointwise [k0_pay8, k0_pay7, k0_pay4, k0_pay5, k0_pay6, k0_pay3, rowNo, colNo, chunkNo]
  rw [e, chunkNo_row, chunkNo_row, chunk_eq]
  by_cases h : b = b'
  · subst h
    rw [row_sge]
    by_cases h' : j ≤ i <;> simp [h', IntOp.andi]
  · simp [h, IntOp.andi]

/-- A selection by a decided word. -/
theorem select_if {α : Type} (p : Prop) [Decidable p] (x y : α) : Scalar.select (if p then 1#1 else 0#1) x y = if p then x else y := by
  split <;> rfl

variable (q k kb vb kbe qd kt : FVec Ideal S128x128 .bf16) (g : FVec Ideal S128x128 .f32)

/-- What a head reads of chunk `b` of its block. -/
def pair (b : Fin 2) : Chunk where
  q := fun i d => q (ix2 (row b i) d)
  k := fun i d => k (ix2 (row b i) d)
  kb := fun i d => kb (ix2 (row b i) d)
  vb := fun i d => vb (ix2 (row b i) d)
  kbe := fun i d => kbe (ix2 (row b i) d)
  qd := fun i d => qd (ix2 (row b i) d)
  kt := fun i d => kt (ix2 (row b i) d)
  g := fun i => g (ix2 (row b i) 0)

/-- The decays stand the same in every column. -/
def Flat : Prop := ∀ r l, g (ix2 r l) = g (ix2 r 0)

/-- The block's system holds each chunk's system and couples no two chunks. -/
theorem sys_at (hg : Flat g) (b b' : Fin 2) (i j : Fin 64) :
    hSys k kb q g (ix2 (row b i) (row b' j)) = if b = b' then (pair q k kb vb kbe qd kt g b).sys i j else 0 := by
  pointwise [hSys, k0_pay14, k0_pay13, k0_pay12, k0_pay11]
  rw [mask_lt, mask_le, select_if, select_if, select_if, hg (row b i), hg (row b' j)]
  by_cases h : b = b'
  · subst h
    by_cases h' : j < i
    · have h2 := le_of_lt h'
      simp only [h', h2, and_self, if_true, Chunk.sys, Chunk.gam]
      rfl
    · simp [h', Chunk.sys]
  · simp [h]

/-- The block's weights of the queries hold each chunk's. -/
theorem att_at (hg : Flat g) (b : Fin 2) (i j : Fin 64) :
    hAtt k kb q g (ix2 (row b i) (row b j)) = (pair q k kb vb kbe qd kt g b).att i j := by
  pointwise [hAtt, k0_pay15, k0_pay13, k0_pay12, k0_pay11]
  rw [mask_le, select_if, select_if, hg (row b i), hg (row b j)]
  by_cases h' : j ≤ i
  · simp only [h', and_self, if_true, Chunk.att, Chunk.gam]
    rfl
  · simp [h', Chunk.att, Chunk.gam]

/-- A sum of reals. -/
theorem coe_sum {ι : Type} (t : Finset ι) (f : ι → ℝ) : ((∑ x ∈ t, f x : ℝ) : EReal) = ∑ x ∈ t, (f x : EReal) := by
  classical
  induction t using Finset.induction_on with
  | empty => simp
  | insert a t ha ih => rw [Finset.sum_insert ha, Finset.sum_insert ha, EReal.coe_add, ih]

/-- A chunk with real keys, gated keys and decays has a real system. -/
theorem real_sys (c : Chunk) (k kb : Fin 64 → Fin 128 → ℝ) (g : Fin 64 → ℝ) (hk : ∀ i d, c.k i d = (k i d : EReal))
    (hkb : ∀ i d, c.kb i d = (kb i d : EReal)) (hg : ∀ i, c.g i = (g i : EReal)) :
    ∃ m : Matrix (Fin 64) (Fin 64) ℝ, ∀ i j, c.sys i j = (m i j : EReal) := by
  refine ⟨fun i j => if j < i then (∑ d, kb i d * k j d) * Real.exp (g i - g j) else 0, fun i j => ?_⟩
  by_cases h : j < i
  · simp only [Chunk.sys, Chunk.gam, h, le_of_lt h, if_true, hk, hkb, hg]
    rw [← EReal.coe_sub, Ideal.exp_coe, EReal.coe_mul, coe_sum]
    simp only [EReal.coe_mul]
  · simp only [Chunk.sys, h, if_false, EReal.coe_zero]

/-- Over the reals the repeated substitution is a matrix's. -/
theorem real_sol {κ : Type} (c : Chunk) (m : Matrix (Fin 64) (Fin 64) ℝ) (hm : ∀ i j, c.sys i j = (m i j : EReal))
    (r : Fin 64 → κ → EReal) (ρ : Matrix (Fin 64) κ ℝ) (hr : ∀ i d, r i d = (ρ i d : EReal)) (n : ℕ) (i : Fin 64) (d : κ) :
    c.sol r n i d = (subst m ρ n i d : EReal) := by
  induction n generalizing i with
  | zero => exact hr i d
  | succ n ih =>
    show r i d - ∑ j, c.sys i j * c.sol r n j d = ((ρ i d - (m * subst m ρ n) i d : ℝ) : EReal)
    rw [EReal.coe_sub, Matrix.mul_apply, coe_sum, hr]
    simp only [EReal.coe_mul, hm, ih]

/-- A block of real entries. -/
def Lift {n : ℕ} (x : Fin 128 → Fin n → EReal) (m : Matrix (Fin 128) (Fin n) ℝ) : Prop := ∀ i j, x i j = (m i j : EReal)

/-- The product of two blocks, as the kernel takes it. -/
def mm (x y : FVec Ideal S128x128 .f32) : FVec Ideal S128x128 .f32 :=
  matmul dot_S128x128_S128x128_S128x128_1_0_0_1_n_n none (truncf .bf16 x bitsLt_bf16_f32) (truncf .bf16 y bitsLt_bf16_f32) (constant S128x128 .f32 0x00000000#32)

/-- The powers of the system that the kernel takes. -/
def pows (x : FVec Ideal S128x128 .f32) : ℕ → FVec Ideal S128x128 .f32
  | 0 => x
  | n + 1 => mm (pows x n) (pows x n)

/-- The partial sums of powers that the kernel takes. -/
def sums (x : FVec Ideal S128x128 .f32) : ℕ → FVec Ideal S128x128 .f32
  | 0 => subf k0_pay16 x
  | n + 1 => addf (sums x n) (mm (sums x n) (pows x (n + 1)))

/-- The two right-hand sides side by side. -/
def both : FVec Ideal S128x256 .bf16 :=
  concatenate S128x256 1 [⟨S128x128, vb⟩, ⟨S128x128, kbe⟩] concatenates_S128x128_S128x128_S128x256_d1

/-- The kernel's solution by its powers and sums. -/
theorem sol_stages (x : FVec Ideal S128x128 .f32) :
    k0_pay18 x k0_pay16 (subf k0_pay16 x) vb kbe =
      addf (extf .f32 (both vb kbe) bitsLt_bf16_f32)
        (matmul dot_S128x128_S128x256_S128x256_1_0_0_1_n_n none (truncf .bf16 (subf (sums x 5) k0_pay16) bitsLt_bf16_f32) (both vb kbe) (constant S128x256 .f32 0x00000000#32)) := by
  rfl

/-- A block by its entries. -/
abbrev ent (x : FVec Ideal S128x128 .f32) : Fin 128 → Fin 128 → EReal := fun i j => x (ix2 i j)

/-- The kernel's product of two real matrices is their product. -/
theorem lift_mm (x y : FVec Ideal S128x128 .f32) (m n : Matrix (Fin 128) (Fin 128) ℝ) (hx : Lift (ent x) m) (hy : Lift (ent y) n) :
    Lift (ent (mm x y)) (m * n) := by
  intro i j
  show mm x y (ix2 i j) = _
  have hx' : ∀ i j, x (ix2 i j) = (m i j : EReal) := hx
  have hy' : ∀ i j, y (ix2 i j) = (n i j : EReal) := hy
  rw [Matrix.mul_apply, coe_sum]
  pointwise [mm]
  simp only [hx', hy', EReal.coe_mul]

/-- The kernel's one block is the identity. -/
theorem lift_one : Lift (ent k0_pay16) 1 := by
  intro i j
  show k0_pay16 (F := Ideal) (ix2 i j) = _
  have hc : ∀ i j : Fin 128, IntOp.cmpi .eq (BitVec.ofNat 32 i.val) (BitVec.ofNat 32 j.val) = if i = j then 1#1 else 0#1 := by
    decide +kernel
  rw [Matrix.one_apply]
  pointwise [k0_pay16]
  rw [hc, select_if]
  split <;> simp

/-- The kernel's repeated squares of a real matrix are its powers. -/
theorem lift_pows (x : FVec Ideal S128x128 .f32) (m : Matrix (Fin 128) (Fin 128) ℝ) (hx : Lift (ent x) m) (n : ℕ) :
    Lift (ent (pows x n)) (doubled m n).2 := by
  induction n with
  | zero => exact hx
  | succ n ih => exact lift_mm _ _ _ _ ih ih

/-- The kernel's running products are the sums of powers. -/
theorem lift_sums (x : FVec Ideal S128x128 .f32) (m : Matrix (Fin 128) (Fin 128) ℝ) (hx : Lift (ent x) m) (n : ℕ) :
    Lift (ent (sums x n)) (doubled m n).1 := by
  induction n with
  | zero =>
    intro i j
    show k0_pay16 (F := Ideal) (ix2 i j) - x (ix2 i j) = _
    exact (congrArg₂ (· - ·) (lift_one i j) (hx i j)).trans (EReal.coe_sub _ _).symm
  | succ n ih =>
    intro i j
    have h := lift_mm _ _ _ _ ih (lift_pows x m hx (n + 1))
    exact (congrArg₂ (· + ·) (ih i j) (h i j)).trans (EReal.coe_add _ _).symm

/-- The kernel's solution, over the reals, is the sixty-third substitution. -/
theorem lift_sol (x : FVec Ideal S128x128 .f32) (m : Matrix (Fin 128) (Fin 128) ℝ) (hx : Lift (ent x) m) (ρ : Matrix (Fin 128) (Fin 256) ℝ)
    (hr : ∀ i d, both vb kbe (ix2 i d) = (ρ i d : EReal)) (i : Fin 128) (d : Fin 256) :
    k0_pay18 x k0_pay16 (subf k0_pay16 x) vb kbe (ix2 i d) = (subst m ρ 63 i d : EReal) := by
  have h5 : ∀ i j, sums x 5 (ix2 i j) = ((doubled m 5).1 i j : EReal) := lift_sums x m hx 5
  have h1 : ∀ i j, k0_pay16 (F := Ideal) (ix2 i j) = ((1 : Matrix (Fin 128) (Fin 128) ℝ) i j : EReal) := lift_one
  have e : subst m ρ 63 i d = ρ i d + (((doubled m 5).1 - 1) * ρ : Matrix (Fin 128) (Fin 256) ℝ) i d := by
    rw [← doubled_subst, Matrix.sub_mul, Matrix.one_mul, Matrix.sub_apply]
    ring
  rw [e, sol_stages, EReal.coe_add, Matrix.mul_apply, coe_sum]
  pointwise []
  simp only [hr, h5, h1, Matrix.sub_apply, EReal.coe_mul, EReal.coe_sub]

/-- A sum over a block's rows, chunk by chunk. -/
theorem sum_rows {α : Type} [AddCommMonoid α] (f : Fin 128 → α) : ∑ r, f r = ∑ j, f (row 0 j) + ∑ j, f (row 1 j) := by
  rw [← Fin.sum_univ_two (f := fun b => ∑ j, f (row b j))]
  exact Fin.sum_univ_tiles 2 64 rfl f

/-- Every row of a block lies in one of its chunks. -/
theorem row_surj (r : Fin 128) : ∃ b i, r = row b i :=
  ⟨⟨r.val / 64, by omega⟩, ⟨r.val % 64, by omega⟩, Fin.ext (by show r.val = r.val / 64 * 64 + r.val % 64; omega)⟩

/-- The operands of a head are real. -/
structure RealOps : Prop where
  k : ∀ i, ∃ r : ℝ, k i = (r : EReal)
  kb : ∀ i, ∃ r : ℝ, kb i = (r : EReal)
  vb : ∀ i, ∃ r : ℝ, vb i = (r : EReal)
  kbe : ∀ i, ∃ r : ℝ, kbe i = (r : EReal)
  g : ∀ i, ∃ r : ℝ, g i = (r : EReal)

/-- The first right-hand side. -/
theorem both_fst (i : Fin 128) (d : Fin 128) : both vb kbe (ix2 i ⟨d.val, by omega⟩) = vb (ix2 i d) := by
  have hd : d.val < 128 := d.isLt
  pointwise [both]

/-- The second right-hand side. -/
theorem both_snd (i : Fin 128) (d : Fin 128) : both vb kbe (ix2 i ⟨128 + d.val, by omega⟩) = kbe (ix2 i d) := by
  have hd : ¬ 128 + d.val < 128 := by omega
  pointwise [both]

/-- The kernel's solution is each chunk's repeated substitution. -/
theorem sol_at (hg : Flat g) (hr : RealOps k kb vb kbe g) (b : Fin 2) (i : Fin 64) (d : Fin 256) :
    hSol k kb q vb kbe g (ix2 (row b i) d) = (pair q k kb vb kbe qd kt g b).sol (fun i d => both vb kbe (ix2 (row b i) d)) 63 i d := by
  have hb : ∀ (i : Fin 128) (d : Fin 256), ∃ r : ℝ, both vb kbe (ix2 i d) = (r : EReal) := by
    intro i d
    by_cases h : d.val < 128
    · obtain ⟨r, e⟩ := hr.vb (ix2 i ⟨d.val, h⟩)
      exact ⟨r, (both_fst vb kbe i ⟨d.val, h⟩).trans e⟩
    · obtain ⟨r, e⟩ := hr.kbe (ix2 i ⟨d.val - 128, by omega⟩)
      refine ⟨r, ?_⟩
      rw [← e, ← both_snd vb kbe i ⟨d.val - 128, by omega⟩]
      congr 2
      exact Fin.ext (by show d.val = 128 + (d.val - 128); omega)
  choose ρ hρ using hb
  choose kr hk using hr.k
  choose kbr hkb using hr.kb
  choose gr hgr using hr.g
  have hsys := fun b => real_sys (pair q k kb vb kbe qd kt g b) (fun i d => kr (ix2 (row b i) d)) (fun i d => kbr (ix2 (row b i) d))
    (fun i => gr (ix2 (row b i) 0)) (fun _ _ => hk _) (fun _ _ => hkb _) (fun _ => hgr _)
  choose m hm using hsys
  let M : Matrix (Fin 128) (Fin 128) ℝ := fun r l => (hSys k kb q g (ix2 r l)).toReal
  have hM : ∀ b b' i j, hSys k kb q g (ix2 (row b i) (row b' j)) = ((if b = b' then m b i j else 0 : ℝ) : EReal) := by
    intro b b' i j
    rw [sys_at q k kb vb kbe qd kt g hg]
    split
    · exact hm b i j
    · rfl
  have hMv : ∀ b b' i j, M (row b i) (row b' j) = if b = b' then m b i j else 0 := by
    intro b b' i j
    show (hSys k kb q g (ix2 (row b i) (row b' j))).toReal = _
    rw [hM]
    exact EReal.toReal_coe _
  have hL : Lift (ent (hSys k kb q g)) M := by
    intro r l
    obtain ⟨b, i, rfl⟩ := row_surj r
    obtain ⟨b', j, rfl⟩ := row_surj l
    rw [hMv]
    exact hM b b' i j
  have hblock : ∀ (i : Fin 64) (f : Fin 128 → ℝ), ∑ j, M (row b i) j * f j = ∑ j, M (row b i) (row b j) * f (row b j) := by
    intro i f
    rw [sum_rows]
    simp only [hMv]
    fin_cases b <;> simp
  rw [real_sol (pair q k kb vb kbe qd kt g b) (m b) (hm b) _ (fun i d => ρ (row b i) d) (fun i d => hρ (row b i) d)]
  refine (lift_sol vb kbe _ M hL ρ hρ (row b i) d).trans (congrArg _ ?_)
  have hsub : M.submatrix (row b) (row b) = m b := by
    funext i j
    exact (hMv b b i j).trans (if_pos rfl)
  rw [subst_block (row b) M ρ hblock, hsub]
  rfl

/-- The first solution. -/
theorem u_at (hg : Flat g) (hr : RealOps k kb vb kbe g) (b : Fin 2) (i : Fin 64) (d : Fin 128) :
    hU k kb q vb kbe g (ix2 (row b i) d) = (pair q k kb vb kbe qd kt g b).u i d := by
  pointwise [hU]
  refine (sol_at q k kb vb kbe qd kt g hg hr b i _).trans (((pair q k kb vb kbe qd kt g b).sol_col _ (fun d : Fin 128 => (⟨d.val, by omega⟩ : Fin 256)) 63 i d).trans ?_)
  simp only [both_fst]
  rfl

/-- The second solution. -/
theorem w_at (hg : Flat g) (hr : RealOps k kb vb kbe g) (b : Fin 2) (i : Fin 64) (d : Fin 128) :
    hW k kb q vb kbe g (ix2 (row b i) d) = (pair q k kb vb kbe qd kt g b).w i d := by
  pointwise [hW]
  refine (sol_at q k kb vb kbe qd kt g hg hr b i _).trans (((pair q k kb vb kbe qd kt g b).sol_col _ (fun d : Fin 128 => (⟨128 + d.val, by omega⟩ : Fin 256)) 63 i d).trans ?_)
  simp only [both_snd]
  rfl

end GdnProof

end
-- ==== Proof.GdnBlock.lean ====
module

public import proofs.«01_k».proof.Proof.GdnHead

/-! What the kernel's step for one head leaves in the state and in the result. -/

@[expose] public section

set_option maxRecDepth 16384

noncomputable section

open scoped BigOperators

namespace GdnProof

open Cert.GdnIdeal Cert.GdnIdeal.Gen Idealize.ShloMosaic

/-- A row of the first chunk. -/
theorem row_fst (i : Fin 64) (h : i.val < 128) : (⟨i.val, h⟩ : Fin 128) = row 0 i := Fin.ext (by simp [row])

/-- A row of the second chunk. -/
theorem row_snd (i : Fin 64) (h : 64 + i.val < 128) : (⟨64 + i.val, h⟩ : Fin 128) = row 1 i := Fin.ext (by simp [row])

/-- The padding of a chunk's values. -/
theorem pad_zero (i : Fin 64) (d : Fin 128) : k0_pay10 (F := Ideal) (ix2 i d) = 0 := by
  pointwise [k0_pay10]

variable (q k kb vb kbe qd kt : FVec Ideal S128x128 .bf16) (g : FVec Ideal S128x128 .f32) (s : FVec Ideal S1x128x128 .f32)
  (hg : Flat g) (hr : RealOps k kb vb kbe g)

/-- The state a head starts its block from. -/
def before (e d : Fin 128) : EReal := s (ix3 0 e d)

/-- The state a head starts the second chunk of its block from. -/
def between : Fin 128 → Fin 128 → EReal := (pair q k kb vb kbe qd kt g 0).next (before s)

include hg hr

/-- The first chunk's values, less what the state holds of them. -/
theorem vnew_fst (i : Fin 64) (d : Fin 128) :
    k0_pay23 (hU k kb q vb kbe g) (hW k kb q vb kbe g) qd s (ix2 i d) = (pair q k kb vb kbe qd kt g 0).vnew (before s) i d := by
  have hi : i.val < 64 := i.isLt
  pointwise [k0_pay23, k0_pay22, k0_pay21]
  simp only [row_fst, u_at q k kb vb kbe qd kt g hg hr, w_at q k kb vb kbe qd kt g hg hr]
  rfl

/-- The first chunk's outputs, before the norm. -/
theorem out_fst (i : Fin 64) (d : Fin 128) :
    k0_pay24 k0_pay10 (hAtt k kb q g) (hU k kb q vb kbe g) (hW k kb q vb kbe g) qd s (ix2 i d) =
      (pair q k kb vb kbe qd kt g 0).out (before s) i d := by
  have hi : ¬ 64 + i.val < 64 := by omega
  have e : k0_pay22 (hW k kb q vb kbe g) qd s (ix2 ⟨64 + i.val, by omega⟩ d) = ∑ x, qd (ix2 (row 0 i) x) * before s x d := by
    pointwise [k0_pay22, k0_pay21]
    simp only [row_fst]
    rfl
  pointwise [k0_pay24]
  simp only [pad_zero, mul_zero, Finset.sum_const_zero, add_zero, vnew_fst q k kb vb kbe qd kt g s hg hr, row_fst,
    att_at q k kb vb kbe qd kt g hg]
  rw [e]
  rfl

/-- The state the kernel holds after the first chunk. -/
theorem next_fst (e d : Fin 128) :
    k0_pay25 (k0_pay11 g) (hU k kb q vb kbe g) (hW k kb q vb kbe g) qd kt s (ix2 e d) = between q k kb vb kbe qd kt g s e d := by
  have h63 : (63 : Fin 128) = row 0 63 := by decide +kernel
  pointwise [k0_pay25, k0_pay21, k0_pay11]
  simp only [vnew_fst q k kb vb kbe qd kt g s hg hr, row_fst]
  rw [h63, hg (row 0 63) d]
  rfl

/-- The second chunk's values, less what the state then holds of them. -/
theorem vnew_snd (i : Fin 64) (d : Fin 128) :
    k0_pay27 (k0_pay11 g) (hU k kb q vb kbe g) (hW k kb q vb kbe g) qd kt s (ix2 i d) =
      (pair q k kb vb kbe qd kt g 1).vnew (between q k kb vb kbe qd kt g s) i d := by
  have hi : i.val < 64 := i.isLt
  pointwise [k0_pay27, k0_pay26]
  simp only [row_snd, u_at q k kb vb kbe qd kt g hg hr, w_at q k kb vb kbe qd kt g hg hr, next_fst q k kb vb kbe qd kt g s hg hr]
  rfl

/-- The second chunk's outputs, before the norm. -/
theorem out_snd (i : Fin 64) (d : Fin 128) :
    k0_pay28 k0_pay10 (k0_pay11 g) (hAtt k kb q g) (hU k kb q vb kbe g) (hW k kb q vb kbe g) qd kt s (ix2 i d) =
      (pair q k kb vb kbe qd kt g 1).out (between q k kb vb kbe qd kt g s) i d := by
  have hi : ¬ 64 + i.val < 64 := by omega
  pointwise [k0_pay28, k0_pay26]
  simp only [pad_zero, mul_zero, Finset.sum_const_zero, zero_add, vnew_snd q k kb vb kbe qd kt g s hg hr, row_snd,
    att_at q k kb vb kbe qd kt g hg, next_fst q k kb vb kbe qd kt g s hg hr]
  rfl

/-- The state a head leaves after its block. -/
theorem state_at (e d : Fin 128) :
    hState q k kb vb kbe qd kt g s (ix3 0 e d) =
      (pair q k kb vb kbe qd kt g 1).next (between q k kb vb kbe qd kt g s) e d := by
  have h127 : (127 : Fin 128) = row 1 63 := by decide +kernel
  unfold hState
  pointwise [k0_pay30, k0_pay29]
  simp only [vnew_snd q k kb vb kbe qd kt g s hg hr, next_fst q k kb vb kbe qd kt g s hg hr, row_snd]
  rw [h127]
  pointwise [k0_pay11]
  rw [hg (row 1 63) d]
  rfl

/-- What a head writes for the first chunk of its block. -/
theorem write_fst (z : FVec Ideal S128x128 .f32) (nw : FVec Ideal S1x128 .f32) (i : Fin 64) (d : Fin 128) :
    hOut q k kb vb kbe qd kt g z nw s (ix2 (row 0 i) d) =
      gate ((pair q k kb vb kbe qd kt g 0).out (before s) i) (nw (ix2 0 d)) (z (ix2 (row 0 i) d)) d := by
  have hi : i.val < 64 := i.isLt
  unfold hOut
  rw [← row_fst i (by omega)]
  pointwise [k0_pay31]
  simp only [out_fst q k kb vb kbe qd kt g s hg hr, zero_sub]
  rfl

/-- What a head writes for the second chunk of its block. -/
theorem write_snd (z : FVec Ideal S128x128 .f32) (nw : FVec Ideal S1x128 .f32) (i : Fin 64) (d : Fin 128) :
    hOut q k kb vb kbe qd kt g z nw s (ix2 (row 1 i) d) =
      gate ((pair q k kb vb kbe qd kt g 1).out (between q k kb vb kbe qd kt g s) i) (nw (ix2 0 d)) (z (ix2 (row 1 i) d)) d := by
  have hi : ¬ 64 + i.val < 64 := by omega
  unfold hOut
  rw [← row_snd i (by omega)]
  pointwise [k0_pay31]
  simp only [out_snd q k kb vb kbe qd kt g s hg hr, zero_sub]
  rfl

end GdnProof

end
-- ==== Proof.GdnValue.lean ====
module

public import proofs.«01_k».proof.Proof.GdnRefValue
public import proofs.«01_k».proof.Proof.GdnBlock
public import proofs.«01_k».proof.Proof.Gen.GdnIdeal.Value
public import Idealize.ShloMosaic.Lib.StableHlo.ReadAt

/-! The recurrence's result array: each point carries the eight states over two chunks and writes the gated outputs. -/

@[expose] public section

set_option maxRecDepth 16384

noncomputable section

open scoped BigOperators

namespace GdnProof

open Cert.GdnIdeal Cert.GdnIdeal.Gen Cert.GdnIdeal.Value Idealize.ShloMosaic Idealize.ShloMosaic.TcCoe Idealize.SL.Sem

variable (m : (ℓ : Loc nD τ sig) → Buf (Elt Ideal) ℓ) (c : Dev nD)

/-- The queries, as launched. -/
abbrev in0 : Vec Ideal S16384x1024 .bf16 := m ((c.tc : Thread nD τ).loc main_arg0)
/-- The keys, as launched. -/
abbrev in1 : Vec Ideal S16384x1024 .bf16 := m ((c.tc : Thread nD τ).loc main_arg1)
/-- The keys times the write strength, as launched. -/
abbrev in2 : Vec Ideal S16384x1024 .bf16 := m ((c.tc : Thread nD τ).loc main_arg2)
/-- The values times the write strength, as launched. -/
abbrev in3 : Vec Ideal S16384x1024 .bf16 := m ((c.tc : Thread nD τ).loc main_arg3)
/-- The decayed keys times the write strength, as launched. -/
abbrev in4 : Vec Ideal S16384x1024 .bf16 := m ((c.tc : Thread nD τ).loc main_arg4)
/-- The decayed queries, as launched. -/
abbrev in5 : Vec Ideal S16384x1024 .bf16 := m ((c.tc : Thread nD τ).loc main_arg5)
/-- The keys decayed to the end of the chunk, as launched. -/
abbrev in6 : Vec Ideal S16384x1024 .bf16 := m ((c.tc : Thread nD τ).loc main_arg6)
/-- The sums of the log decays, as launched. -/
abbrev in7 : Vec Ideal S16384x8 .f32 := m ((c.tc : Thread nD τ).loc main_arg7)
/-- The projection that holds the gate, as launched. -/
abbrev in8 : Vec Ideal S16384x7680 .f32 := m ((c.tc : Thread nD τ).loc main_arg8)
/-- The norm's gain, as launched. -/
abbrev in9 : Vec Ideal S128 .f32 := m ((c.tc : Thread nD τ).loc main_arg9)

/-- The array row of a row of a point's blocks. -/
def rowAt (t : ℕ) (r : Fin 128) : Fin 16384 := ⟨(128 * t + r.val) % 16384, Nat.mod_lt _ (by decide)⟩

/-- The region finds a head's decay sum in each of the head's columns. -/
theorem decay_at (i : Fin 16384) (j : Fin 1024) : V m c main_v2 (ix2 i j) = in7 m c (ix2 i (⟨j.val / 128, by have := j.isLt; omega⟩ : Fin 8)) := by
  unfold V; after_reads_at

/-- The region finds the gain as a row. -/
theorem gain_at (j : Fin 128) : V m c main_v3 (ix2 0 j) = in9 m c (ix1 j) := by
  unfold V; after_reads_at

/-- Window 0 moves with the point. -/
theorem place0 : ∀ t : Fin cfg0.N, win0_0.index t (0 : Fin 2) = t.val ∧ win0_0.index t (1 : Fin 2) = 0 :=
  (by decide +kernel : ∀ t : Fin grid0.N, _)
/-- The block of input 0 at a point. -/
theorem piece0 (t : Fin cfg0.N) (r : Fin 128) (l : Fin 1024) :
    (iblk m c 0 t : Vec Ideal S128x1024 .bf16) (ix2 r l) = in0 m c (ix2 (rowAt t.val r) l) := by
  have hi := place0 t
  have hN : t.val < 128 := lt_of_lt_of_eq t.isLt (show cfg0.N = 128 from N_0)
  refine Eq.trans ?_ (congrFun (V_main_arg0 m c) _)
  unfold iblk
  rw [View.read_apply]
  show V m c main_arg0 _ = V m c main_arg0 _
  congr 1
  funext a
  apply Fin.ext
  match a with
  | ⟨0, _⟩ => show win0_0.index t 0 * 128 + 1 * r.val = (128 * t.val + r.val) % 16384; rw [hi.1]; omega
  | ⟨1, _⟩ => show win0_0.index t 1 * 1024 + 1 * l.val = l.val; rw [hi.2]; omega

/-- Window 1 moves with the point. -/
theorem place1 : ∀ t : Fin cfg0.N, win0_1.index t (0 : Fin 2) = t.val ∧ win0_1.index t (1 : Fin 2) = 0 :=
  (by decide +kernel : ∀ t : Fin grid0.N, _)
/-- The block of input 1 at a point. -/
theorem piece1 (t : Fin cfg0.N) (r : Fin 128) (l : Fin 1024) :
    (iblk m c 1 t : Vec Ideal S128x1024 .bf16) (ix2 r l) = in1 m c (ix2 (rowAt t.val r) l) := by
  have hi := place1 t
  have hN : t.val < 128 := lt_of_lt_of_eq t.isLt (show cfg0.N = 128 from N_0)
  refine Eq.trans ?_ (congrFun (V_main_arg1 m c) _)
  unfold iblk
  rw [View.read_apply]
  show V m c main_arg1 _ = V m c main_arg1 _
  congr 1
  funext a
  apply Fin.ext
  match a with
  | ⟨0, _⟩ => show win0_1.index t 0 * 128 + 1 * r.val = (128 * t.val + r.val) % 16384; rw [hi.1]; omega
  | ⟨1, _⟩ => show win0_1.index t 1 * 1024 + 1 * l.val = l.val; rw [hi.2]; omega

/-- Window 2 moves with the point. -/
theorem place2 : ∀ t : Fin cfg0.N, win0_2.index t (0 : Fin 2) = t.val ∧ win0_2.index t (1 : Fin 2) = 0 :=
  (by decide +kernel : ∀ t : Fin grid0.N, _)
/-- The block of input 2 at a point. -/
theorem piece2 (t : Fin cfg0.N) (r : Fin 128) (l : Fin 1024) :
    (iblk m c 2 t : Vec Ideal S128x1024 .bf16) (ix2 r l) = in2 m c (ix2 (rowAt t.val r) l) := by
  have hi := place2 t
  have hN : t.val < 128 := lt_of_lt_of_eq t.isLt (show cfg0.N = 128 from N_0)
  refine Eq.trans ?_ (congrFun (V_main_arg2 m c) _)
  unfold iblk
  rw [View.read_apply]
  show V m c main_arg2 _ = V m c main_arg2 _
  congr 1
  funext a
  apply Fin.ext
  match a with
  | ⟨0, _⟩ => show win0_2.index t 0 * 128 + 1 * r.val = (128 * t.val + r.val) % 16384; rw [hi.1]; omega
  | ⟨1, _⟩ => show win0_2.index t 1 * 1024 + 1 * l.val = l.val; rw [hi.2]; omega

/-- Window 3 moves with the point. -/
theorem place3 : ∀ t : Fin cfg0.N, win0_3.index t (0 : Fin 2) = t.val ∧ win0_3.index t (1 : Fin 2) = 0 :=
  (by decide +kernel : ∀ t : Fin grid0.N, _)
/-- The block of input 3 at a point. -/
theorem piece3 (t : Fin cfg0.N) (r : Fin 128) (l : Fin 1024) :
    (iblk m c 3 t : Vec Ideal S128x1024 .bf16) (ix2 r l) = in3 m c (ix2 (rowAt t.val r) l) := by
  have hi := place3 t
  have hN : t.val < 128 := lt_of_lt_of_eq t.isLt (show cfg0.N = 128 from N_0)
  refine Eq.trans ?_ (congrFun (V_main_arg3 m c) _)
  unfold iblk
  rw [View.read_apply]
  show V m c main_arg3 _ = V m c main_arg3 _
  congr 1
  funext a
  apply Fin.ext
  match a with
  | ⟨0, _⟩ => show win0_3.index t 0 * 128 + 1 * r.val = (128 * t.val + r.val) % 16384; rw [hi.1]; omega
  | ⟨1, _⟩ => show win0_3.index t 1 * 1024 + 1 * l.val = l.val; rw [hi.2]; omega

/-- Window 4 moves with the point. -/
theorem place4 : ∀ t : Fin cfg0.N, win0_4.index t (0 : Fin 2) = t.val ∧ win0_4.index t (1 : Fin 2) = 0 :=
  (by decide +kernel : ∀ t : Fin grid0.N, _)
/-- The block of input 4 at a point. -/
theorem piece4 (t : Fin cfg0.N) (r : Fin 128) (l : Fin 1024) :
    (iblk m c 4 t : Vec Ideal S128x1024 .bf16) (ix2 r l) = in4 m c (ix2 (rowAt t.val r) l) := by
  have hi := place4 t
  have hN : t.val < 128 := lt_of_lt_of_eq t.isLt (show cfg0.N = 128 from N_0)
  refine Eq.trans ?_ (congrFun (V_main_arg4 m c) _)
  unfold iblk
  rw [View.read_apply]
  show V m c main_arg4 _ = V m c main_arg4 _
  congr 1
  funext a
  apply Fin.ext
  match a with
  | ⟨0, _⟩ => show win0_4.index t 0 * 128 + 1 * r.val = (128 * t.val + r.val) % 16384; rw [hi.1]; omega
  | ⟨1, _⟩ => show win0_4.index t 1 * 1024 + 1 * l.val = l.val; rw [hi.2]; omega

/-- Window 5 moves with the point. -/
theorem place5 : ∀ t : Fin cfg0.N, win0_5.index t (0 : Fin 2) = t.val ∧ win0_5.index t (1 : Fin 2) = 0 :=
  (by decide +kernel : ∀ t : Fin grid0.N, _)
/-- The block of input 5 at a point. -/
theorem piece5 (t : Fin cfg0.N) (r : Fin 128) (l : Fin 1024) :
    (iblk m c 5 t : Vec Ideal S128x1024 .bf16) (ix2 r l) = in5 m c (ix2 (rowAt t.val r) l) := by
  have hi := place5 t
  have hN : t.val < 128 := lt_of_lt_of_eq t.isLt (show cfg0.N = 128 from N_0)
  refine Eq.trans ?_ (congrFun (V_main_arg5 m c) _)
  unfold iblk
  rw [View.read_apply]
  show V m c main_arg5 _ = V m c main_arg5 _
  congr 1
  funext a
  apply Fin.ext
  match a with
  | ⟨0, _⟩ => show win0_5.index t 0 * 128 + 1 * r.val = (128 * t.val + r.val) % 16384; rw [hi.1]; omega
  | ⟨1, _⟩ => show win0_5.index t 1 * 1024 + 1 * l.val = l.val; rw [hi.2]; omega

/-- Window 6 moves with the point. -/
theorem place6 : ∀ t : Fin cfg0.N, win0_6.index t (0 : Fin 2) = t.val ∧ win0_6.index t (1 : Fin 2) = 0 :=
  (by decide +kernel : ∀ t : Fin grid0.N, _)
/-- The block of input 6 at a point. -/
theorem piece6 (t : Fin cfg0.N) (r : Fin 128) (l : Fin 1024) :
    (iblk m c 6 t : Vec Ideal S128x1024 .bf16) (ix2 r l) = in6 m c (ix2 (rowAt t.val r) l) := by
  have hi := place6 t
  have hN : t.val < 128 := lt_of_lt_of_eq t.isLt (show cfg0.N = 128 from N_0)
  refine Eq.trans ?_ (congrFun (V_main_arg6 m c) _)
  unfold iblk
  rw [View.read_apply]
  show V m c main_arg6 _ = V m c main_arg6 _
  congr 1
  funext a
  apply Fin.ext
  match a with
  | ⟨0, _⟩ => show win0_6.index t 0 * 128 + 1 * r.val = (128 * t.val + r.val) % 16384; rw [hi.1]; omega
  | ⟨1, _⟩ => show win0_6.index t 1 * 1024 + 1 * l.val = l.val; rw [hi.2]; omega

/-- The decays' window moves with the point. -/
theorem place7 : ∀ t : Fin cfg0.N, win0_7.index t (0 : Fin 2) = t.val ∧ win0_7.index t (1 : Fin 2) = 0 :=
  (by decide +kernel : ∀ t : Fin grid0.N, _)
/-- The block of the decays at a point. -/
theorem piece7 (t : Fin cfg0.N) (r : Fin 128) (l : Fin 1024) :
    (iblk m c 7 t : Vec Ideal S128x1024 .f32) (ix2 r l) = in7 m c (ix2 (rowAt t.val r) (⟨l.val / 128, by have := l.isLt; omega⟩ : Fin 8)) := by
  have hi := place7 t
  have hN : t.val < 128 := lt_of_lt_of_eq t.isLt (show cfg0.N = 128 from N_0)
  rw [← decay_at]
  unfold iblk
  rw [View.read_apply]
  show V m c main_v2 _ = V m c main_v2 _
  congr 1
  funext a
  apply Fin.ext
  match a with
  | ⟨0, _⟩ => show win0_7.index t 0 * 128 + 1 * r.val = (128 * t.val + r.val) % 16384; rw [hi.1]; omega
  | ⟨1, _⟩ => show win0_7.index t 1 * 1024 + 1 * l.val = l.val; rw [hi.2]; omega

/-- The gate's window stays in the fourth block of columns. -/
theorem place8 : ∀ t : Fin cfg0.N, win0_8.index t (0 : Fin 2) = t.val ∧ win0_8.index t (1 : Fin 2) = 3 :=
  (by decide +kernel : ∀ t : Fin grid0.N, _)
/-- The block of the gate at a point. -/
theorem piece8 (t : Fin cfg0.N) (r : Fin 128) (l : Fin 1024) :
    (X0_8 m c t : Vec Ideal S128x1024 .f32) (ix2 r l) = in8 m c (ix2 (rowAt t.val r) (⟨3072 + l.val, by have := l.isLt; omega⟩ : Fin 7680)) := by
  have hi := place8 t
  have hN : t.val < 128 := lt_of_lt_of_eq t.isLt (show cfg0.N = 128 from N_0)
  refine Eq.trans ?_ (congrFun (V_main_arg8 m c) _)
  unfold X0_8 Pipeline.Window.fill
  rw [dif_pos (moved0_8 t (ix2 r l))]
  unfold iblk
  rw [View.read_apply]
  show V m c main_arg8 _ = V m c main_arg8 _
  congr 1
  funext a
  apply Fin.ext
  match a with
  | ⟨0, _⟩ => show win0_8.index t 0 * 128 + 1 * r.val = (128 * t.val + r.val) % 16384; rw [hi.1]; omega
  | ⟨1, _⟩ => show win0_8.index t 1 * 1024 + 1 * l.val = 3072 + l.val; rw [hi.2]; omega

/-- The gain's window stays. -/
theorem place9 : ∀ t : Fin cfg0.N, win0_9.index t (0 : Fin 2) = 0 ∧ win0_9.index t (1 : Fin 2) = 0 :=
  (by decide +kernel : ∀ t : Fin grid0.N, _)
/-- The gain at a point. -/
theorem piece9 (t : Fin cfg0.N) (l : Fin 128) :
    (iblk m c 9 t : Vec Ideal S1x128 .f32) (ix2 0 l) = in9 m c (ix1 l) := by
  have hi := place9 t
  rw [← gain_at]
  unfold iblk
  rw [View.read_apply]
  show V m c main_v3 _ = V m c main_v3 _
  congr 1
  funext a
  apply Fin.ext
  match a with
  | ⟨0, _⟩ => show win0_9.index t 0 * 1 + 1 * 0 = 0; rw [hi.1]
  | ⟨1, _⟩ => show win0_9.index t 1 * 128 + 1 * l.val = l.val; rw [hi.2]; omega

/-- A head's columns of a block, at an index. -/
theorem col_at {α : Type} (x : S128x1024.Idx → α) (h : Fin 8) (r d : Fin 128) :
    col x h (ix2 r d) = x (ix2 r ⟨h.val * 128 + d.val, by omega⟩) := by
  unfold col
  congr 1
  funext a
  apply Fin.ext
  rw [Rect.emb_apply]
  match a with
  | ⟨0, _⟩ => show 0 + 1 * r.val = r.val; omega
  | ⟨1, _⟩ => show 128 * h.val + 1 * d.val = h.val * 128 + d.val; omega

/-- A row of a chunk of a point's block is that chunk's row in the array. -/
theorem rowAt_row (t : ℕ) (b : Fin 2) (i : Fin 64) (ht : 2 * t + b.val < 256) :
    rowAt t (row b i) = ⟨(2 * t + b.val) * 64 + i.val, by omega⟩ := by
  apply Fin.ext
  show (128 * t + (b.val * 64 + i.val)) % 16384 = (2 * t + b.val) * 64 + i.val
  omega

/-- The head of a head's column. -/
theorem head_col (h : Fin 8) (d : Fin 128) (hl : (h.val * 128 + d.val) / 128 < 8) : (⟨(h.val * 128 + d.val) / 128, hl⟩ : Fin 8) = h :=
  Fin.ext (by show (h.val * 128 + d.val) / 128 = h.val; omega)

/-- Head `h`'s chunk `n` of the launched operands. -/
abbrev chunkM (h : Fin 8) (n : Fin 256) : Chunk := chunkOf (in0 m c) (in1 m c) (in2 m c) (in3 m c) (in4 m c) (in5 m c) (in6 m c) (in7 m c) h n

/-- Head `h`'s state before chunk `n`, of the launched operands. -/
abbrev runM (h : Fin 8) (n : ℕ) : Fin 128 → Fin 128 → EReal := run (in0 m c) (in1 m c) (in2 m c) (in3 m c) (in4 m c) (in5 m c) (in6 m c) (in7 m c) h n

/-- One chunk's step of the state. -/
theorem run_next (h : Fin 8) (n : ℕ) (hn : n < 256) : runM m c h (n + 1) = (chunkM m c h ⟨n, hn⟩).next (runM m c h n) := by
  have e : Fin.ofNat 256 n = ⟨n, hn⟩ := Fin.ext (Nat.mod_eq_of_lt hn)
  show (chunkM m c h (Fin.ofNat 256 n)).next (runM m c h n) = _
  rw [e]

section Point

variable (t : Fin cfg0.N) (h : Fin 8)

/-- A head's columns of input 0 at a point. -/
abbrev c0 : FVec Ideal S128x128 .bf16 := col (iblk m c 0 t : Vec Ideal S128x1024 .bf16) h
/-- A head's columns of input 1 at a point. -/
abbrev c1 : FVec Ideal S128x128 .bf16 := col (iblk m c 1 t : Vec Ideal S128x1024 .bf16) h
/-- A head's columns of input 2 at a point. -/
abbrev c2 : FVec Ideal S128x128 .bf16 := col (iblk m c 2 t : Vec Ideal S128x1024 .bf16) h
/-- A head's columns of input 3 at a point. -/
abbrev c3 : FVec Ideal S128x128 .bf16 := col (iblk m c 3 t : Vec Ideal S128x1024 .bf16) h
/-- A head's columns of input 4 at a point. -/
abbrev c4 : FVec Ideal S128x128 .bf16 := col (iblk m c 4 t : Vec Ideal S128x1024 .bf16) h
/-- A head's columns of input 5 at a point. -/
abbrev c5 : FVec Ideal S128x128 .bf16 := col (iblk m c 5 t : Vec Ideal S128x1024 .bf16) h
/-- A head's columns of input 6 at a point. -/
abbrev c6 : FVec Ideal S128x128 .bf16 := col (iblk m c 6 t : Vec Ideal S128x1024 .bf16) h
/-- A head's columns of the decays at a point. -/
abbrev c7 : FVec Ideal S128x128 .f32 := col (iblk m c 7 t : Vec Ideal S128x1024 .f32) h
/-- A head's columns of the gate at a point. -/
abbrev c8 : FVec Ideal S128x128 .f32 := col (X0_8 m c t : Vec Ideal S128x1024 .f32) h

/-- The decays of a head stand the same in every column. -/
theorem flat_at : Flat (c7 m c t h) := by
  intro r l
  simp only [c7, col_at, piece7, head_col]

/-- The two chunks a point reads. -/
theorem pair_at (b : Fin 2) (hb : 2 * t.val + b.val < 256) :
    pair (c0 m c t h) (c1 m c t h) (c2 m c t h) (c3 m c t h) (c4 m c t h) (c5 m c t h) (c6 m c t h) (c7 m c t h) b = chunkM m c h ⟨2 * t.val + b.val, hb⟩ := by
  unfold pair chunkM chunkOf
  congr 1
  all_goals
    funext i
    try funext d
    simp only [col_at, piece0, piece1, piece2, piece3, piece4, piece5, piece6, piece7, head_col, rowAt_row t.val b i hb, part]

/-- Every element the chunks' systems read is a real number. -/
structure RealIn : Prop where
  k : ∀ i j, ∃ r : ℝ, in1 m c (ix2 i j) = (r : EReal)
  kb : ∀ i j, ∃ r : ℝ, in2 m c (ix2 i j) = (r : EReal)
  vb : ∀ i j, ∃ r : ℝ, in3 m c (ix2 i j) = (r : EReal)
  kbe : ∀ i j, ∃ r : ℝ, in4 m c (ix2 i j) = (r : EReal)
  g : ∀ i j, ∃ r : ℝ, in7 m c (ix2 i j) = (r : EReal)

/-- An index of a block is its row and its column. -/
theorem square_ix (y : S128x128.Idx) : ∃ r d : Fin 128, y = ix2 r d :=
  ⟨y 0, y 1, by funext a; match a with | ⟨0, _⟩ => rfl | ⟨1, _⟩ => rfl⟩

/-- What a head's step reads at a point is real. -/
theorem real_at (hf : RealIn m c) : RealOps (c1 m c t h) (c2 m c t h) (c3 m c t h) (c4 m c t h) (c7 m c t h) := by
  constructor <;> intro y <;> obtain ⟨r, d, rfl⟩ := square_ix y
  · simp only [c1, col_at, piece1]; exact hf.k _ _
  · simp only [c2, col_at, piece2]; exact hf.kb _ _
  · simp only [c3, col_at, piece3]; exact hf.vb _ _
  · simp only [c4, col_at, piece4]; exact hf.kbe _ _
  · simp only [c7, col_at, piece7]; exact hf.g _ _

variable (S : Fin 8 → FVec Ideal S1x128x128 .f32)

/-- The states a point leaves, from the states before it. -/
abbrev stM : Fin 8 → FVec Ideal S1x128x128 .f32 :=
  stF (col (iblk m c 0 t : Vec Ideal S128x1024 .bf16)) (col (iblk m c 1 t : Vec Ideal S128x1024 .bf16)) (col (iblk m c 2 t : Vec Ideal S128x1024 .bf16)) (col (iblk m c 3 t : Vec Ideal S128x1024 .bf16)) (col (iblk m c 4 t : Vec Ideal S128x1024 .bf16)) (col (iblk m c 5 t : Vec Ideal S128x1024 .bf16)) (col (iblk m c 6 t : Vec Ideal S128x1024 .bf16)) (col (iblk m c 7 t : Vec Ideal S128x1024 .f32)) S

/-- What a point writes, from the states before it. -/
abbrev outM : Fin 8 → FVec Ideal S128x128 .bf16 :=
  outF (col (iblk m c 0 t : Vec Ideal S128x1024 .bf16)) (col (iblk m c 1 t : Vec Ideal S128x1024 .bf16)) (col (iblk m c 2 t : Vec Ideal S128x1024 .bf16)) (col (iblk m c 3 t : Vec Ideal S128x1024 .bf16)) (col (iblk m c 4 t : Vec Ideal S128x1024 .bf16)) (col (iblk m c 5 t : Vec Ideal S128x1024 .bf16)) (col (iblk m c 6 t : Vec Ideal S128x1024 .bf16)) (col (iblk m c 7 t : Vec Ideal S128x1024 .f32)) (col (X0_8 m c t : Vec Ideal S128x1024 .f32)) (iblk m c 9 t : Vec Ideal S1x128 .f32) S

variable (hf : RealIn m c) (hS : ∀ e d, S h (ix3 0 e d) = runM m c h (2 * t.val) e d)

include hf hS

/-- The state between the two chunks of a point. -/
theorem between_at : between (c0 m c t h) (c1 m c t h) (c2 m c t h) (c3 m c t h) (c4 m c t h) (c5 m c t h) (c6 m c t h) (c7 m c t h) (S h) = runM m c h (2 * t.val + 1) := by
  have hN : t.val < 128 := lt_of_lt_of_eq t.isLt (show cfg0.N = 128 from N_0)
  unfold between
  rw [pair_at m c t h 0 (by show 2 * t.val + 0 < 256; omega), show before (S h) = runM m c h (2 * t.val) from funext fun e => funext fun d => hS e d,
    run_next m c h (2 * t.val) (by omega)]
  rfl

/-- The state a point leaves. -/
theorem stM_at (e d : Fin 128) : stM m c t S h (ix3 0 e d) = runM m c h (2 * (t.val + 1)) e d := by
  have hN : t.val < 128 := lt_of_lt_of_eq t.isLt (show cfg0.N = 128 from N_0)
  refine (state_at (c0 m c t h) (c1 m c t h) (c2 m c t h) (c3 m c t h) (c4 m c t h) (c5 m c t h) (c6 m c t h) (c7 m c t h) (S h) (flat_at m c t h) (real_at m c t h hf) e d).trans ?_
  rw [between_at m c t h S hf hS, pair_at m c t h 1 (by show 2 * t.val + 1 < 256; omega)]
  show _ = runM m c h (2 * t.val + 1 + 1) e d
  rw [run_next m c h (2 * t.val + 1) (by omega)]
  rfl

/-- What a point writes. -/
theorem outM_at (b : Fin 2) (i : Fin 64) (d : Fin 128) (hb : 2 * t.val + b.val < 256) : outM m c t S h (ix2 (row b i) d) =
    gate ((chunkM m c h ⟨2 * t.val + b.val, hb⟩).out (runM m c h (2 * t.val + b.val)) i) (in9 m c (ix1 d))
      (in8 m c (ix2 ⟨(2 * t.val + b.val) * 64 + i.val, by omega⟩ ⟨3072 + (h.val * 128 + d.val), by omega⟩)) d := by
  rw [← piece9 m c t d, ← rowAt_row t.val b i hb, ← piece8 m c t (row b i) ⟨h.val * 128 + d.val, by omega⟩, ← col_at (X0_8 m c t : Vec Ideal S128x1024 .f32) h, ← pair_at m c t h b hb]
  have hb2 : b = 0 ∨ b = 1 := by omega
  rcases hb2 with rfl | rfl
  · refine (write_fst (c0 m c t h) (c1 m c t h) (c2 m c t h) (c3 m c t h) (c4 m c t h) (c5 m c t h) (c6 m c t h) (c7 m c t h) (S h) (flat_at m c t h) (real_at m c t h hf) (c8 m c t h) (iblk m c 9 t : Vec Ideal S1x128 .f32) i d).trans ?_
    rw [show before (S h) = runM m c h (2 * t.val) from funext fun e => funext fun d => hS e d]
    rfl
  · refine (write_snd (c0 m c t h) (c1 m c t h) (c2 m c t h) (c3 m c t h) (c4 m c t h) (c5 m c t h) (c6 m c t h) (c7 m c t h) (S h) (flat_at m c t h) (real_at m c t h hf) (c8 m c t h) (iblk m c 9 t : Vec Ideal S1x128 .f32) i d).trans ?_
    rw [between_at m c t h S hf hS]
    rfl

end Point

/-- The first states are zero. -/
theorem zero_at (x : S8x128x128.Idx) : k0_pay2 (F := Ideal) x = 0 := by
  pointwise [k0_pay2]

/-- The states of all heads, read back one by one. -/
theorem slab_all {α : Type} (v : Fin 8 → S1x128x128.Idx → α) (h : Fin 8) : slab (stAll v) h = v h :=
  funext fun x => (stAll_emb v h x).symm

/-- Every point starts from the recurrence's states before its chunks, and leaves what its step makes of them. -/
theorem point_at (hf : RealIn m c) (n : ℕ) (hn : n < cfg0.N) :
    ∃ S : Fin 8 → FVec Ideal S1x128x128 .f32, (∀ h e d, S h (ix3 0 e d) = runM m c h (2 * n) e d) ∧
      outsAt0 m c n hn = (outAll (outM m c ⟨n, hn⟩ S), stAll (stM m c ⟨n, hn⟩ S)) := by
  have hN : cfg0.N = 128 := N_0
  induction n with
  | zero =>
    refine ⟨slab (k0_pay2 (F := Ideal)), fun h e d => zero_at _, ?_⟩
    refine (outsAt0_A m c ⟨0, hn⟩ (Nat.zero_mod _)).trans ?_
    rw [outA_eq, soutA_eq]
  | succ n ih =>
    obtain ⟨S, hS, e⟩ := ih (Nat.lt_of_succ_lt hn)
    have h0 : ¬ (n + 1) % 128 = 0 := by omega
    refine ⟨stM m c ⟨n, Nat.lt_of_succ_lt hn⟩ S, fun h e d => stM_at m c ⟨n, Nat.lt_of_succ_lt hn⟩ h S hf (hS h) e d, ?_⟩
    refine (outsAt0_B m c ⟨n + 1, hn⟩ h0).trans ?_
    rw [outB_eq, soutB_eq]
    show (outAll (outM m c ⟨n + 1, hn⟩ (slab (outsAt0 m c n (Nat.lt_of_succ_lt hn)).2)), stAll (stM m c ⟨n + 1, hn⟩ (slab (outsAt0 m c n (Nat.lt_of_succ_lt hn)).2))) = _
    rw [show slab (outsAt0 m c n (Nat.lt_of_succ_lt hn)).2 = stM m c ⟨n, Nat.lt_of_succ_lt hn⟩ S by rw [e]; exact funext fun h => slab_all (stM m c ⟨n, Nat.lt_of_succ_lt hn⟩ S) h]

/-- The result array of the kernel, at an element. -/
theorem result_at (hf : RealIn m c) (n : Fin 256) (i : Fin 64) (h : Fin 8) (d : Fin 128) :
    Cert.GdnIdeal.Value.G10 m c (ix2 ⟨n.val * 64 + i.val, by omega⟩ ⟨h.val * 128 + d.val, by omega⟩) =
      gate ((chunkM m c h n).out (runM m c h n.val) i) (in9 m c (ix1 d))
        (in8 m c (ix2 ⟨n.val * 64 + i.val, by omega⟩ ⟨3072 + (h.val * 128 + d.val), by omega⟩)) d := by
  have hN : cfg0.N = 128 := N_0
  obtain ⟨t, b, ht, rfl⟩ : ∃ (t : Fin cfg0.N) (b : Fin 2) (hb : 2 * t.val + b.val < 256), n = ⟨2 * t.val + b.val, hb⟩ :=
    ⟨⟨n.val / 2, by omega⟩, ⟨n.val % 2, by omega⟩, by show 2 * (n.val / 2) + n.val % 2 < 256; omega, Fin.ext (by show n.val = 2 * (n.val / 2) + n.val % 2; omega)⟩
  obtain ⟨S, hS, e⟩ := point_at m c hf t.val t.isLt
  have hp : pt10Of (ix2 (⟨(2 * t.val + b.val) * 64 + i.val, by omega⟩ : Fin 16384) (⟨h.val * 128 + d.val, by omega⟩ : Fin 1024)) = t.val := by
    show 1 * (((2 * t.val + b.val) * 64 + i.val) / 128 - 0) + 1 * ((h.val * 128 + d.val) / 1024 - 0) = t.val
    omega
  have hl : loc10Of (ix2 (⟨(2 * t.val + b.val) * 64 + i.val, by omega⟩ : Fin 16384) (⟨h.val * 128 + d.val, by omega⟩ : Fin 1024)) = (colRect h).emb (ix2 (row b i) d) := by
    funext a
    apply Fin.ext
    rw [Rect.emb_apply]
    match a with
    | ⟨0, _⟩ => show ((2 * t.val + b.val) * 64 + i.val) % 128 = 0 + 1 * (b.val * 64 + i.val); omega
    | ⟨1, _⟩ => show (h.val * 128 + d.val) % 1024 = 128 * h.val + 1 * d.val; omega
  unfold G10
  rw [dif_pos (by rw [hp]; exact t.isLt), fold0_congr m c _ _ _ (by omega) hp, hl, ← outsAt0_sweep m c t.val t.isLt, e]
  show outAll (outM m c t S) ((colRect h).emb (ix2 (row b i) d)) = _
  rw [← outAll_emb]
  exact outM_at m c t h S hf (hS h) b i d ht

end GdnProof

end
-- ==== Proof.GdnFinite.lean ====
module

public import proofs.«01_k».proof.Proof.GdnValue
public import proofs.«01_k».proof.Proof.Gen.Pre_finite

/-! What the precondition says of the operands: each element the chunks' systems read is a real number. -/

@[expose] public section

set_option maxRecDepth 16384

noncomputable section

namespace GdnProof

open Cert.GdnIdeal Cert.GdnIdeal.Gen Cert.GdnIdeal.Value Idealize.ShloMosaic Idealize.ShloMosaic.TcCoe

/-- A number whose size lies below infinity is real. -/
theorem real_of_size (x : EReal) (h : FloatOps.absf (F := Ideal) (φ := .f32) x < Ideal.ofBits .f32 0x7F800000#32) : ∃ r : ℝ, x = (r : EReal) := by
  have top : Ideal.ofBits .f32 0x7F800000#32 = ⊤ := by simp [Ideal.ofBits, Ideal.ieee]
  rw [top] at h
  induction x with
  | bot => exact absurd h (by simp [FloatOps.absf])
  | top => exact absurd h (by simp [FloatOps.absf])
  | coe r => exact ⟨r, rfl⟩

/-- Two bits that are both one. -/
theorem both_one (a b : BitVec 1) (h : IntOp.andi a b = 1#1) : a = 1#1 ∧ b = 1#1 := by
  revert a b; decide

/-- A comparison that holds. -/
theorem holds_of_bit (p : Prop) [Decidable p] (h : BitVec.ofBool (decide p) = 1#1) : p := by
  by_contra hp
  rw [decide_eq_false hp] at h
  exact absurd h (by decide)

section Read

variable (a0 a1 a2 a3 a4 a5 a6 : Vec Ideal S16384x1024 .bf16) (a7 : Vec Ideal S16384x8 .f32) (a8 : Vec Ideal S16384x7680 .f32)
  (a9 : Vec Ideal S128 .f32)

/-- What the precondition says at an element. -/
theorem finite_at [Cert.Pre_finite.Facts] (i : Fin 16384) (j : Fin 1024)
    (h : Cert.Pre_finite.fn (F := Ideal) a0 a1 a2 a3 a4 a5 a6 a7 a8 a9 (ix2 i j) = 1#1) :
    (∃ r : ℝ, a1 (ix2 i j) = (r : EReal)) ∧ (∃ r : ℝ, a2 (ix2 i j) = (r : EReal)) ∧ (∃ r : ℝ, a3 (ix2 i j) = (r : EReal)) ∧
      (∃ r : ℝ, a4 (ix2 i j) = (r : EReal)) ∧ ∃ r : ℝ, a7 (ix2 i (⟨j.val / 128, by omega⟩ : Fin 8)) = (r : EReal) := by
  have e : Cert.Pre_finite.fn (F := Ideal) a0 a1 a2 a3 a4 a5 a6 a7 a8 a9 (ix2 i j) =
      IntOp.andi (IntOp.andi (IntOp.andi (IntOp.andi
        (BitVec.ofBool (decide (FloatOps.absf (F := Ideal) (φ := .f32) (a1 (ix2 i j)) < Ideal.ofBits .f32 0x7F800000#32)))
        (BitVec.ofBool (decide (FloatOps.absf (F := Ideal) (φ := .f32) (a2 (ix2 i j)) < Ideal.ofBits .f32 0x7F800000#32))))
        (BitVec.ofBool (decide (FloatOps.absf (F := Ideal) (φ := .f32) (a3 (ix2 i j)) < Ideal.ofBits .f32 0x7F800000#32))))
        (BitVec.ofBool (decide (FloatOps.absf (F := Ideal) (φ := .f32) (a4 (ix2 i j)) < Ideal.ofBits .f32 0x7F800000#32))))
        (BitVec.ofBool (decide (FloatOps.absf (F := Ideal) (φ := .f32) (a7 (ix2 i (⟨j.val / 128, by omega⟩ : Fin 8))) < Ideal.ofBits .f32 0x7F800000#32))) := by
    pointwise [Cert.Pre_finite.fn, Cert.Pre_finite.fn_part1]
  rw [e] at h
  obtain ⟨h, h7⟩ := both_one _ _ h
  obtain ⟨h, h4⟩ := both_one _ _ h
  obtain ⟨h, h3⟩ := both_one _ _ h
  obtain ⟨h1, h2⟩ := both_one _ _ h
  exact ⟨real_of_size _ (holds_of_bit _ h1), real_of_size _ (holds_of_bit _ h2), real_of_size _ (holds_of_bit _ h3),
    real_of_size _ (holds_of_bit _ h4), real_of_size _ (holds_of_bit _ h7)⟩

end Read

variable (m : (ℓ : Loc nD τ sig) → Buf (Elt Ideal) ℓ) (c : Dev nD)

/-- The precondition gives real operands. -/
theorem real_in [Cert.Pre_finite.Facts]
    (h : Cert.Pre_finite.fn (F := Ideal) (in0 m c) (in1 m c) (in2 m c) (in3 m c) (in4 m c) (in5 m c) (in6 m c) (in7 m c) (in8 m c) (in9 m c) = fun _ => 1#1) :
    RealIn m c := by
  have e := fun i j => finite_at (in0 m c) (in1 m c) (in2 m c) (in3 m c) (in4 m c) (in5 m c) (in6 m c) (in7 m c) (in8 m c) (in9 m c) i j (congrFun h _)
  refine ⟨fun i j => (e i j).1, fun i j => (e i j).2.1, fun i j => (e i j).2.2.1, fun i j => (e i j).2.2.2.1, fun i j => ?_⟩
  have e7 := (e i ⟨j.val * 128, by omega⟩).2.2.2.2
  rw [show (⟨j.val * 128 / 128, by omega⟩ : Fin 8) = j from Fin.ext (by show j.val * 128 / 128 = j.val; omega)] at e7
  exact e7

/-- The reference's result is the kernel's. -/
theorem result_eq (hf : RealIn m c) (it : ℕ → Cert.GdnRefIdeal.Step.State Ideal)
    (h0 : it 0 = Cert.GdnRefIdeal.Step.init (in0 m c) (in1 m c) (in2 m c) (in3 m c) (in4 m c) (in5 m c) (in6 m c) (in7 m c))
    (hn : ∀ k, it (k + 1) = Cert.GdnRefIdeal.Step.step k (it k)) :
    Cert.GdnRefIdeal.Step.R_main_v208 (it 256) (in8 m c) (in9 m c) = G10 m c := by
  funext y
  obtain ⟨n, i, h, d, rfl⟩ : ∃ (n : Fin 256) (i : Fin 64) (h : Fin 8) (d : Fin 128),
      y = ix2 (⟨n.val * 64 + i.val, by omega⟩ : Fin 16384) (⟨h.val * 128 + d.val, by omega⟩ : Fin 1024) := by
    have b0 : (y 0).val < 16384 := (y 0).isLt
    have b1 : (y 1).val < 1024 := (y 1).isLt
    refine ⟨⟨(y 0).val / 64, by omega⟩, ⟨(y 0).val % 64, by omega⟩, ⟨(y 1).val / 128, by omega⟩, ⟨(y 1).val % 128, by omega⟩, ?_⟩
    funext a
    apply Fin.ext
    match a with
    | ⟨0, _⟩ => show (y 0).val = (y 0).val / 64 * 64 + (y 0).val % 64; omega
    | ⟨1, _⟩ => show (y 1).val = (y 1).val / 128 * 128 + (y 1).val % 128; omega
  rw [result_at m c hf n i h d]
  exact ref_result (in0 m c) (in1 m c) (in2 m c) (in3 m c) (in4 m c) (in5 m c) (in6 m c) (in7 m c) h it h0 hn (in8 m c) (in9 m c) n i d

end GdnProof

end
-- ==== Proof.RwkvPay.lean ====
module

public import proofs.«01_k».proof.Proof.GdnFinite
public import proofs.«01_k».proof.Proof.Gen.RwkvPostIdeal.Skeleton
public import proofs.«01_k».proof.Proof.Gen.RwkvPostRefIdeal.Read
public import Idealize.ShloMosaic.Lib.Pointwise

/-! The head norms of the second mixer's output: the kernel's products with the heads' indicator matrix are the heads' sums and
their spreading, and the reference reads the same heads. -/

@[expose] public section

set_option maxRecDepth 16384

noncomputable section

open Idealize.ShloMosaic Idealize.ShloMosaic.TcCoe
open scoped BigOperators

namespace RwkvProof

/-- A number is real. -/
def IsReal (x : EReal) : Prop := ∃ r : ℝ, x = (r : EReal)

/-- Sums of reals are real. -/
theorem real_sum {ι : Type} (t : Finset ι) (f : ι → EReal) (h : ∀ k, IsReal (f k)) : IsReal (∑ k ∈ t, f k) := by
  choose g hg using h
  exact ⟨∑ k ∈ t, g k, by rw [GdnProof.coe_sum]; exact Finset.sum_congr rfl fun k _ => hg k⟩

/-- Products of reals are real. -/
theorem real_mul {x y : EReal} (hx : IsReal x) (hy : IsReal y) : IsReal (x * y) := by
  obtain ⟨a, rfl⟩ := hx
  obtain ⟨b, rfl⟩ := hy
  exact ⟨a * b, (EReal.coe_mul a b).symm⟩

/-- Differences of reals are real. -/
theorem real_sub {x y : EReal} (hx : IsReal x) (hy : IsReal y) : IsReal (x - y) := by
  obtain ⟨a, rfl⟩ := hx
  obtain ⟨b, rfl⟩ := hy
  exact ⟨a - b, (EReal.coe_sub a b).symm⟩

/-- A real number less itself is zero. -/
theorem real_self {x : EReal} (hx : IsReal x) : x - x = 0 := by
  obtain ⟨a, rfl⟩ := hx
  rw [← EReal.coe_sub, sub_self, EReal.coe_zero]

/-- A product taken in two parts, the entries and what their rounding leaves. -/
def parts {n : ℕ} (x w : Fin n → EReal) : EReal := ∑ k, x k * w k + ∑ k, (x k - x k) * w k

/-- Over real entries the second part is zero. -/
theorem parts_eq {n : ℕ} (x w : Fin n → EReal) (hx : ∀ k, IsReal (x k)) : parts x w = ∑ k, x k * w k := by
  unfold parts
  have e : ∑ k, (x k - x k) * w k = 0 := Finset.sum_eq_zero fun k _ => by rw [real_self (hx k), zero_mul]
  rw [e, add_zero]

/-- The entry of the heads' indicator at a column and a lane. -/
def ind (k : Fin 1024) (h : Fin 128) : EReal := if k.val / 64 = h.val then 1 else 0

/-- A column of a head. -/
def lane (h : Fin 16) (j : Fin 64) : Fin 1024 := ⟨h.val * 64 + j.val, by have := h.isLt; have := j.isLt; omega⟩

/-- The lane of a head. -/
def wide (h : Fin 16) : Fin 128 := ⟨h.val, by have := h.isLt; omega⟩

/-- Every column lies in a head. -/
theorem lane_surj (l : Fin 1024) : ∃ h j, l = lane h j :=
  ⟨⟨l.val / 64, by have := l.isLt; omega⟩, ⟨l.val % 64, Nat.mod_lt _ (by decide)⟩, Fin.ext (by show l.val = l.val / 64 * 64 + l.val % 64; omega)⟩

/-- The indicator at a head's column. -/
theorem ind_lane (h : Fin 16) (j : Fin 64) (g : Fin 128) : ind (lane h j) g = if g = wide h then 1 else 0 := by
  have hj := j.isLt
  have e : (h.val * 64 + j.val) / 64 = h.val := by omega
  unfold ind
  by_cases hg : g = wide h
  · rw [if_pos hg, if_pos (by rw [hg]; exact e)]
  · rw [if_neg hg, if_neg (fun q => hg (Fin.ext (by rw [← q]; exact e)))]

/-- A sum over the columns is the sum over the heads of their sums. -/
theorem sum_lanes (f : Fin 1024 → EReal) : ∑ k, f k = ∑ h : Fin 16, ∑ j : Fin 64, f (lane h j) := by
  rw [← Fintype.sum_prod_type' (f := fun h j => f (lane h j))]
  refine (Fintype.sum_equiv (finProdFinEquiv (m := 16) (n := 64)) _ _ fun p => ?_).symm
  refine congrArg f (Fin.ext ?_)
  show p.1.val * 64 + p.2.val = p.2.val + 64 * p.1.val
  omega

/-- The product of a row with the indicator's column of a head is the head's sum. -/
theorem fold_ind (x : Fin 1024 → EReal) (h : Fin 16) : ∑ k, x k * ind k (wide h) = ∑ j : Fin 64, x (lane h j) := by
  rw [sum_lanes, Finset.sum_eq_single h]
  · exact Finset.sum_congr rfl fun j _ => by rw [ind_lane, if_pos rfl, mul_one]
  · intro g _ hg
    refine Finset.sum_eq_zero fun j _ => ?_
    rw [ind_lane, if_neg (fun q => hg (Fin.ext (by have := congrArg Fin.val q; exact this.symm))), mul_zero]
  · exact fun q => absurd (Finset.mem_univ _) q

/-- The product of a row of lanes with the indicator's row of a column is the lane of the column's head. -/
theorem pick_ind (y : Fin 128 → EReal) (h : Fin 16) (j : Fin 64) : ∑ g, y g * ind (lane h j) g = y (wide h) := by
  rw [Finset.sum_eq_single (wide h)]
  · rw [ind_lane, if_pos rfl, mul_one]
  · intro g _ hg
    rw [ind_lane, if_neg hg, mul_zero]
  · exact fun q => absurd (Finset.mem_univ _) q

/-- A row's mean over a lane, as the kernel takes it. -/
def laneMean (x : Fin 1024 → EReal) (e : Fin 1024 → Fin 128 → EReal) (h : Fin 128) : EReal :=
  parts x (fun k => e k h) * Ideal.ofBits .f32 0x3C800000#32

/-- A row's entry less its head's mean, as the kernel takes it. -/
def centered (x : Fin 1024 → EReal) (e : Fin 1024 → Fin 128 → EReal) (et : Fin 128 → Fin 1024 → EReal) (l : Fin 1024) : EReal :=
  x l - parts (laneMean x e) (fun h => et h l)

/-- The reciprocal deviation of a column's head, as the kernel takes it. -/
def scaled (d : Fin 1024 → EReal) (e : Fin 1024 → Fin 128 → EReal) (et : Fin 128 → Fin 1024 → EReal) (l : Fin 1024) : EReal :=
  parts (fun h => Ideal.rsqrt (laneMean (fun k => d k * d k) e h + Ideal.ofBits .f32 0x3A27C5AC#32)) (fun h => et h l)

/-- The mean of a head. -/
def headMean (x : Fin 64 → EReal) : EReal := Ideal.div (∑ j, x j) (Ideal.ofBits .f32 0x42800000#32)

/-- An entry of a head less the head's mean. -/
def dev (x : Fin 64 → EReal) (j : Fin 64) : EReal := x j - headMean x

/-- An entry of a head, normalized. -/
def headNorm (x : Fin 64 → EReal) (j : Fin 64) : EReal :=
  dev x j * Ideal.rsqrt (headMean (fun i => dev x i * dev x i) + Ideal.ofBits .f32 0x3A27C5AC#32)

/-- The kernel's factor is one over sixty-four. -/
theorem factor : Ideal.ofBits .f32 0x3C800000#32 = ((1 / 64 : ℝ) : EReal) := by
  simp [Ideal.ofBits, Ideal.ieee]
  rw [← EReal.coe_mul]
  norm_num

/-- The reference's divisor is sixty-four. -/
theorem divisor : Ideal.ofBits .f32 0x42800000#32 = ((64 : ℝ) : EReal) := by
  simp [Ideal.ofBits, Ideal.ieee]
  rw [← EReal.coe_mul]
  norm_num

/-- The small constant is a positive real. -/
theorem small : ∃ s : ℝ, 0 < s ∧ Ideal.ofBits .f32 0x3A27C5AC#32 = (s : EReal) := by
  refine ⟨10995116 / 2 ^ 34, by norm_num, ?_⟩
  simp [Ideal.ofBits, Ideal.ieee]
  rw [← EReal.coe_mul]
  norm_num

/-- The mean as a product. -/
theorem headMean_eq (x : Fin 64 → EReal) : headMean x = (∑ j, x j) * ((1 / 64 : ℝ) : EReal) := by
  unfold headMean
  rw [divisor, Ideal.div_coe (by norm_num)]

section Row

variable (x : Fin 1024 → EReal) (hx : ∀ k, IsReal (x k))

include hx

/-- The lane's mean is the head's mean. -/
theorem laneMean_eq (h : Fin 16) : laneMean x ind (wide h) = headMean fun j => x (lane h j) := by
  unfold laneMean
  rw [parts_eq _ _ hx, fold_ind, headMean_eq, factor]

/-- Every lane's mean is real. -/
theorem laneMean_real (h : Fin 128) : IsReal (laneMean x ind h) := by
  unfold laneMean
  rw [parts_eq _ _ hx, factor]
  refine real_mul (real_sum _ _ fun k => real_mul (hx k) ?_) ⟨_, rfl⟩
  unfold ind
  split
  · exact ⟨1, rfl⟩
  · exact ⟨0, rfl⟩

/-- The kernel's centered entry is the head's. -/
theorem centered_eq (h : Fin 16) (j : Fin 64) : centered x ind (fun g l => ind l g) (lane h j) = dev (fun i => x (lane h i)) j := by
  unfold centered dev
  rw [parts_eq _ _ (laneMean_real x hx), pick_ind, laneMean_eq x hx]

/-- The centered entries are real. -/
theorem centered_real (l : Fin 1024) : IsReal (centered x ind (fun g l => ind l g) l) := by
  unfold centered
  refine real_sub (hx l) ?_
  obtain ⟨h, j, rfl⟩ := lane_surj l
  rw [parts_eq _ _ (laneMean_real x hx), pick_ind]
  exact laneMean_real x hx _

end Row

/-- The reciprocal root of a mean of squares and the small constant is real. -/
theorem rsqrt_real (d : Fin 1024 → EReal) (hd : ∀ k, IsReal (d k)) (h : Fin 128) :
    IsReal (Ideal.rsqrt (laneMean (fun k => d k * d k) ind h + Ideal.ofBits .f32 0x3A27C5AC#32)) := by
  have hs2 : ∀ k, IsReal (d k * d k) := fun k => real_mul (hd k) (hd k)
  choose f hf using hd
  obtain ⟨s, hs, es⟩ := small
  have e : laneMean (fun k => d k * d k) ind h = (((∑ k, f k * f k * if k.val / 64 = h.val then 1 else 0) * (1 / 64) : ℝ) : EReal) := by
    unfold laneMean
    rw [parts_eq _ _ hs2, factor, EReal.coe_mul, GdnProof.coe_sum]
    refine congrArg (fun z : EReal => z * ((1 / 64 : ℝ) : EReal)) (Finset.sum_congr rfl fun k _ => ?_)
    rw [EReal.coe_mul, EReal.coe_mul, hf k]
    refine congrArg (fun z : EReal => (f k : EReal) * (f k : EReal) * z) ?_
    unfold ind
    split
    · rfl
    · rfl
  have hp : 0 ≤ (∑ k : Fin 1024, f k * f k * if k.val / 64 = h.val then (1 : ℝ) else 0) * (1 / 64) := by
    refine mul_nonneg (Finset.sum_nonneg fun k _ => mul_nonneg (mul_self_nonneg _) ?_) (by norm_num)
    split
    · norm_num
    · norm_num
  rw [e, es, ← EReal.coe_add, Ideal.rsqrt_coe, if_neg (by linarith), if_neg (by linarith)]
  exact ⟨_, rfl⟩

/-- The kernel's centered entry times its reciprocal deviation is the head's normalized entry. -/
theorem norm_eq (x : Fin 1024 → EReal) (hx : ∀ k, IsReal (x k)) (h : Fin 16) (j : Fin 64) :
    centered x ind (fun g l => ind l g) (lane h j) * scaled (centered x ind (fun g l => ind l g)) ind (fun g l => ind l g) (lane h j)
      = headNorm (fun i => x (lane h i)) j := by
  have hd := centered_real x hx
  unfold scaled headNorm
  rw [parts_eq _ _ (rsqrt_real _ hd), pick_ind, laneMean_eq _ (fun k => real_mul (hd k) (hd k))]
  simp only [centered_eq x hx]

section Pay

open Cert.RwkvPostIdeal

variable (o : Vec Ideal S256x1024 .f32) (e : Vec Ideal S1024x128 .bf16) (et : Vec Ideal S128x1024 .bf16) (r : Fin 256) (l : Fin 1024)

/-- The kernel's centered block, at an index. -/
theorem pay4_at : Gen.k0_pay4 o e et (ix2 r l) = centered (fun k => o (ix2 r k)) (fun k h => e (ix2 k h)) (fun h k => et (ix2 h k)) l := by
  pointwise [Gen.k0_pay4, Gen.k0_pay2, Gen.k0_pay3, centered, laneMean, parts]

/-- The kernel's reciprocal deviations, at an index. -/
theorem pay5_at : Gen.k0_pay5 o e et (ix2 r l) = scaled (fun k => Gen.k0_pay4 o e et (ix2 r k)) (fun k h => e (ix2 k h)) (fun h k => et (ix2 h k)) l := by
  unfold Gen.k0_pay5
  generalize Gen.k0_pay4 o e et = d
  pointwise [Gen.k0_pay2, Gen.k0_pay3, scaled, laneMean, parts]

/-- The block the kernel stores, at an index. -/
theorem pay1_at (d s b g : Vec Ideal S256x1024 .f32) (w v : Vec Ideal S1x1024 .f32) :
    Gen.k0_pay1 d s w v b g (ix2 r l) = (d (ix2 r l) * s (ix2 r l) * w (ix2 0 l) + v (ix2 0 l) + b (ix2 r l)) * g (ix2 r l) := by
  pointwise [Gen.k0_pay1]

end Pay

section Ref

open Cert.RwkvPostRefIdeal Cert.RwkvPostRefIdeal.Read

variable (o b g : Vec Ideal S16384x1024 .f32) (w v : Vec Ideal S1024 .f32) (r : Fin 16384)

/-- The reference's centered entry. -/
theorem ref_dev (h : Fin 16) (j : Fin 64) :
    val_main_v6 (F := Ideal) o (ix3 r h j) = dev (fun i => o (ix2 r (lane h i))) j := by
  pointwise [val_main_v6, val_main_v5, val_main_v4, val_main_v3, val_main_v2, val_main_v1, val_main_v0, val_main_cst, val_main_cst_0, dev, headMean, lane]

/-- The reference's result, at an index. -/
theorem ref_at (h : Fin 16) (j : Fin 64) : val_main_v28 (F := Ideal) o b g w v (ix2 r (lane h j))
    = (headNorm (fun i => o (ix2 r (lane h i))) j * w (ix1 (lane h j)) + v (ix1 (lane h j)) + b (ix2 r (lane h j))) * g (ix2 r (lane h j)) := by
  have e4 : val_main_v13 (F := Ideal) o (ix3 r h j) = dev (fun i => o (ix2 r (lane h i))) j := ref_dev o r h j
  have e7 : ∀ i, val_main_v7 (F := Ideal) o (ix3 r h i) = dev (fun i => o (ix2 r (lane h i))) i * dev (fun i => o (ix2 r (lane h i))) i := fun i => by
    rw [← ref_dev o r h i]; rfl
  have e16 : val_main_v16 (F := Ideal) o (ix3 r h 0)
      = Ideal.rsqrt (headMean (fun i => dev (fun i => o (ix2 r (lane h i))) i * dev (fun i => o (ix2 r (lane h i))) i) + Ideal.ofBits .f32 0x3A27C5AC#32) := by
    simp only [← e7]
    unfold val_main_v16 val_main_v15 val_main_v14 val_main_v11 val_main_v10 val_main_v9 val_main_v8
    generalize val_main_v7 (F := Ideal) o = d
    pointwise [val_main_cst_1, val_main_cst_2, val_main_cst_3, headMean]
  have e18 : val_main_v18 (F := Ideal) o (ix3 r h j) = headNorm (fun i => o (ix2 r (lane h i))) j := by
    rw [val_main_v18_apply, e4, val_main_v17_apply,
      show idx_main_v17 (ix3 r h j) = ix3 r h 0 from funext fun a => match a with | ⟨0, _⟩ => rfl | ⟨1, _⟩ => rfl | ⟨2, _⟩ => rfl, e16]
    rfl
  have e19 : val_main_v19 (F := Ideal) o (ix2 r (lane h j)) = headNorm (fun i => o (ix2 r (lane h i))) j := by
    rw [← e18, val_main_v19_apply]
    refine congrArg _ (funext fun a => ?_)
    have hh := h.isLt
    have hj := j.isLt
    have hr := r.isLt
    apply Fin.ext
    match a with
    | ⟨0, _⟩ => show (r.val * 1024 + (h.val * 64 + j.val)) / 1024 = r.val; omega
    | ⟨1, _⟩ => show (r.val * 1024 + (h.val * 64 + j.val)) / 64 % 16 = h.val; omega
    | ⟨2, _⟩ => show (r.val * 1024 + (h.val * 64 + j.val)) % 64 = j.val; omega
  rw [← e19]
  unfold val_main_v28 val_main_v27 val_main_v26 val_main_v25 val_main_v22
  generalize val_main_v19 (F := Ideal) o = d
  pointwise [val_main_v24, val_main_v23, val_main_v21, val_main_v20]

end Ref

end RwkvProof

end
-- ==== Proof.RwkvValue.lean ====
module

public import proofs.«01_k».proof.Proof.RwkvPay
public import proofs.«01_k».proof.Proof.Gen.RwkvPostIdeal.Value
public import proofs.«01_k».proof.Proof.Gen.Pre_finite_o
public import Idealize.ShloMosaic.Lib.StableHlo.ReadAt

/-! The head norms' result array: each point writes one row block of the normalized, biased and gated output. -/

@[expose] public section

set_option maxRecDepth 16384

noncomputable section

open Idealize.ShloMosaic Idealize.ShloMosaic.TcCoe Idealize.SL.Sem
open scoped BigOperators

namespace RwkvProof

open Cert.RwkvPostIdeal Cert.RwkvPostIdeal.Gen

variable (m : (ℓ : Loc nD τ sig) → Buf (Elt Ideal) ℓ) (c : Dev nD)

/-- The recurrence's output, as launched. -/
abbrev argO : Vec Ideal S16384x1024 .f32 := m ((c.tc : Thread nD τ).loc main_arg0)
/-- The bonus. -/
abbrev argB : Vec Ideal S16384x1024 .f32 := m ((c.tc : Thread nD τ).loc main_arg1)
/-- The gate. -/
abbrev argG : Vec Ideal S16384x1024 .f32 := m ((c.tc : Thread nD τ).loc main_arg2)
/-- The norm's weight. -/
abbrev argW : Vec Ideal S1024 .f32 := m ((c.tc : Thread nD τ).loc main_arg3)
/-- The norm's bias. -/
abbrev argV : Vec Ideal S1024 .f32 := m ((c.tc : Thread nD τ).loc main_arg4)

/-- The array row of a point's block row. -/
def row (n : ℕ) (r : Fin 256) : Fin 16384 := ⟨(256 * n + r.val) % 16384, Nat.mod_lt _ (by decide)⟩

/-- The host's floor division of a column's number by sixty-four. -/
def headWord (k : Fin 1024) : BitVec 32 := BitVec.ofNat 32 (k.val / 64)

/-- The host's floor division, as the program prints it, is the quotient. -/
theorem floor_word : ∀ k : Fin 1024,
    Scalar.select
      (IntOp.andi
        (IntOp.cmpi CmpIPredicate.ne
          (if BitVec.ofNat 32 k.val = 0 then (0 : BitVec 32) else if (BitVec.ofNat 32 k.val).msb = true then -1 else 1)
          (if (64#32 : BitVec 32) = 0 then (0 : BitVec 32) else if BitVec.msb 64#32 = true then -1 else 1))
        (IntOp.cmpi CmpIPredicate.ne (IntOp.remsi ArithUnit.host (BitVec.ofNat 32 k.val) 64#32) 0#32))
      (IntOp.subi (IntOp.divsi ArithUnit.host (BitVec.ofNat 32 k.val) 64#32) 1#32)
      (IntOp.divsi ArithUnit.host (BitVec.ofNat 32 k.val) 64#32) = headWord k := by
  decide +kernel

/-- Comparing the quotient with a lane's number decides the head. -/
theorem same_word : ∀ k : Fin 1024, ∀ h : Fin 128,
    IntOp.cmpi CmpIPredicate.eq (headWord k) (BitVec.ofNat 32 h.val) = BitVec.ofBool (decide (k.val / 64 = h.val)) := by
  intro k h
  have e : headWord k = BitVec.ofNat 32 h.val ↔ k.val / 64 = h.val := by
    have := k.isLt
    have := h.isLt
    unfold headWord
    constructor
    · intro e
      have := congrArg BitVec.toNat e
      simp only [BitVec.toNat_ofNat] at this
      omega
    · intro e
      rw [e]
  show BitVec.ofBool (headWord k == BitVec.ofNat 32 h.val) = _
  congr 1
  rw [Bool.eq_iff_iff, beq_iff_eq, decide_eq_true_iff]
  exact e

/-- A comparison's bit, as a number. -/
theorem bit_value (p : Prop) [Decidable p] :
    FloatOps.uitofp (F := Ideal) FTy.bf16 (BitVec.ofBool (decide p)) = if p then (1 : EReal) else 0 := by
  by_cases h : p
  · rw [if_pos h, decide_eq_true h]
    show (((BitVec.ofBool true).toNat : ℝ) : EReal) = 1
    simp
  · rw [if_neg h, decide_eq_false h]
    show (((BitVec.ofBool false).toNat : ℝ) : EReal) = 0
    simp

/-- The region finds the recurrence output as launched. -/
theorem V0_at (i : Fin 16384) (j : Fin 1024) : V m c main_arg0 (ix2 i j) = argO m c (ix2 i j) :=
  congrFun (V_main_arg0 m c) _
/-- The region finds the bonus as launched. -/
theorem V1_at (i : Fin 16384) (j : Fin 1024) : V m c main_arg1 (ix2 i j) = argB m c (ix2 i j) :=
  congrFun (V_main_arg1 m c) _
/-- The region finds the gate as launched. -/
theorem V2_at (i : Fin 16384) (j : Fin 1024) : V m c main_arg2 (ix2 i j) = argG m c (ix2 i j) :=
  congrFun (V_main_arg2 m c) _
/-- The region finds the weight as one row. -/
theorem V3_at (j : Fin 1024) : V m c main_v10 (ix2 0 j) = argW m c (ix1 j) := by
  unfold V; after_reads_at
/-- The region finds the bias as one row. -/
theorem V4_at (j : Fin 1024) : V m c main_v11 (ix2 0 j) = argV m c (ix1 j) := by
  unfold V; after_reads_at
/-- The region finds the heads' indicator. -/
theorem V5_at (k : Fin 1024) (h : Fin 128) : V m c main_v8 (ix2 k h) = ind k h := by
  unfold V; after_reads_at
  refine (congrArg (fun w => FloatOps.uitofp (F := Ideal) FTy.bf16 (IntOp.cmpi CmpIPredicate.eq w (BitVec.ofNat 32 h.val))) (floor_word k)).trans ?_
  rw [same_word, bit_value]
  rfl
/-- The region finds the indicator's transpose. -/
theorem V6_at (h : Fin 128) (k : Fin 1024) : V m c main_v9 (ix2 h k) = ind k h := by
  rw [← V5_at m c k h]
  unfold V; after_reads_at

/-- Where window 0 stands. -/
theorem index0 : ∀ t : Fin cfg0.N, win0_0.index t (0 : Fin 2) = t.val ∧ win0_0.index t (1 : Fin 2) = 0 :=
  (by decide +kernel : ∀ t : Fin grid0.N, _)
/-- Where window 1 stands. -/
theorem index1 : ∀ t : Fin cfg0.N, win0_1.index t (0 : Fin 2) = t.val ∧ win0_1.index t (1 : Fin 2) = 0 :=
  (by decide +kernel : ∀ t : Fin grid0.N, _)
/-- Where window 2 stands. -/
theorem index2 : ∀ t : Fin cfg0.N, win0_2.index t (0 : Fin 2) = t.val ∧ win0_2.index t (1 : Fin 2) = 0 :=
  (by decide +kernel : ∀ t : Fin grid0.N, _)
/-- Where window 3 stands. -/
theorem index3 : ∀ t : Fin cfg0.N, win0_3.index t (0 : Fin 2) = 0 ∧ win0_3.index t (1 : Fin 2) = 0 :=
  (by decide +kernel : ∀ t : Fin grid0.N, _)
/-- Where window 4 stands. -/
theorem index4 : ∀ t : Fin cfg0.N, win0_4.index t (0 : Fin 2) = 0 ∧ win0_4.index t (1 : Fin 2) = 0 :=
  (by decide +kernel : ∀ t : Fin grid0.N, _)
/-- Where window 5 stands. -/
theorem index5 : ∀ t : Fin cfg0.N, win0_5.index t (0 : Fin 2) = 0 ∧ win0_5.index t (1 : Fin 2) = 0 :=
  (by decide +kernel : ∀ t : Fin grid0.N, _)
/-- Where window 6 stands. -/
theorem index6 : ∀ t : Fin cfg0.N, win0_6.index t (0 : Fin 2) = 0 ∧ win0_6.index t (1 : Fin 2) = 0 :=
  (by decide +kernel : ∀ t : Fin grid0.N, _)
/-- Where window 7 stands. -/
theorem index7 : ∀ t : Fin cfg0.N, win0_7.index t (0 : Fin 2) = t.val ∧ win0_7.index t (1 : Fin 2) = 0 :=
  (by decide +kernel : ∀ t : Fin grid0.N, _)
/-- Every point writes its block back. -/
theorem flush7 : ∀ t : Fin cfg0.N, (cfg0.win 7).flush t = true :=
  (by decide +kernel : ∀ t : Fin grid0.N, _)

/-- The recurrence output's block at a point. -/
theorem blk0 (t : Fin cfg0.N) (r : Fin 256) (l : Fin 1024) :
    (iblk m c 0 t : Vec Ideal S256x1024 .f32) (ix2 r l) = argO m c (ix2 (row t.val r) l) := by
  have hi := index0 t
  have hN : t.val < 64 := lt_of_lt_of_eq t.isLt (show cfg0.N = 64 from N_0)
  rw [← V0_at]
  unfold iblk
  rw [View.read_apply]
  show V m c main_arg0 _ = V m c main_arg0 _
  congr 1
  funext a
  apply Fin.ext
  match a with
  | ⟨0, _⟩ => show win0_0.index t 0 * 256 + 1 * r.val = (256 * t.val + r.val) % 16384; rw [hi.1]; omega
  | ⟨1, _⟩ => show win0_0.index t 1 * 1024 + 1 * l.val = l.val; rw [hi.2]; omega

/-- The bonus's block at a point. -/
theorem blk1 (t : Fin cfg0.N) (r : Fin 256) (l : Fin 1024) :
    (iblk m c 1 t : Vec Ideal S256x1024 .f32) (ix2 r l) = argB m c (ix2 (row t.val r) l) := by
  have hi := index1 t
  have hN : t.val < 64 := lt_of_lt_of_eq t.isLt (show cfg0.N = 64 from N_0)
  rw [← V1_at]
  unfold iblk
  rw [View.read_apply]
  show V m c main_arg1 _ = V m c main_arg1 _
  congr 1
  funext a
  apply Fin.ext
  match a with
  | ⟨0, _⟩ => show win0_1.index t 0 * 256 + 1 * r.val = (256 * t.val + r.val) % 16384; rw [hi.1]; omega
  | ⟨1, _⟩ => show win0_1.index t 1 * 1024 + 1 * l.val = l.val; rw [hi.2]; omega

/-- The gate's block at a point. -/
theorem blk2 (t : Fin cfg0.N) (r : Fin 256) (l : Fin 1024) :
    (iblk m c 2 t : Vec Ideal S256x1024 .f32) (ix2 r l) = argG m c (ix2 (row t.val r) l) := by
  have hi := index2 t
  have hN : t.val < 64 := lt_of_lt_of_eq t.isLt (show cfg0.N = 64 from N_0)
  rw [← V2_at]
  unfold iblk
  rw [View.read_apply]
  show V m c main_arg2 _ = V m c main_arg2 _
  congr 1
  funext a
  apply Fin.ext
  match a with
  | ⟨0, _⟩ => show win0_2.index t 0 * 256 + 1 * r.val = (256 * t.val + r.val) % 16384; rw [hi.1]; omega
  | ⟨1, _⟩ => show win0_2.index t 1 * 1024 + 1 * l.val = l.val; rw [hi.2]; omega

/-- The weight's block at a point. -/
theorem blk3 (t : Fin cfg0.N) (l : Fin 1024) :
    (iblk m c 3 t : Vec Ideal S1x1024 .f32) (ix2 0 l) = argW m c (ix1 l) := by
  have hi := index3 t
  rw [← V3_at]
  unfold iblk
  rw [View.read_apply]
  show V m c main_v10 _ = V m c main_v10 _
  congr 1
  funext a
  apply Fin.ext
  match a with
  | ⟨0, _⟩ => show win0_3.index t 0 * 1 + 1 * 0 = 0; rw [hi.1]
  | ⟨1, _⟩ => show win0_3.index t 1 * 1024 + 1 * l.val = l.val; rw [hi.2]; omega

/-- The bias's block at a point. -/
theorem blk4 (t : Fin cfg0.N) (l : Fin 1024) :
    (iblk m c 4 t : Vec Ideal S1x1024 .f32) (ix2 0 l) = argV m c (ix1 l) := by
  have hi := index4 t
  rw [← V4_at]
  unfold iblk
  rw [View.read_apply]
  show V m c main_v11 _ = V m c main_v11 _
  congr 1
  funext a
  apply Fin.ext
  match a with
  | ⟨0, _⟩ => show win0_4.index t 0 * 1 + 1 * 0 = 0; rw [hi.1]
  | ⟨1, _⟩ => show win0_4.index t 1 * 1024 + 1 * l.val = l.val; rw [hi.2]; omega

/-- The indicator's block at a point. -/
theorem blk5 (t : Fin cfg0.N) (x : Fin 1024) (y : Fin 128) :
    (iblk m c 5 t : Vec Ideal S1024x128 .bf16) (ix2 x y) = ind x y := by
  have hi := index5 t
  rw [← V5_at m c]
  unfold iblk
  rw [View.read_apply]
  show V m c main_v8 _ = V m c main_v8 _
  congr 1
  funext a
  apply Fin.ext
  match a with
  | ⟨0, _⟩ => show win0_5.index t 0 * 1024 + 1 * x.val = x.val; rw [hi.1]; omega
  | ⟨1, _⟩ => show win0_5.index t 1 * 128 + 1 * y.val = y.val; rw [hi.2]; omega

/-- The indicator's transpose's block at a point. -/
theorem blk6 (t : Fin cfg0.N) (x : Fin 128) (y : Fin 1024) :
    (iblk m c 6 t : Vec Ideal S128x1024 .bf16) (ix2 x y) = ind y x := by
  have hi := index6 t
  rw [← V6_at m c]
  unfold iblk
  rw [View.read_apply]
  show V m c main_v9 _ = V m c main_v9 _
  congr 1
  funext a
  apply Fin.ext
  match a with
  | ⟨0, _⟩ => show win0_6.index t 0 * 128 + 1 * x.val = x.val; rw [hi.1]; omega
  | ⟨1, _⟩ => show win0_6.index t 1 * 1024 + 1 * y.val = y.val; rw [hi.2]; omega

/-- The recurrence's output is real. -/
def RealO : Prop := ∀ i l, IsReal (argO m c (ix2 i l))

/-- The reference's result of the launched arguments. -/
abbrev refM : Vec Ideal S16384x1024 .bf16 :=
  Cert.RwkvPostRefIdeal.Read.val_main_v28 (F := Ideal) (argO m c) (argB m c) (argG m c) (argW m c) (argV m c)

/-- What a point writes to its output block, at an index. -/
theorem out_at (hf : RealO m c) (t : Fin cfg0.N) (r : Fin 256) (l : Fin 1024) :
    out0_7 (iblk m c 0 t) (iblk m c 1 t) (iblk m c 2 t) (iblk m c 3 t) (iblk m c 4 t) (iblk m c 5 t) (iblk m c 6 t) (ix2 r l)
      = refM m c (ix2 (row t.val r) l) := by
  unfold out0_7
  rw [View.canon_unit_zero MlpProof.zeros2]
  simp only [r0_0, r0_1, r0_2, r0_3, View.ld_unit_zero (S := S256x1024) MlpProof.zeros2, View.ld_unit_zero (S := S1024x128) MlpProof.zeros2,
    View.ld_unit_zero (S := S128x1024) MlpProof.zeros2, View.ld_unit_zero (S := S1x1024) MlpProof.zeros2]
  obtain ⟨h, j, rfl⟩ := lane_surj l
  rw [pay1_at, pay5_at]
  refine Eq.trans ?_ (ref_at _ _ _ _ _ _ h j).symm
  simp only [pay4_at, blk0, blk1, blk2, blk3, blk4, blk5, blk6]
  have e := norm_eq (fun k => argO m c (ix2 (row t.val r) k)) (hf _) h j
  exact congrArg (fun z : EReal => (z * argW m c (ix1 (lane h j)) + argV m c (ix1 (lane h j)) + argB m c (ix2 (row t.val r) (lane h j)))
    * argG m c (ix2 (row t.val r) (lane h j))) e

/-- The output window's block of an array, at an index. -/
theorem read_out (A : Vec Ideal S16384x1024 .bf16) (t : Fin cfg0.N) (r : Fin 256) (l : Fin 1024) :
    ((cfg0.win 7).blk t).view.read (Elt Ideal) A (ix2 r l) = A (ix2 (row t.val r) l) := by
  have hi := index7 t
  have hN : t.val < 64 := lt_of_lt_of_eq t.isLt (show cfg0.N = 64 from N_0)
  rw [View.read_apply]
  show A _ = A _
  congr 1
  funext a
  apply Fin.ext
  match a with
  | ⟨0, _⟩ => show win0_7.index t 0 * 256 + 1 * r.val = (256 * t.val + r.val) % 16384; rw [hi.1]; omega
  | ⟨1, _⟩ => show win0_7.index t 1 * 1024 + 1 * l.val = l.val; rw [hi.2]; omega

/-- What a point writes back, at an index. -/
theorem flushed_at (hf : RealO m c) (t : Fin cfg0.N) (r : Fin 256) (l : Fin 1024) :
    ((dats m 0 c).flushed 7 t : Vec Ideal S256x1024 .bf16) (ix2 r l) = refM m c (ix2 (row t.val r) l) := by
  rw [Cert.RwkvPostIdeal.Value.flushed7]
  exact out_at m c hf t r l

/-- The result array at a point's rows. -/
theorem arr_at (hf : RealO m c) (t : Fin cfg0.N) (r : Fin 256) (l : Fin 1024) :
    ((dats m 0 c).arrAt 7 cfg0.N : Vec Ideal S16384x1024 .bf16) (ix2 (row t.val r) l) = refM m c (ix2 (row t.val r) l) :=
  (read_out _ t r l).symm.trans ((congrFun (Cert.RwkvPostIdeal.Value.blocks7 m c t (flush7 t)) (ix2 r l)).trans (flushed_at m c hf t r l))

/-- The result array is the reference's last stage. -/
theorem result_eq (hf : RealO m c) : (dats m 0 c).arrAt 7 cfg0.N = refM m c := by
  funext i
  obtain ⟨r, l, rfl⟩ : ∃ (r : Fin 16384) (l : Fin 1024), i = ix2 r l := ⟨i 0, i 1, by idx_ext⟩
  have hN : cfg0.N = 64 := N_0
  have hlt : r.val / 256 < cfg0.N := by have := r.isLt; omega
  have hrow : row (r.val / 256) ⟨r.val % 256, Nat.mod_lt _ (by decide)⟩ = r :=
    Fin.ext (by show (256 * (r.val / 256) + r.val % 256) % 16384 = r.val; have := r.isLt; omega)
  have h := arr_at m c hf ⟨r.val / 256, hlt⟩ ⟨r.val % 256, Nat.mod_lt _ (by decide)⟩ l
  rw [hrow] at h
  exact h

/-- The precondition gives a real recurrence output. -/
theorem real_in [Cert.Pre_finite_o.Facts]
    (h : Cert.Pre_finite_o.fn (F := Ideal) (argO m c) (argB m c) (argG m c) (argW m c) (argV m c) = fun _ => 1#1) : RealO m c := by
  intro i l
  have e : Cert.Pre_finite_o.fn (F := Ideal) (argO m c) (argB m c) (argG m c) (argW m c) (argV m c) (ix2 i l) =
      BitVec.ofBool (decide (FloatOps.absf (F := Ideal) (φ := .f32) (argO m c (ix2 i l)) < Ideal.ofBits .f32 0x7F800000#32)) := by
    pointwise [Cert.Pre_finite_o.fn]
  exact GdnProof.real_of_size _ (GdnProof.holds_of_bit _ (e.symm.trans (congrFun h _)))

end RwkvProof

end
-- ==== Proof.lean ====
/- Every claim of the test. Each pair's value claim puts the call's value run beside its reference's run and closes with that
   pair's equation of result arrays (the modules named after the calls); the frame claims are the generated ones. -/
module

public import proofs.«01_k».proof.Defs
public import proofs.«01_k».proof.Proof.Gen.Mlp.Frame
public import proofs.«01_k».proof.Proof.Gen.MlpIdeal.Value
public import proofs.«01_k».proof.Proof.Gen.MlpRefIdeal.Run
public import proofs.«01_k».proof.Proof.Gen.MlpRefIdeal.Read
public import proofs.«01_k».proof.Proof.MlpValue
public import proofs.«01_k».proof.Proof.MemKvValue
public import proofs.«01_k».proof.Proof.GdnFinite
public import proofs.«01_k».proof.Proof.RwkvValue
public import proofs.«01_k».proof.Proof.Gen.Xattn.Frame
public import proofs.«01_k».proof.Proof.Gen.XattnIdeal.Value
public import proofs.«01_k».proof.Proof.Gen.XattnRefIdeal.Run
public import proofs.«01_k».proof.Proof.Gen.XattnRefIdeal.Read
public import proofs.«01_k».proof.Proof.Gen.InProj.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.OutProj.Frame
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.MemKv.Frame
public import proofs.«01_k».proof.Proof.Gen.MemKvIdeal.Value
public import proofs.«01_k».proof.Proof.Gen.MemKvRefIdeal.Run
public import proofs.«01_k».proof.Proof.Gen.MemKvRefIdeal.Read
public import proofs.«01_k».proof.Proof.Gen.Gdn.Frame
public import proofs.«01_k».proof.Proof.Gen.GdnIdeal.Value
public import proofs.«01_k».proof.Proof.Gen.GdnRefIdeal.Run
public import proofs.«01_k».proof.Proof.Gen.GdnRefIdeal.StepRun
public import proofs.«01_k».proof.Proof.Gen.RwkvPost.Frame
public import proofs.«01_k».proof.Proof.Gen.RwkvPostIdeal.Value
public import proofs.«01_k».proof.Proof.Gen.RwkvPostRefIdeal.Run
public import proofs.«01_k».proof.Proof.Gen.RwkvPostRefIdeal.Read
public import proofs.«01_k».proof.Proof.Gen.Pre_finite
public import proofs.«01_k».proof.Proof.Gen.Pre_finite_o
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_XattnRefIdeal : quiescent_XattnRefIdeal := fun m ρ _ =>
  (θ_run Cert.XattnRefIdeal.defs _ _).mono (fun r h => ⟨fun c => (h c).2, sem_eq_zero_of_no_sems (by decide) r.2⟩)
    (Cert.XattnRefIdeal.Value.run (F := Ideal) m ρ)

theorem quiescent_MlpRefIdeal : quiescent_MlpRefIdeal := fun m ρ _ =>
  (θ_run Cert.MlpRefIdeal.defs _ _).mono (fun r h => ⟨fun c => (h c).2, sem_eq_zero_of_no_sems (by decide) r.2⟩)
    (Cert.MlpRefIdeal.Value.run (F := Ideal) m ρ)

theorem algebraic_XattnIdeal_XattnRefIdeal : algebraic_XattnIdeal_XattnRefIdeal := by
  intro m ρ m' ρ' _ hagree
  refine ⟨_, Cert.XattnIdeal.Value.run (F := Ideal) m ρ, ?_⟩
  refine (θ_run Cert.XattnRefIdeal.defs _ _).mono (fun _ h c => ⟨?_, (h c).2⟩) (Cert.XattnRefIdeal.Value.run (F := Ideal) m' ρ')
  rw [(h c).1]
  obtain ⟨e0, e1, e2, e3, e4⟩ := hagree c
  rw [Cert.XattnRefIdeal.Read.val_main_v38_eq, e0, e1, e2, e3, e4]
  exact (XattnProof.result_eq m c).symm

theorem algebraic_MlpIdeal_MlpRefIdeal : algebraic_MlpIdeal_MlpRefIdeal := by
  intro m ρ m' ρ' _ hagree
  refine ⟨_, Cert.MlpIdeal.Value.run (F := Ideal) m ρ, ?_⟩
  refine (θ_run Cert.MlpRefIdeal.defs _ _).mono (fun _ h c => ⟨?_, (h c).2⟩) (Cert.MlpRefIdeal.Value.run (F := Ideal) m' ρ')
  rw [(h c).1]
  obtain ⟨e0, e1, e2, e3, e4⟩ := hagree c
  rw [Cert.MlpRefIdeal.Read.val_main_v30_eq, e0, e1, e2, e3, e4]
  exact (MlpProof.result_eq m c).symm

theorem quiescent_InProjRefIdeal : quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

theorem quiescent_OutProjRefIdeal : quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

theorem quiescent_MemKvRefIdeal : quiescent_MemKvRefIdeal := fun m ρ _ =>
  (θ_run Cert.MemKvRefIdeal.defs _ _).mono (fun r h => ⟨fun c => (h c).2, sem_eq_zero_of_no_sems (by decide) r.2⟩)
    (Cert.MemKvRefIdeal.Value.run (F := Ideal) m ρ)

theorem quiescent_GdnRefIdeal : quiescent_GdnRefIdeal := fun m ρ _ =>
  (θ_run Cert.GdnRefIdeal.defs _ _).mono (fun r h => ⟨fun c => (h c).2, sem_eq_zero_of_no_sems (by decide) r.2⟩)
    (Cert.GdnRefIdeal.Value.run (F := Ideal) m ρ)

theorem algebraic_InProjIdeal_InProjRefIdeal : algebraic_InProjIdeal_InProjRefIdeal := by
  intro m ρ m' ρ' _ hagree
  refine ⟨_, Cert.InProjIdeal.Value.run (F := Ideal) m ρ, ?_⟩
  refine (θ_run Cert.InProjRefIdeal.defs _ _).mono (fun _ h c => ⟨?_, (h c).2⟩) (Cert.InProjRefIdeal.Value.run (F := Ideal) m' ρ')
  rw [(h c).1]
  obtain ⟨e0, e1, e2⟩ := hagree c
  rw [Cert.InProjRefIdeal.Read.val_main_v13_eq, e0, e1, e2]
  exact (InProjProof.result_eq m c).symm

theorem algebraic_OutProjIdeal_OutProjRefIdeal : algebraic_OutProjIdeal_OutProjRefIdeal := by
  intro m ρ m' ρ' _ hagree
  refine ⟨_, Cert.OutProjIdeal.Value.run_blocks (F := Ideal) m ρ, ?_⟩
  refine (θ_run Cert.OutProjRefIdeal.defs _ _).mono (fun _ h c => ⟨?_, (h c).2⟩) (Cert.OutProjRefIdeal.Value.run (F := Ideal) m' ρ')
  rw [(h c).1]
  obtain ⟨e0, e1, e2, e3⟩ := hagree c
  rw [Cert.OutProjRefIdeal.Read.val_main_v3_eq, e0, e1, e2, e3]
  exact (OutProjProof.result_eq m c).symm

theorem algebraic_MemKvIdeal_MemKvRefIdeal : algebraic_MemKvIdeal_MemKvRefIdeal := by
  intro m ρ m' ρ' _ hagree
  refine ⟨_, Cert.MemKvIdeal.Value.run (F := Ideal) m ρ, ?_⟩
  refine (θ_run Cert.MemKvRefIdeal.defs _ _).mono (fun _ h c => ⟨?_, (h c).2⟩) (Cert.MemKvRefIdeal.Value.run (F := Ideal) m' ρ')
  rw [(h c).1]
  obtain ⟨e0, e1, e2, e3⟩ := hagree c
  rw [Cert.MemKvRefIdeal.Read.val_main_v16_eq, e0, e1, e2, e3]
  exact (MemKvProof.result_eq m c).symm

theorem algebraic_GdnIdeal_GdnRefIdeal : algebraic_GdnIdeal_GdnRefIdeal_pre_finite := by
  intro m ρ m' ρ' hpre hagree
  refine ⟨_, Cert.GdnIdeal.Value.run (F := Ideal) m ρ, ?_⟩
  refine (θ_run Cert.GdnRefIdeal.defs _ _).mono (fun _ h c => ⟨?_, (h c).2⟩) (Cert.GdnRefIdeal.StepRun.run_iter (F := Ideal) m' ρ'
    (fun c => Nat.rec (Cert.GdnRefIdeal.StepRun.initState m' c) (fun n s => Cert.GdnRefIdeal.Step.step n s)) (fun _ => rfl) (fun _ _ => rfl))
  obtain ⟨e0, e1, e2, e3, e4, e5, e6, e7, e8, e9⟩ := hagree c
  refine ((h c).1).trans ?_
  rw [e8, e9]
  refine GdnProof.result_eq m c (GdnProof.real_in m c (hpre c)) _ ?_ (fun _ => rfl)
  show Cert.GdnRefIdeal.Step.init _ _ _ _ _ _ _ _ = _
  rw [e0, e1, e2, e3, e4, e5, e6, e7]

theorem quiescent_RwkvPostRefIdeal : quiescent_RwkvPostRefIdeal := fun m ρ _ =>
  (θ_run Cert.RwkvPostRefIdeal.defs _ _).mono (fun r h => ⟨fun c => (h c).2, sem_eq_zero_of_no_sems (by decide) r.2⟩)
    (Cert.RwkvPostRefIdeal.Value.run (F := Ideal) m ρ)

theorem algebraic_RwkvPostIdeal_RwkvPostRefIdeal : algebraic_RwkvPostIdeal_RwkvPostRefIdeal_pre_finite_o := by
  intro m ρ m' ρ' hpre hagree
  refine ⟨_, Cert.RwkvPostIdeal.Value.run_blocks (F := Ideal) m ρ, ?_⟩
  refine (θ_run Cert.RwkvPostRefIdeal.defs _ _).mono (fun _ h c => ⟨?_, (h c).2⟩) (Cert.RwkvPostRefIdeal.Value.run (F := Ideal) m' ρ')
  rw [(h c).1]
  obtain ⟨e0, e1, e2, e3, e4⟩ := hagree c
  rw [Cert.RwkvPostRefIdeal.Read.val_main_v28_eq, e0, e1, e2, e3, e4]
  exact (RwkvProof.result_eq m c (RwkvProof.real_in m c (hpre c))).symm

theorem claim : Cert.Claim := ⟨Cert.Xattn.Gen.facts, Cert.XattnIdeal.Gen.facts, Cert.XattnRefIdeal.Gen.facts, Cert.Mlp.Gen.facts, Cert.MlpIdeal.Gen.facts, Cert.MlpRefIdeal.Gen.facts, Cert.InProj.Gen.facts, Cert.InProjIdeal.Gen.facts, Cert.InProjRefIdeal.Gen.facts, Cert.OutProj.Gen.facts, Cert.OutProjIdeal.Gen.facts, Cert.OutProjRefIdeal.Gen.facts, Cert.MemKv.Gen.facts, Cert.MemKvIdeal.Gen.facts, Cert.MemKvRefIdeal.Gen.facts, Cert.Gdn.Gen.facts, Cert.GdnIdeal.Gen.facts, Cert.GdnRefIdeal.Gen.facts, Cert.RwkvPost.Gen.facts, Cert.RwkvPostIdeal.Gen.facts, Cert.RwkvPostRefIdeal.Gen.facts, Cert.Pre_finite.Gen.facts, Cert.Pre_finite_o.Gen.facts,
  fun m ρ _ => Cert.Xattn.Gen.frame m ρ, fun m ρ _ => Cert.XattnIdeal.Gen.frame m ρ, quiescent_XattnRefIdeal, fun m ρ _ => Cert.Mlp.Gen.frame m ρ, fun m ρ _ => Cert.MlpIdeal.Gen.frame m ρ, quiescent_MlpRefIdeal, fun m ρ _ => Cert.InProj.Gen.frame m ρ, fun m ρ _ => Cert.InProjIdeal.Gen.frame m ρ, quiescent_InProjRefIdeal, fun m ρ _ => Cert.OutProj.Gen.frame m ρ, fun m ρ _ => Cert.OutProjIdeal.Gen.frame m ρ, quiescent_OutProjRefIdeal, fun m ρ _ => Cert.MemKv.Gen.frame m ρ, fun m ρ _ => Cert.MemKvIdeal.Gen.frame m ρ, quiescent_MemKvRefIdeal,
  fun m ρ _ => Cert.Gdn.Gen.frame m ρ, fun m ρ _ => Cert.GdnIdeal.Gen.frame m ρ, fun m ρ _ => Cert.GdnIdeal.Gen.frame m ρ, quiescent_GdnRefIdeal,
  fun m ρ _ => quiescent_GdnRefIdeal m ρ trivial,
  fun m ρ _ => Cert.RwkvPost.Gen.frame m ρ, fun m ρ _ => Cert.RwkvPostIdeal.Gen.frame m ρ, fun m ρ _ => Cert.RwkvPostIdeal.Gen.frame m ρ, quiescent_RwkvPostRefIdeal,
  fun m ρ _ => quiescent_RwkvPostRefIdeal m ρ trivial,
  (trivial : preserves_Xattn_XattnIdeal), algebraic_XattnIdeal_XattnRefIdeal, (trivial : preserves_Mlp_MlpIdeal), algebraic_MlpIdeal_MlpRefIdeal, (trivial : preserves_InProj_InProjIdeal), algebraic_InProjIdeal_InProjRefIdeal, (trivial : preserves_OutProj_OutProjIdeal), algebraic_OutProjIdeal_OutProjRefIdeal, (trivial : preserves_MemKv_MemKvIdeal), algebraic_MemKvIdeal_MemKvRefIdeal, (trivial : preserves_Gdn_GdnIdeal), algebraic_GdnIdeal_GdnRefIdeal,
  (trivial : preserves_RwkvPost_RwkvPostIdeal), algebraic_RwkvPostIdeal_RwkvPostRefIdeal⟩

end Cert.Proof

end
